-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Early (m : (ℓ : Loc Cert.Early.nD Cert.Early.τ Cert.Early.sig) → Buf (Elt Bits) ℓ) : Prop :=
  True

def Pre_EarlyIdeal (m : (ℓ : Loc Cert.EarlyIdeal.nD Cert.EarlyIdeal.τ Cert.EarlyIdeal.sig) → Buf (Elt Ideal) ℓ) : Prop :=
  True

def Pre_EarlyRefIdeal (m : (ℓ : Loc Cert.EarlyRefIdeal.nD Cert.EarlyRefIdeal.τ Cert.EarlyRefIdeal.sig) → Buf (Elt Ideal) ℓ) : Prop :=
  True

def Pre_Late (m : (ℓ : Loc Cert.Late.nD Cert.Late.τ Cert.Late.sig) → Buf (Elt Bits) ℓ) : Prop :=
  True

def Pre_LateIdeal (m : (ℓ : Loc Cert.LateIdeal.nD Cert.LateIdeal.τ Cert.LateIdeal.sig) → Buf (Elt Ideal) ℓ) : Prop :=
  True

def Pre_LateRefIdeal (m : (ℓ : Loc Cert.LateRefIdeal.nD Cert.LateRefIdeal.τ Cert.LateRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_PreB (m : (ℓ : Loc Cert.PreB.nD Cert.PreB.τ Cert.PreB.sig) → Buf (Elt Bits) ℓ) : Prop :=
  True

def Pre_PreBIdeal (m : (ℓ : Loc Cert.PreBIdeal.nD Cert.PreBIdeal.τ Cert.PreBIdeal.sig) → Buf (Elt Ideal) ℓ) : Prop :=
  True

def Pre_PreBIdeal_pre_finite [hPre_pre_finite : Cert.Pre_pre_finite.Facts] (m : (ℓ : Loc Cert.PreBIdeal.nD Cert.PreBIdeal.τ Cert.PreBIdeal.sig) → Buf (Elt Ideal) ℓ) : Prop :=
  ∀ c : Dev Cert.PreBIdeal.nD,
    (Cert.Pre_pre_finite.fn (F := Ideal) (m ((c.tc : Thread Cert.PreBIdeal.nD Cert.PreBIdeal.τ).loc Cert.PreBIdeal.main_arg0)) (m ((c.tc : Thread Cert.PreBIdeal.nD Cert.PreBIdeal.τ).loc Cert.PreBIdeal.main_arg1)) (m ((c.tc : Thread Cert.PreBIdeal.nD Cert.PreBIdeal.τ).loc Cert.PreBIdeal.main_arg2)) (m ((c.tc : Thread Cert.PreBIdeal.nD Cert.PreBIdeal.τ).loc Cert.PreBIdeal.main_arg3)) (m ((c.tc : Thread Cert.PreBIdeal.nD Cert.PreBIdeal.τ).loc Cert.PreBIdeal.main_arg4)) (m ((c.tc : Thread Cert.PreBIdeal.nD Cert.PreBIdeal.τ).loc Cert.PreBIdeal.main_arg5)) (m ((c.tc : Thread Cert.PreBIdeal.nD Cert.PreBIdeal.τ).loc Cert.PreBIdeal.main_arg6)) (m ((c.tc : Thread Cert.PreBIdeal.nD Cert.PreBIdeal.τ).loc Cert.PreBIdeal.main_arg7)) (m ((c.tc : Thread Cert.PreBIdeal.nD Cert.PreBIdeal.τ).loc Cert.PreBIdeal.main_arg8)) (m ((c.tc : Thread Cert.PreBIdeal.nD Cert.PreBIdeal.τ).loc Cert.PreBIdeal.main_arg9)) (m ((c.tc : Thread Cert.PreBIdeal.nD Cert.PreBIdeal.τ).loc Cert.PreBIdeal.main_arg10))).1 = (fun _ => 1#1)
    ∧ (Cert.Pre_pre_finite.fn (F := Ideal) (m ((c.tc : Thread Cert.PreBIdeal.nD Cert.PreBIdeal.τ).loc Cert.PreBIdeal.main_arg0)) (m ((c.tc : Thread Cert.PreBIdeal.nD Cert.PreBIdeal.τ).loc Cert.PreBIdeal.main_arg1)) (m ((c.tc : Thread Cert.PreBIdeal.nD Cert.PreBIdeal.τ).loc Cert.PreBIdeal.main_arg2)) (m ((c.tc : Thread Cert.PreBIdeal.nD Cert.PreBIdeal.τ).loc Cert.PreBIdeal.main_arg3)) (m ((c.tc : Thread Cert.PreBIdeal.nD Cert.PreBIdeal.τ).loc Cert.PreBIdeal.main_arg4)) (m ((c.tc : Thread Cert.PreBIdeal.nD Cert.PreBIdeal.τ).loc Cert.PreBIdeal.main_arg5)) (m ((c.tc : Thread Cert.PreBIdeal.nD Cert.PreBIdeal.τ).loc Cert.PreBIdeal.main_arg6)) (m ((c.tc : Thread Cert.PreBIdeal.nD Cert.PreBIdeal.τ).loc Cert.PreBIdeal.main_arg7)) (m ((c.tc : Thread Cert.PreBIdeal.nD Cert.PreBIdeal.τ).loc Cert.PreBIdeal.main_arg8)) (m ((c.tc : Thread Cert.PreBIdeal.nD Cert.PreBIdeal.τ).loc Cert.PreBIdeal.main_arg9)) (m ((c.tc : Thread Cert.PreBIdeal.nD Cert.PreBIdeal.τ).loc Cert.PreBIdeal.main_arg10))).2.1 = (fun _ => 1#1)
    ∧ (Cert.Pre_pre_finite.fn (F := Ideal) (m ((c.tc : Thread Cert.PreBIdeal.nD Cert.PreBIdeal.τ).loc Cert.PreBIdeal.main_arg0)) (m ((c.tc : Thread Cert.PreBIdeal.nD Cert.PreBIdeal.τ).loc Cert.PreBIdeal.main_arg1)) (m ((c.tc : Thread Cert.PreBIdeal.nD Cert.PreBIdeal.τ).loc Cert.PreBIdeal.main_arg2)) (m ((c.tc : Thread Cert.PreBIdeal.nD Cert.PreBIdeal.τ).loc Cert.PreBIdeal.main_arg3)) (m ((c.tc : Thread Cert.PreBIdeal.nD Cert.PreBIdeal.τ).loc Cert.PreBIdeal.main_arg4)) (m ((c.tc : Thread Cert.PreBIdeal.nD Cert.PreBIdeal.τ).loc Cert.PreBIdeal.main_arg5)) (m ((c.tc : Thread Cert.PreBIdeal.nD Cert.PreBIdeal.τ).loc Cert.PreBIdeal.main_arg6)) (m ((c.tc : Thread Cert.PreBIdeal.nD Cert.PreBIdeal.τ).loc Cert.PreBIdeal.main_arg7)) (m ((c.tc : Thread Cert.PreBIdeal.nD Cert.PreBIdeal.τ).loc Cert.PreBIdeal.main_arg8)) (m ((c.tc : Thread Cert.PreBIdeal.nD Cert.PreBIdeal.τ).loc Cert.PreBIdeal.main_arg9)) (m ((c.tc : Thread Cert.PreBIdeal.nD Cert.PreBIdeal.τ).loc Cert.PreBIdeal.main_arg10))).2.2.1 = (fun _ => 1#1)
    ∧ (Cert.Pre_pre_finite.fn (F := Ideal) (m ((c.tc : Thread Cert.PreBIdeal.nD Cert.PreBIdeal.τ).loc Cert.PreBIdeal.main_arg0)) (m ((c.tc : Thread Cert.PreBIdeal.nD Cert.PreBIdeal.τ).loc Cert.PreBIdeal.main_arg1)) (m ((c.tc : Thread Cert.PreBIdeal.nD Cert.PreBIdeal.τ).loc Cert.PreBIdeal.main_arg2)) (m ((c.tc : Thread Cert.PreBIdeal.nD Cert.PreBIdeal.τ).loc Cert.PreBIdeal.main_arg3)) (m ((c.tc : Thread Cert.PreBIdeal.nD Cert.PreBIdeal.τ).loc Cert.PreBIdeal.main_arg4)) (m ((c.tc : Thread Cert.PreBIdeal.nD Cert.PreBIdeal.τ).loc Cert.PreBIdeal.main_arg5)) (m ((c.tc : Thread Cert.PreBIdeal.nD Cert.PreBIdeal.τ).loc Cert.PreBIdeal.main_arg6)) (m ((c.tc : Thread Cert.PreBIdeal.nD Cert.PreBIdeal.τ).loc Cert.PreBIdeal.main_arg7)) (m ((c.tc : Thread Cert.PreBIdeal.nD Cert.PreBIdeal.τ).loc Cert.PreBIdeal.main_arg8)) (m ((c.tc : Thread Cert.PreBIdeal.nD Cert.PreBIdeal.τ).loc Cert.PreBIdeal.main_arg9)) (m ((c.tc : Thread Cert.PreBIdeal.nD Cert.PreBIdeal.τ).loc Cert.PreBIdeal.main_arg10))).2.2.2.1 = (fun _ => 1#1)
    ∧ (Cert.Pre_pre_finite.fn (F := Ideal) (m ((c.tc : Thread Cert.PreBIdeal.nD Cert.PreBIdeal.τ).loc Cert.PreBIdeal.main_arg0)) (m ((c.tc : Thread Cert.PreBIdeal.nD Cert.PreBIdeal.τ).loc Cert.PreBIdeal.main_arg1)) (m ((c.tc : Thread Cert.PreBIdeal.nD Cert.PreBIdeal.τ).loc Cert.PreBIdeal.main_arg2)) (m ((c.tc : Thread Cert.PreBIdeal.nD Cert.PreBIdeal.τ).loc Cert.PreBIdeal.main_arg3)) (m ((c.tc : Thread Cert.PreBIdeal.nD Cert.PreBIdeal.τ).loc Cert.PreBIdeal.main_arg4)) (m ((c.tc : Thread Cert.PreBIdeal.nD Cert.PreBIdeal.τ).loc Cert.PreBIdeal.main_arg5)) (m ((c.tc : Thread Cert.PreBIdeal.nD Cert.PreBIdeal.τ).loc Cert.PreBIdeal.main_arg6)) (m ((c.tc : Thread Cert.PreBIdeal.nD Cert.PreBIdeal.τ).loc Cert.PreBIdeal.main_arg7)) (m ((c.tc : Thread Cert.PreBIdeal.nD Cert.PreBIdeal.τ).loc Cert.PreBIdeal.main_arg8)) (m ((c.tc : Thread Cert.PreBIdeal.nD Cert.PreBIdeal.τ).loc Cert.PreBIdeal.main_arg9)) (m ((c.tc : Thread Cert.PreBIdeal.nD Cert.PreBIdeal.τ).loc Cert.PreBIdeal.main_arg10))).2.2.2.2 = (fun _ => 1#1)

def Pre_PreBRefIdeal (m : (ℓ : Loc Cert.PreBRefIdeal.nD Cert.PreBRefIdeal.τ Cert.PreBRefIdeal.sig) → Buf (Elt Ideal) ℓ) : Prop :=
  True

def Pre_PreBRefIdeal_pre_finite [hPre_pre_finite : Cert.Pre_pre_finite.Facts] (m : (ℓ : Loc Cert.PreBRefIdeal.nD Cert.PreBRefIdeal.τ Cert.PreBRefIdeal.sig) → Buf (Elt Ideal) ℓ) : Prop :=
  ∀ c : Dev Cert.PreBRefIdeal.nD,
    (Cert.Pre_pre_finite.fn (F := Ideal) (m ((c.tc : Thread Cert.PreBRefIdeal.nD Cert.PreBRefIdeal.τ).loc Cert.PreBRefIdeal.main_arg0)) (m ((c.tc : Thread Cert.PreBRefIdeal.nD Cert.PreBRefIdeal.τ).loc Cert.PreBRefIdeal.main_arg1)) (m ((c.tc : Thread Cert.PreBRefIdeal.nD Cert.PreBRefIdeal.τ).loc Cert.PreBRefIdeal.main_arg2)) (m ((c.tc : Thread Cert.PreBRefIdeal.nD Cert.PreBRefIdeal.τ).loc Cert.PreBRefIdeal.main_arg3)) (m ((c.tc : Thread Cert.PreBRefIdeal.nD Cert.PreBRefIdeal.τ).loc Cert.PreBRefIdeal.main_arg4)) (m ((c.tc : Thread Cert.PreBRefIdeal.nD Cert.PreBRefIdeal.τ).loc Cert.PreBRefIdeal.main_arg5)) (m ((c.tc : Thread Cert.PreBRefIdeal.nD Cert.PreBRefIdeal.τ).loc Cert.PreBRefIdeal.main_arg6)) (m ((c.tc : Thread Cert.PreBRefIdeal.nD Cert.PreBRefIdeal.τ).loc Cert.PreBRefIdeal.main_arg7)) (m ((c.tc : Thread Cert.PreBRefIdeal.nD Cert.PreBRefIdeal.τ).loc Cert.PreBRefIdeal.main_arg8)) (m ((c.tc : Thread Cert.PreBRefIdeal.nD Cert.PreBRefIdeal.τ).loc Cert.PreBRefIdeal.main_arg9)) (m ((c.tc : Thread Cert.PreBRefIdeal.nD Cert.PreBRefIdeal.τ).loc Cert.PreBRefIdeal.main_arg10))).1 = (fun _ => 1#1)
    ∧ (Cert.Pre_pre_finite.fn (F := Ideal) (m ((c.tc : Thread Cert.PreBRefIdeal.nD Cert.PreBRefIdeal.τ).loc Cert.PreBRefIdeal.main_arg0)) (m ((c.tc : Thread Cert.PreBRefIdeal.nD Cert.PreBRefIdeal.τ).loc Cert.PreBRefIdeal.main_arg1)) (m ((c.tc : Thread Cert.PreBRefIdeal.nD Cert.PreBRefIdeal.τ).loc Cert.PreBRefIdeal.main_arg2)) (m ((c.tc : Thread Cert.PreBRefIdeal.nD Cert.PreBRefIdeal.τ).loc Cert.PreBRefIdeal.main_arg3)) (m ((c.tc : Thread Cert.PreBRefIdeal.nD Cert.PreBRefIdeal.τ).loc Cert.PreBRefIdeal.main_arg4)) (m ((c.tc : Thread Cert.PreBRefIdeal.nD Cert.PreBRefIdeal.τ).loc Cert.PreBRefIdeal.main_arg5)) (m ((c.tc : Thread Cert.PreBRefIdeal.nD Cert.PreBRefIdeal.τ).loc Cert.PreBRefIdeal.main_arg6)) (m ((c.tc : Thread Cert.PreBRefIdeal.nD Cert.PreBRefIdeal.τ).loc Cert.PreBRefIdeal.main_arg7)) (m ((c.tc : Thread Cert.PreBRefIdeal.nD Cert.PreBRefIdeal.τ).loc Cert.PreBRefIdeal.main_arg8)) (m ((c.tc : Thread Cert.PreBRefIdeal.nD Cert.PreBRefIdeal.τ).loc Cert.PreBRefIdeal.main_arg9)) (m ((c.tc : Thread Cert.PreBRefIdeal.nD Cert.PreBRefIdeal.τ).loc Cert.PreBRefIdeal.main_arg10))).2.1 = (fun _ => 1#1)
    ∧ (Cert.Pre_pre_finite.fn (F := Ideal) (m ((c.tc : Thread Cert.PreBRefIdeal.nD Cert.PreBRefIdeal.τ).loc Cert.PreBRefIdeal.main_arg0)) (m ((c.tc : Thread Cert.PreBRefIdeal.nD Cert.PreBRefIdeal.τ).loc Cert.PreBRefIdeal.main_arg1)) (m ((c.tc : Thread Cert.PreBRefIdeal.nD Cert.PreBRefIdeal.τ).loc Cert.PreBRefIdeal.main_arg2)) (m ((c.tc : Thread Cert.PreBRefIdeal.nD Cert.PreBRefIdeal.τ).loc Cert.PreBRefIdeal.main_arg3)) (m ((c.tc : Thread Cert.PreBRefIdeal.nD Cert.PreBRefIdeal.τ).loc Cert.PreBRefIdeal.main_arg4)) (m ((c.tc : Thread Cert.PreBRefIdeal.nD Cert.PreBRefIdeal.τ).loc Cert.PreBRefIdeal.main_arg5)) (m ((c.tc : Thread Cert.PreBRefIdeal.nD Cert.PreBRefIdeal.τ).loc Cert.PreBRefIdeal.main_arg6)) (m ((c.tc : Thread Cert.PreBRefIdeal.nD Cert.PreBRefIdeal.τ).loc Cert.PreBRefIdeal.main_arg7)) (m ((c.tc : Thread Cert.PreBRefIdeal.nD Cert.PreBRefIdeal.τ).loc Cert.PreBRefIdeal.main_arg8)) (m ((c.tc : Thread Cert.PreBRefIdeal.nD Cert.PreBRefIdeal.τ).loc Cert.PreBRefIdeal.main_arg9)) (m ((c.tc : Thread Cert.PreBRefIdeal.nD Cert.PreBRefIdeal.τ).loc Cert.PreBRefIdeal.main_arg10))).2.2.1 = (fun _ => 1#1)
    ∧ (Cert.Pre_pre_finite.fn (F := Ideal) (m ((c.tc : Thread Cert.PreBRefIdeal.nD Cert.PreBRefIdeal.τ).loc Cert.PreBRefIdeal.main_arg0)) (m ((c.tc : Thread Cert.PreBRefIdeal.nD Cert.PreBRefIdeal.τ).loc Cert.PreBRefIdeal.main_arg1)) (m ((c.tc : Thread Cert.PreBRefIdeal.nD Cert.PreBRefIdeal.τ).loc Cert.PreBRefIdeal.main_arg2)) (m ((c.tc : Thread Cert.PreBRefIdeal.nD Cert.PreBRefIdeal.τ).loc Cert.PreBRefIdeal.main_arg3)) (m ((c.tc : Thread Cert.PreBRefIdeal.nD Cert.PreBRefIdeal.τ).loc Cert.PreBRefIdeal.main_arg4)) (m ((c.tc : Thread Cert.PreBRefIdeal.nD Cert.PreBRefIdeal.τ).loc Cert.PreBRefIdeal.main_arg5)) (m ((c.tc : Thread Cert.PreBRefIdeal.nD Cert.PreBRefIdeal.τ).loc Cert.PreBRefIdeal.main_arg6)) (m ((c.tc : Thread Cert.PreBRefIdeal.nD Cert.PreBRefIdeal.τ).loc Cert.PreBRefIdeal.main_arg7)) (m ((c.tc : Thread Cert.PreBRefIdeal.nD Cert.PreBRefIdeal.τ).loc Cert.PreBRefIdeal.main_arg8)) (m ((c.tc : Thread Cert.PreBRefIdeal.nD Cert.PreBRefIdeal.τ).loc Cert.PreBRefIdeal.main_arg9)) (m ((c.tc : Thread Cert.PreBRefIdeal.nD Cert.PreBRefIdeal.τ).loc Cert.PreBRefIdeal.main_arg10))).2.2.2.1 = (fun _ => 1#1)
    ∧ (Cert.Pre_pre_finite.fn (F := Ideal) (m ((c.tc : Thread Cert.PreBRefIdeal.nD Cert.PreBRefIdeal.τ).loc Cert.PreBRefIdeal.main_arg0)) (m ((c.tc : Thread Cert.PreBRefIdeal.nD Cert.PreBRefIdeal.τ).loc Cert.PreBRefIdeal.main_arg1)) (m ((c.tc : Thread Cert.PreBRefIdeal.nD Cert.PreBRefIdeal.τ).loc Cert.PreBRefIdeal.main_arg2)) (m ((c.tc : Thread Cert.PreBRefIdeal.nD Cert.PreBRefIdeal.τ).loc Cert.PreBRefIdeal.main_arg3)) (m ((c.tc : Thread Cert.PreBRefIdeal.nD Cert.PreBRefIdeal.τ).loc Cert.PreBRefIdeal.main_arg4)) (m ((c.tc : Thread Cert.PreBRefIdeal.nD Cert.PreBRefIdeal.τ).loc Cert.PreBRefIdeal.main_arg5)) (m ((c.tc : Thread Cert.PreBRefIdeal.nD Cert.PreBRefIdeal.τ).loc Cert.PreBRefIdeal.main_arg6)) (m ((c.tc : Thread Cert.PreBRefIdeal.nD Cert.PreBRefIdeal.τ).loc Cert.PreBRefIdeal.main_arg7)) (m ((c.tc : Thread Cert.PreBRefIdeal.nD Cert.PreBRefIdeal.τ).loc Cert.PreBRefIdeal.main_arg8)) (m ((c.tc : Thread Cert.PreBRefIdeal.nD Cert.PreBRefIdeal.τ).loc Cert.PreBRefIdeal.main_arg9)) (m ((c.tc : Thread Cert.PreBRefIdeal.nD Cert.PreBRefIdeal.τ).loc Cert.PreBRefIdeal.main_arg10))).2.2.2.2 = (fun _ => 1#1)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Early [hEarly : Cert.Early.Facts] : Prop :=
  ∀ (m : (ℓ : Loc Cert.Early.nD Cert.Early.τ Cert.Early.sig) → Buf (Elt Bits) ℓ) (g : Dev Cert.Early.nD → PrngReg), Pre_Early m →
    θ_run (Cert.Early.defs (F := Bits)) (onTc (τ := Cert.Early.τ) (Cert.Early.main (F := Bits))) ⟨m, fun _ => 0, g⟩ (fun r => (∀ c : Dev Cert.Early.nD,
      r.2.mem ((c.tc : Thread Cert.Early.nD Cert.Early.τ).loc Cert.Early.main_arg0) = m ((c.tc : Thread Cert.Early.nD Cert.Early.τ).loc Cert.Early.main_arg0)
      ∧ r.2.mem ((c.tc : Thread Cert.Early.nD Cert.Early.τ).loc Cert.Early.main_arg1) = m ((c.tc : Thread Cert.Early.nD Cert.Early.τ).loc Cert.Early.main_arg1)
      ∧ r.2.mem ((c.tc : Thread Cert.Early.nD Cert.Early.τ).loc Cert.Early.main_arg2) = m ((c.tc : Thread Cert.Early.nD Cert.Early.τ).loc Cert.Early.main_arg2)
      ∧ r.2.mem ((c.tc : Thread Cert.Early.nD Cert.Early.τ).loc Cert.Early.main_arg3) = m ((c.tc : Thread Cert.Early.nD Cert.Early.τ).loc Cert.Early.main_arg3)
      ∧ r.2.mem ((c.tc : Thread Cert.Early.nD Cert.Early.τ).loc Cert.Early.main_arg4) = m ((c.tc : Thread Cert.Early.nD Cert.Early.τ).loc Cert.Early.main_arg4))
      ∧ r.2.sem = fun _ => 0)

def quiescent_EarlyIdeal [hEarlyIdeal : Cert.EarlyIdeal.Facts] : Prop :=
  ∀ (m : (ℓ : Loc Cert.EarlyIdeal.nD Cert.EarlyIdeal.τ Cert.EarlyIdeal.sig) → Buf (Elt Ideal) ℓ) (g : Dev Cert.EarlyIdeal.nD → PrngReg), Pre_EarlyIdeal m →
    θ_run (Cert.EarlyIdeal.defs (F := Ideal)) (onTc (τ := Cert.EarlyIdeal.τ) (Cert.EarlyIdeal.main (F := Ideal))) ⟨m, fun _ => 0, g⟩ (fun r => (∀ c : Dev Cert.EarlyIdeal.nD,
      r.2.mem ((c.tc : Thread Cert.EarlyIdeal.nD Cert.EarlyIdeal.τ).loc Cert.EarlyIdeal.main_arg0) = m ((c.tc : Thread Cert.EarlyIdeal.nD Cert.EarlyIdeal.τ).loc Cert.EarlyIdeal.main_arg0)
      ∧ r.2.mem ((c.tc : Thread Cert.EarlyIdeal.nD Cert.EarlyIdeal.τ).loc Cert.EarlyIdeal.main_arg1) = m ((c.tc : Thread Cert.EarlyIdeal.nD Cert.EarlyIdeal.τ).loc Cert.EarlyIdeal.main_arg1)
      ∧ r.2.mem ((c.tc : Thread Cert.EarlyIdeal.nD Cert.EarlyIdeal.τ).loc Cert.EarlyIdeal.main_arg2) = m ((c.tc : Thread Cert.EarlyIdeal.nD Cert.EarlyIdeal.τ).loc Cert.EarlyIdeal.main_arg2)
      ∧ r.2.mem ((c.tc : Thread Cert.EarlyIdeal.nD Cert.EarlyIdeal.τ).loc Cert.EarlyIdeal.main_arg3) = m ((c.tc : Thread Cert.EarlyIdeal.nD Cert.EarlyIdeal.τ).loc Cert.EarlyIdeal.main_arg3)
      ∧ r.2.mem ((c.tc : Thread Cert.EarlyIdeal.nD Cert.EarlyIdeal.τ).loc Cert.EarlyIdeal.main_arg4) = m ((c.tc : Thread Cert.EarlyIdeal.nD Cert.EarlyIdeal.τ).loc Cert.EarlyIdeal.main_arg4))
      ∧ r.2.sem = fun _ => 0)

def quiescent_EarlyRefIdeal [hEarlyRefIdeal : Cert.EarlyRefIdeal.Facts] : Prop :=
  ∀ (m : (ℓ : Loc Cert.EarlyRefIdeal.nD Cert.EarlyRefIdeal.τ Cert.EarlyRefIdeal.sig) → Buf (Elt Ideal) ℓ) (g : Dev Cert.EarlyRefIdeal.nD → PrngReg), Pre_EarlyRefIdeal m →
    θ_run (Cert.EarlyRefIdeal.defs (F := Ideal)) (onTc (τ := Cert.EarlyRefIdeal.τ) (Cert.EarlyRefIdeal.main (F := Ideal))) ⟨m, fun _ => 0, g⟩ (fun r => (∀ c : Dev Cert.EarlyRefIdeal.nD,
      r.2.mem ((c.tc : Thread Cert.EarlyRefIdeal.nD Cert.EarlyRefIdeal.τ).loc Cert.EarlyRefIdeal.main_arg0) = m ((c.tc : Thread Cert.EarlyRefIdeal.nD Cert.EarlyRefIdeal.τ).loc Cert.EarlyRefIdeal.main_arg0)
      ∧ r.2.mem ((c.tc : Thread Cert.EarlyRefIdeal.nD Cert.EarlyRefIdeal.τ).loc Cert.EarlyRefIdeal.main_arg1) = m ((c.tc : Thread Cert.EarlyRefIdeal.nD Cert.EarlyRefIdeal.τ).loc Cert.EarlyRefIdeal.main_arg1)
      ∧ r.2.mem ((c.tc : Thread Cert.EarlyRefIdeal.nD Cert.EarlyRefIdeal.τ).loc Cert.EarlyRefIdeal.main_arg2) = m ((c.tc : Thread Cert.EarlyRefIdeal.nD Cert.EarlyRefIdeal.τ).loc Cert.EarlyRefIdeal.main_arg2)
      ∧ r.2.mem ((c.tc : Thread Cert.EarlyRefIdeal.nD Cert.EarlyRefIdeal.τ).loc Cert.EarlyRefIdeal.main_arg3) = m ((c.tc : Thread Cert.EarlyRefIdeal.nD Cert.EarlyRefIdeal.τ).loc Cert.EarlyRefIdeal.main_arg3)
      ∧ r.2.mem ((c.tc : Thread Cert.EarlyRefIdeal.nD Cert.EarlyRefIdeal.τ).loc Cert.EarlyRefIdeal.main_arg4) = m ((c.tc : Thread Cert.EarlyRefIdeal.nD Cert.EarlyRefIdeal.τ).loc Cert.EarlyRefIdeal.main_arg4))
      ∧ r.2.sem = fun _ => 0)

def quiescent_Late [hLate : Cert.Late.Facts] : Prop :=
  ∀ (m : (ℓ : Loc Cert.Late.nD Cert.Late.τ Cert.Late.sig) → Buf (Elt Bits) ℓ) (g : Dev Cert.Late.nD → PrngReg), Pre_Late m →
    θ_run (Cert.Late.defs (F := Bits)) (onTc (τ := Cert.Late.τ) (Cert.Late.main (F := Bits))) ⟨m, fun _ => 0, g⟩ (fun r => (∀ c : Dev Cert.Late.nD,
      r.2.mem ((c.tc : Thread Cert.Late.nD Cert.Late.τ).loc Cert.Late.main_arg0) = m ((c.tc : Thread Cert.Late.nD Cert.Late.τ).loc Cert.Late.main_arg0)
      ∧ r.2.mem ((c.tc : Thread Cert.Late.nD Cert.Late.τ).loc Cert.Late.main_arg1) = m ((c.tc : Thread Cert.Late.nD Cert.Late.τ).loc Cert.Late.main_arg1)
      ∧ r.2.mem ((c.tc : Thread Cert.Late.nD Cert.Late.τ).loc Cert.Late.main_arg2) = m ((c.tc : Thread Cert.Late.nD Cert.Late.τ).loc Cert.Late.main_arg2)
      ∧ r.2.mem ((c.tc : Thread Cert.Late.nD Cert.Late.τ).loc Cert.Late.main_arg3) = m ((c.tc : Thread Cert.Late.nD Cert.Late.τ).loc Cert.Late.main_arg3))
      ∧ r.2.sem = fun _ => 0)

def quiescent_LateIdeal [hLateIdeal : Cert.LateIdeal.Facts] : Prop :=
  ∀ (m : (ℓ : Loc Cert.LateIdeal.nD Cert.LateIdeal.τ Cert.LateIdeal.sig) → Buf (Elt Ideal) ℓ) (g : Dev Cert.LateIdeal.nD → PrngReg), Pre_LateIdeal m →
    θ_run (Cert.LateIdeal.defs (F := Ideal)) (onTc (τ := Cert.LateIdeal.τ) (Cert.LateIdeal.main (F := Ideal))) ⟨m, fun _ => 0, g⟩ (fun r => (∀ c : Dev Cert.LateIdeal.nD,
      r.2.mem ((c.tc : Thread Cert.LateIdeal.nD Cert.LateIdeal.τ).loc Cert.LateIdeal.main_arg0) = m ((c.tc : Thread Cert.LateIdeal.nD Cert.LateIdeal.τ).loc Cert.LateIdeal.main_arg0)
      ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
      ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
      ∧ r.2.mem ((c.tc : Thread Cert.LateIdeal.nD Cert.LateIdeal.τ).loc Cert.LateIdeal.main_arg3) = m ((c.tc : Thread Cert.LateIdeal.nD Cert.LateIdeal.τ).loc Cert.LateIdeal.main_arg3))
      ∧ r.2.sem = fun _ => 0)

def quiescent_LateRefIdeal [hLateRefIdeal : Cert.LateRefIdeal.Facts] : Prop :=
  ∀ (m : (ℓ : Loc Cert.LateRefIdeal.nD Cert.LateRefIdeal.τ Cert.LateRefIdeal.sig) → Buf (Elt Ideal) ℓ) (g : Dev Cert.LateRefIdeal.nD → PrngReg), Pre_LateRefIdeal m →
    θ_run (Cert.LateRefIdeal.defs (F := Ideal)) (onTc (τ := Cert.LateRefIdeal.τ) (Cert.LateRefIdeal.main (F := Ideal))) ⟨m, fun _ => 0, g⟩ (fun r => (∀ c : Dev Cert.LateRefIdeal.nD,
      r.2.mem ((c.tc : Thread Cert.LateRefIdeal.nD Cert.LateRefIdeal.τ).loc Cert.LateRefIdeal.main_arg0) = m ((c.tc : Thread Cert.LateRefIdeal.nD Cert.LateRefIdeal.τ).loc Cert.LateRefIdeal.main_arg0)
      ∧ r.2.mem ((c.tc : Thread Cert.LateRefIdeal.nD Cert.LateRefIdeal.τ).loc Cert.LateRefIdeal.main_arg1) = m ((c.tc : Thread Cert.LateRefIdeal.nD Cert.LateRefIdeal.τ).loc Cert.LateRefIdeal.main_arg1)
      ∧ r.2.mem ((c.tc : Thread Cert.LateRefIdeal.nD Cert.LateRefIdeal.τ).loc Cert.LateRefIdeal.main_arg2) = m ((c.tc : Thread Cert.LateRefIdeal.nD Cert.LateRefIdeal.τ).loc Cert.LateRefIdeal.main_arg2)
      ∧ r.2.mem ((c.tc : Thread Cert.LateRefIdeal.nD Cert.LateRefIdeal.τ).loc Cert.LateRefIdeal.main_arg3) = m ((c.tc : Thread Cert.LateRefIdeal.nD Cert.LateRefIdeal.τ).loc Cert.LateRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_PreB [hPreB : Cert.PreB.Facts] : Prop :=
  ∀ (m : (ℓ : Loc Cert.PreB.nD Cert.PreB.τ Cert.PreB.sig) → Buf (Elt Bits) ℓ) (g : Dev Cert.PreB.nD → PrngReg), Pre_PreB m →
    θ_run (Cert.PreB.defs (F := Bits)) (onTc (τ := Cert.PreB.τ) (Cert.PreB.main (F := Bits))) ⟨m, fun _ => 0, g⟩ (fun r => (∀ c : Dev Cert.PreB.nD,
      r.2.mem ((c.tc : Thread Cert.PreB.nD Cert.PreB.τ).loc Cert.PreB.main_arg0) = m ((c.tc : Thread Cert.PreB.nD Cert.PreB.τ).loc Cert.PreB.main_arg0)
      ∧ r.2.mem ((c.tc : Thread Cert.PreB.nD Cert.PreB.τ).loc Cert.PreB.main_arg1) = m ((c.tc : Thread Cert.PreB.nD Cert.PreB.τ).loc Cert.PreB.main_arg1)
      ∧ r.2.mem ((c.tc : Thread Cert.PreB.nD Cert.PreB.τ).loc Cert.PreB.main_arg2) = m ((c.tc : Thread Cert.PreB.nD Cert.PreB.τ).loc Cert.PreB.main_arg2)
      ∧ r.2.mem ((c.tc : Thread Cert.PreB.nD Cert.PreB.τ).loc Cert.PreB.main_arg3) = m ((c.tc : Thread Cert.PreB.nD Cert.PreB.τ).loc Cert.PreB.main_arg3)
      ∧ r.2.mem ((c.tc : Thread Cert.PreB.nD Cert.PreB.τ).loc Cert.PreB.main_arg4) = m ((c.tc : Thread Cert.PreB.nD Cert.PreB.τ).loc Cert.PreB.main_arg4)
      ∧ r.2.mem ((c.tc : Thread Cert.PreB.nD Cert.PreB.τ).loc Cert.PreB.main_arg5) = m ((c.tc : Thread Cert.PreB.nD Cert.PreB.τ).loc Cert.PreB.main_arg5)
      ∧ r.2.mem ((c.tc : Thread Cert.PreB.nD Cert.PreB.τ).loc Cert.PreB.main_arg6) = m ((c.tc : Thread Cert.PreB.nD Cert.PreB.τ).loc Cert.PreB.main_arg6)
      ∧ r.2.mem ((c.tc : Thread Cert.PreB.nD Cert.PreB.τ).loc Cert.PreB.main_arg7) = m ((c.tc : Thread Cert.PreB.nD Cert.PreB.τ).loc Cert.PreB.main_arg7)
      ∧ r.2.mem ((c.tc : Thread Cert.PreB.nD Cert.PreB.τ).loc Cert.PreB.main_arg8) = m ((c.tc : Thread Cert.PreB.nD Cert.PreB.τ).loc Cert.PreB.main_arg8)
      ∧ r.2.mem ((c.tc : Thread Cert.PreB.nD Cert.PreB.τ).loc Cert.PreB.main_arg9) = m ((c.tc : Thread Cert.PreB.nD Cert.PreB.τ).loc Cert.PreB.main_arg9)
      ∧ r.2.mem ((c.tc : Thread Cert.PreB.nD Cert.PreB.τ).loc Cert.PreB.main_arg10) = m ((c.tc : Thread Cert.PreB.nD Cert.PreB.τ).loc Cert.PreB.main_arg10))
      ∧ r.2.sem = fun _ => 0)

def quiescent_PreBIdeal [hPreBIdeal : Cert.PreBIdeal.Facts] : Prop :=
  ∀ (m : (ℓ : Loc Cert.PreBIdeal.nD Cert.PreBIdeal.τ Cert.PreBIdeal.sig) → Buf (Elt Ideal) ℓ) (g : Dev Cert.PreBIdeal.nD → PrngReg), Pre_PreBIdeal m →
    θ_run (Cert.PreBIdeal.defs (F := Ideal)) (onTc (τ := Cert.PreBIdeal.τ) (Cert.PreBIdeal.main (F := Ideal))) ⟨m, fun _ => 0, g⟩ (fun r => (∀ c : Dev Cert.PreBIdeal.nD,
      r.2.mem ((c.tc : Thread Cert.PreBIdeal.nD Cert.PreBIdeal.τ).loc Cert.PreBIdeal.main_arg0) = m ((c.tc : Thread Cert.PreBIdeal.nD Cert.PreBIdeal.τ).loc Cert.PreBIdeal.main_arg0)
      ∧ r.2.mem ((c.tc : Thread Cert.PreBIdeal.nD Cert.PreBIdeal.τ).loc Cert.PreBIdeal.main_arg1) = m ((c.tc : Thread Cert.PreBIdeal.nD Cert.PreBIdeal.τ).loc Cert.PreBIdeal.main_arg1)
      ∧ r.2.mem ((c.tc : Thread Cert.PreBIdeal.nD Cert.PreBIdeal.τ).loc Cert.PreBIdeal.main_arg2) = m ((c.tc : Thread Cert.PreBIdeal.nD Cert.PreBIdeal.τ).loc Cert.PreBIdeal.main_arg2)
      ∧ r.2.mem ((c.tc : Thread Cert.PreBIdeal.nD Cert.PreBIdeal.τ).loc Cert.PreBIdeal.main_arg3) = m ((c.tc : Thread Cert.PreBIdeal.nD Cert.PreBIdeal.τ).loc Cert.PreBIdeal.main_arg3)
      ∧ r.2.mem ((c.tc : Thread Cert.PreBIdeal.nD Cert.PreBIdeal.τ).loc Cert.PreBIdeal.main_arg4) = m ((c.tc : Thread Cert.PreBIdeal.nD Cert.PreBIdeal.τ).loc Cert.PreBIdeal.main_arg4)
      ∧ r.2.mem ((c.tc : Thread Cert.PreBIdeal.nD Cert.PreBIdeal.τ).loc Cert.PreBIdeal.main_arg5) = m ((c.tc : Thread Cert.PreBIdeal.nD Cert.PreBIdeal.τ).loc Cert.PreBIdeal.main_arg5)
      ∧ r.2.mem ((c.tc : Thread Cert.PreBIdeal.nD Cert.PreBIdeal.τ).loc Cert.PreBIdeal.main_arg6) = m ((c.tc : Thread Cert.PreBIdeal.nD Cert.PreBIdeal.τ).loc Cert.PreBIdeal.main_arg6)
      ∧ r.2.mem ((c.tc : Thread Cert.PreBIdeal.nD Cert.PreBIdeal.τ).loc Cert.PreBIdeal.main_arg7) = m ((c.tc : Thread Cert.PreBIdeal.nD Cert.PreBIdeal.τ).loc Cert.PreBIdeal.main_arg7)
      ∧ r.2.mem ((c.tc : Thread Cert.PreBIdeal.nD Cert.PreBIdeal.τ).loc Cert.PreBIdeal.main_arg8) = m ((c.tc : Thread Cert.PreBIdeal.nD Cert.PreBIdeal.τ).loc Cert.PreBIdeal.main_arg8)
      ∧ r.2.mem ((c.tc : Thread Cert.PreBIdeal.nD Cert.PreBIdeal.τ).loc Cert.PreBIdeal.main_arg9) = m ((c.tc : Thread Cert.PreBIdeal.nD Cert.PreBIdeal.τ).loc Cert.PreBIdeal.main_arg9)
      ∧ r.2.mem ((c.tc : Thread Cert.PreBIdeal.nD Cert.PreBIdeal.τ).loc Cert.PreBIdeal.main_arg10) = m ((c.tc : Thread Cert.PreBIdeal.nD Cert.PreBIdeal.τ).loc Cert.PreBIdeal.main_arg10))
      ∧ r.2.sem = fun _ => 0)

def quiescent_PreBIdeal_pre_pre_finite [hPreBIdeal : Cert.PreBIdeal.Facts] [hPre_pre_finite : Cert.Pre_pre_finite.Facts] : Prop :=
  ∀ (m : (ℓ : Loc Cert.PreBIdeal.nD Cert.PreBIdeal.τ Cert.PreBIdeal.sig) → Buf (Elt Ideal) ℓ) (g : Dev Cert.PreBIdeal.nD → PrngReg), Pre_PreBIdeal_pre_finite m →
    θ_run (Cert.PreBIdeal.defs (F := Ideal)) (onTc (τ := Cert.PreBIdeal.τ) (Cert.PreBIdeal.main (F := Ideal))) ⟨m, fun _ => 0, g⟩ (fun r => (∀ c : Dev Cert.PreBIdeal.nD,
      r.2.mem ((c.tc : Thread Cert.PreBIdeal.nD Cert.PreBIdeal.τ).loc Cert.PreBIdeal.main_arg0) = m ((c.tc : Thread Cert.PreBIdeal.nD Cert.PreBIdeal.τ).loc Cert.PreBIdeal.main_arg0)
      ∧ r.2.mem ((c.tc : Thread Cert.PreBIdeal.nD Cert.PreBIdeal.τ).loc Cert.PreBIdeal.main_arg1) = m ((c.tc : Thread Cert.PreBIdeal.nD Cert.PreBIdeal.τ).loc Cert.PreBIdeal.main_arg1)
      ∧ r.2.mem ((c.tc : Thread Cert.PreBIdeal.nD Cert.PreBIdeal.τ).loc Cert.PreBIdeal.main_arg2) = m ((c.tc : Thread Cert.PreBIdeal.nD Cert.PreBIdeal.τ).loc Cert.PreBIdeal.main_arg2)
      ∧ r.2.mem ((c.tc : Thread Cert.PreBIdeal.nD Cert.PreBIdeal.τ).loc Cert.PreBIdeal.main_arg3) = m ((c.tc : Thread Cert.PreBIdeal.nD Cert.PreBIdeal.τ).loc Cert.PreBIdeal.main_arg3)
      ∧ r.2.mem ((c.tc : Thread Cert.PreBIdeal.nD Cert.PreBIdeal.τ).loc Cert.PreBIdeal.main_arg4) = m ((c.tc : Thread Cert.PreBIdeal.nD Cert.PreBIdeal.τ).loc Cert.PreBIdeal.main_arg4)
      ∧ r.2.mem ((c.tc : Thread Cert.PreBIdeal.nD Cert.PreBIdeal.τ).loc Cert.PreBIdeal.main_arg5) = m ((c.tc : Thread Cert.PreBIdeal.nD Cert.PreBIdeal.τ).loc Cert.PreBIdeal.main_arg5)
      ∧ r.2.mem ((c.tc : Thread Cert.PreBIdeal.nD Cert.PreBIdeal.τ).loc Cert.PreBIdeal.main_arg6) = m ((c.tc : Thread Cert.PreBIdeal.nD Cert.PreBIdeal.τ).loc Cert.PreBIdeal.main_arg6)
      ∧ r.2.mem ((c.tc : Thread Cert.PreBIdeal.nD Cert.PreBIdeal.τ).loc Cert.PreBIdeal.main_arg7) = m ((c.tc : Thread Cert.PreBIdeal.nD Cert.PreBIdeal.τ).loc Cert.PreBIdeal.main_arg7)
      ∧ r.2.mem ((c.tc : Thread Cert.PreBIdeal.nD Cert.PreBIdeal.τ).loc Cert.PreBIdeal.main_arg8) = m ((c.tc : Thread Cert.PreBIdeal.nD Cert.PreBIdeal.τ).loc Cert.PreBIdeal.main_arg8)
      ∧ r.2.mem ((c.tc : Thread Cert.PreBIdeal.nD Cert.PreBIdeal.τ).loc Cert.PreBIdeal.main_arg9) = m ((c.tc : Thread Cert.PreBIdeal.nD Cert.PreBIdeal.τ).loc Cert.PreBIdeal.main_arg9)
      ∧ r.2.mem ((c.tc : Thread Cert.PreBIdeal.nD Cert.PreBIdeal.τ).loc Cert.PreBIdeal.main_arg10) = m ((c.tc : Thread Cert.PreBIdeal.nD Cert.PreBIdeal.τ).loc Cert.PreBIdeal.main_arg10))
      ∧ r.2.sem = fun _ => 0)

def quiescent_PreBRefIdeal [hPreBRefIdeal : Cert.PreBRefIdeal.Facts] : Prop :=
  ∀ (m : (ℓ : Loc Cert.PreBRefIdeal.nD Cert.PreBRefIdeal.τ Cert.PreBRefIdeal.sig) → Buf (Elt Ideal) ℓ) (g : Dev Cert.PreBRefIdeal.nD → PrngReg), Pre_PreBRefIdeal m →
    θ_run (Cert.PreBRefIdeal.defs (F := Ideal)) (onTc (τ := Cert.PreBRefIdeal.τ) (Cert.PreBRefIdeal.main (F := Ideal))) ⟨m, fun _ => 0, g⟩ (fun r => (∀ c : Dev Cert.PreBRefIdeal.nD,
      r.2.mem ((c.tc : Thread Cert.PreBRefIdeal.nD Cert.PreBRefIdeal.τ).loc Cert.PreBRefIdeal.main_arg0) = m ((c.tc : Thread Cert.PreBRefIdeal.nD Cert.PreBRefIdeal.τ).loc Cert.PreBRefIdeal.main_arg0)
      ∧ r.2.mem ((c.tc : Thread Cert.PreBRefIdeal.nD Cert.PreBRefIdeal.τ).loc Cert.PreBRefIdeal.main_arg1) = m ((c.tc : Thread Cert.PreBRefIdeal.nD Cert.PreBRefIdeal.τ).loc Cert.PreBRefIdeal.main_arg1)
      ∧ r.2.mem ((c.tc : Thread Cert.PreBRefIdeal.nD Cert.PreBRefIdeal.τ).loc Cert.PreBRefIdeal.main_arg2) = m ((c.tc : Thread Cert.PreBRefIdeal.nD Cert.PreBRefIdeal.τ).loc Cert.PreBRefIdeal.main_arg2)
      ∧ r.2.mem ((c.tc : Thread Cert.PreBRefIdeal.nD Cert.PreBRefIdeal.τ).loc Cert.PreBRefIdeal.main_arg3) = m ((c.tc : Thread Cert.PreBRefIdeal.nD Cert.PreBRefIdeal.τ).loc Cert.PreBRefIdeal.main_arg3)
      ∧ r.2.mem ((c.tc : Thread Cert.PreBRefIdeal.nD Cert.PreBRefIdeal.τ).loc Cert.PreBRefIdeal.main_arg4) = m ((c.tc : Thread Cert.PreBRefIdeal.nD Cert.PreBRefIdeal.τ).loc Cert.PreBRefIdeal.main_arg4)
      ∧ r.2.mem ((c.tc : Thread Cert.PreBRefIdeal.nD Cert.PreBRefIdeal.τ).loc Cert.PreBRefIdeal.main_arg5) = m ((c.tc : Thread Cert.PreBRefIdeal.nD Cert.PreBRefIdeal.τ).loc Cert.PreBRefIdeal.main_arg5)
      ∧ r.2.mem ((c.tc : Thread Cert.PreBRefIdeal.nD Cert.PreBRefIdeal.τ).loc Cert.PreBRefIdeal.main_arg6) = m ((c.tc : Thread Cert.PreBRefIdeal.nD Cert.PreBRefIdeal.τ).loc Cert.PreBRefIdeal.main_arg6)
      ∧ r.2.mem ((c.tc : Thread Cert.PreBRefIdeal.nD Cert.PreBRefIdeal.τ).loc Cert.PreBRefIdeal.main_arg7) = m ((c.tc : Thread Cert.PreBRefIdeal.nD Cert.PreBRefIdeal.τ).loc Cert.PreBRefIdeal.main_arg7)
      ∧ r.2.mem ((c.tc : Thread Cert.PreBRefIdeal.nD Cert.PreBRefIdeal.τ).loc Cert.PreBRefIdeal.main_arg8) = m ((c.tc : Thread Cert.PreBRefIdeal.nD Cert.PreBRefIdeal.τ).loc Cert.PreBRefIdeal.main_arg8)
      ∧ r.2.mem ((c.tc : Thread Cert.PreBRefIdeal.nD Cert.PreBRefIdeal.τ).loc Cert.PreBRefIdeal.main_arg9) = m ((c.tc : Thread Cert.PreBRefIdeal.nD Cert.PreBRefIdeal.τ).loc Cert.PreBRefIdeal.main_arg9)
      ∧ r.2.mem ((c.tc : Thread Cert.PreBRefIdeal.nD Cert.PreBRefIdeal.τ).loc Cert.PreBRefIdeal.main_arg10) = m ((c.tc : Thread Cert.PreBRefIdeal.nD Cert.PreBRefIdeal.τ).loc Cert.PreBRefIdeal.main_arg10))
      ∧ r.2.sem = fun _ => 0)

def quiescent_PreBRefIdeal_pre_pre_finite [hPreBRefIdeal : Cert.PreBRefIdeal.Facts] [hPre_pre_finite : Cert.Pre_pre_finite.Facts] : Prop :=
  ∀ (m : (ℓ : Loc Cert.PreBRefIdeal.nD Cert.PreBRefIdeal.τ Cert.PreBRefIdeal.sig) → Buf (Elt Ideal) ℓ) (g : Dev Cert.PreBRefIdeal.nD → PrngReg), Pre_PreBRefIdeal_pre_finite m →
    θ_run (Cert.PreBRefIdeal.defs (F := Ideal)) (onTc (τ := Cert.PreBRefIdeal.τ) (Cert.PreBRefIdeal.main (F := Ideal))) ⟨m, fun _ => 0, g⟩ (fun r => (∀ c : Dev Cert.PreBRefIdeal.nD,
      r.2.mem ((c.tc : Thread Cert.PreBRefIdeal.nD Cert.PreBRefIdeal.τ).loc Cert.PreBRefIdeal.main_arg0) = m ((c.tc : Thread Cert.PreBRefIdeal.nD Cert.PreBRefIdeal.τ).loc Cert.PreBRefIdeal.main_arg0)
      ∧ r.2.mem ((c.tc : Thread Cert.PreBRefIdeal.nD Cert.PreBRefIdeal.τ).loc Cert.PreBRefIdeal.main_arg1) = m ((c.tc : Thread Cert.PreBRefIdeal.nD Cert.PreBRefIdeal.τ).loc Cert.PreBRefIdeal.main_arg1)
      ∧ r.2.mem ((c.tc : Thread Cert.PreBRefIdeal.nD Cert.PreBRefIdeal.τ).loc Cert.PreBRefIdeal.main_arg2) = m ((c.tc : Thread Cert.PreBRefIdeal.nD Cert.PreBRefIdeal.τ).loc Cert.PreBRefIdeal.main_arg2)
      ∧ r.2.mem ((c.tc : Thread Cert.PreBRefIdeal.nD Cert.PreBRefIdeal.τ).loc Cert.PreBRefIdeal.main_arg3) = m ((c.tc : Thread Cert.PreBRefIdeal.nD Cert.PreBRefIdeal.τ).loc Cert.PreBRefIdeal.main_arg3)
      ∧ r.2.mem ((c.tc : Thread Cert.PreBRefIdeal.nD Cert.PreBRefIdeal.τ).loc Cert.PreBRefIdeal.main_arg4) = m ((c.tc : Thread Cert.PreBRefIdeal.nD Cert.PreBRefIdeal.τ).loc Cert.PreBRefIdeal.main_arg4)
      ∧ r.2.mem ((c.tc : Thread Cert.PreBRefIdeal.nD Cert.PreBRefIdeal.τ).loc Cert.PreBRefIdeal.main_arg5) = m ((c.tc : Thread Cert.PreBRefIdeal.nD Cert.PreBRefIdeal.τ).loc Cert.PreBRefIdeal.main_arg5)
      ∧ r.2.mem ((c.tc : Thread Cert.PreBRefIdeal.nD Cert.PreBRefIdeal.τ).loc Cert.PreBRefIdeal.main_arg6) = m ((c.tc : Thread Cert.PreBRefIdeal.nD Cert.PreBRefIdeal.τ).loc Cert.PreBRefIdeal.main_arg6)
      ∧ r.2.mem ((c.tc : Thread Cert.PreBRefIdeal.nD Cert.PreBRefIdeal.τ).loc Cert.PreBRefIdeal.main_arg7) = m ((c.tc : Thread Cert.PreBRefIdeal.nD Cert.PreBRefIdeal.τ).loc Cert.PreBRefIdeal.main_arg7)
      ∧ r.2.mem ((c.tc : Thread Cert.PreBRefIdeal.nD Cert.PreBRefIdeal.τ).loc Cert.PreBRefIdeal.main_arg8) = m ((c.tc : Thread Cert.PreBRefIdeal.nD Cert.PreBRefIdeal.τ).loc Cert.PreBRefIdeal.main_arg8)
      ∧ r.2.mem ((c.tc : Thread Cert.PreBRefIdeal.nD Cert.PreBRefIdeal.τ).loc Cert.PreBRefIdeal.main_arg9) = m ((c.tc : Thread Cert.PreBRefIdeal.nD Cert.PreBRefIdeal.τ).loc Cert.PreBRefIdeal.main_arg9)
      ∧ r.2.mem ((c.tc : Thread Cert.PreBRefIdeal.nD Cert.PreBRefIdeal.τ).loc Cert.PreBRefIdeal.main_arg10) = m ((c.tc : Thread Cert.PreBRefIdeal.nD Cert.PreBRefIdeal.τ).loc Cert.PreBRefIdeal.main_arg10))
      ∧ r.2.sem = fun _ => 0)

def preserves_Tail_TailIdeal : Prop :=
  True

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)) (v6 : (c : Dev Cert.TailIdeal.nD) → Buf (Elt Ideal) ((c.tc : Thread Cert.TailIdeal.nD Cert.TailIdeal.τ).loc Cert.TailIdeal.main_v0_6)) (v7 : (c : Dev Cert.TailIdeal.nD) → Buf (Elt Ideal) ((c.tc : Thread Cert.TailIdeal.nD Cert.TailIdeal.τ).loc Cert.TailIdeal.main_v0_7)) (v8 : (c : Dev Cert.TailIdeal.nD) → Buf (Elt Ideal) ((c.tc : Thread Cert.TailIdeal.nD Cert.TailIdeal.τ).loc Cert.TailIdeal.main_v0_8)) (v9 : (c : Dev Cert.TailIdeal.nD) → Buf (Elt Ideal) ((c.tc : Thread Cert.TailIdeal.nD Cert.TailIdeal.τ).loc Cert.TailIdeal.main_v0_9)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_v0_6) = v6 c
          ∧ r.2.mem ((c.tc : Thread Cert.TailIdeal.nD Cert.TailIdeal.τ).loc Cert.TailIdeal.main_v0_7) = v7 c
          ∧ r.2.mem ((c.tc : Thread Cert.TailIdeal.nD Cert.TailIdeal.τ).loc Cert.TailIdeal.main_v0_8) = v8 c
          ∧ r.2.mem ((c.tc : Thread Cert.TailIdeal.nD Cert.TailIdeal.τ).loc Cert.TailIdeal.main_v0_9) = v9 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v105) = v0 c
          ∧ r.2.mem ((c.tc : Thread Cert.TailRefIdeal.nD Cert.TailRefIdeal.τ).loc Cert.TailRefIdeal.main_v67) = v1 c
          ∧ r.2.mem ((c.tc : Thread Cert.TailRefIdeal.nD Cert.TailRefIdeal.τ).loc Cert.TailRefIdeal.main_v85) = v2 c
          ∧ r.2.mem ((c.tc : Thread Cert.TailRefIdeal.nD Cert.TailRefIdeal.τ).loc Cert.TailRefIdeal.main_v93) = v3 c
          ∧ r.2.mem ((c.tc : Thread Cert.TailRefIdeal.nD Cert.TailRefIdeal.τ).loc Cert.TailRefIdeal.main_v98) = v4 c
          ∧ r.2.mem ((c.tc : Thread Cert.TailRefIdeal.nD Cert.TailRefIdeal.τ).loc Cert.TailRefIdeal.main_v83) = v5 c
          ∧ r.2.mem ((c.tc : Thread Cert.TailRefIdeal.nD Cert.TailRefIdeal.τ).loc Cert.TailRefIdeal.main_v94) = v6 c
          ∧ r.2.mem ((c.tc : Thread Cert.TailRefIdeal.nD Cert.TailRefIdeal.τ).loc Cert.TailRefIdeal.main_v104) = v7 c
          ∧ r.2.mem ((c.tc : Thread Cert.TailRefIdeal.nD Cert.TailRefIdeal.τ).loc Cert.TailRefIdeal.main_v102) = v8 c
          ∧ r.2.mem ((c.tc : Thread Cert.TailRefIdeal.nD Cert.TailRefIdeal.τ).loc Cert.TailRefIdeal.main_v106) = v9 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v20) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Early_EarlyIdeal : Prop :=
  True

def algebraic_EarlyIdeal_EarlyRefIdeal [hEarlyIdeal : Cert.EarlyIdeal.Facts] [hEarlyRefIdeal : Cert.EarlyRefIdeal.Facts] : Prop :=
  ∀ (m : (ℓ : Loc Cert.EarlyIdeal.nD Cert.EarlyIdeal.τ Cert.EarlyIdeal.sig) → Buf (Elt Ideal) ℓ) (g : Dev Cert.EarlyIdeal.nD → PrngReg)
    (m' : (ℓ : Loc Cert.EarlyRefIdeal.nD Cert.EarlyRefIdeal.τ Cert.EarlyRefIdeal.sig) → Buf (Elt Ideal) ℓ) (g' : Dev Cert.EarlyRefIdeal.nD → PrngReg), Pre_EarlyIdeal m →
    (∀ c : Dev Cert.EarlyIdeal.nD,
      m' ((c.tc : Thread Cert.EarlyRefIdeal.nD Cert.EarlyRefIdeal.τ).loc Cert.EarlyRefIdeal.main_arg0) = m ((c.tc : Thread Cert.EarlyIdeal.nD Cert.EarlyIdeal.τ).loc Cert.EarlyIdeal.main_arg0)
      ∧ m' ((c.tc : Thread Cert.EarlyRefIdeal.nD Cert.EarlyRefIdeal.τ).loc Cert.EarlyRefIdeal.main_arg1) = m ((c.tc : Thread Cert.EarlyIdeal.nD Cert.EarlyIdeal.τ).loc Cert.EarlyIdeal.main_arg1)
      ∧ m' ((c.tc : Thread Cert.EarlyRefIdeal.nD Cert.EarlyRefIdeal.τ).loc Cert.EarlyRefIdeal.main_arg2) = m ((c.tc : Thread Cert.EarlyIdeal.nD Cert.EarlyIdeal.τ).loc Cert.EarlyIdeal.main_arg2)
      ∧ m' ((c.tc : Thread Cert.EarlyRefIdeal.nD Cert.EarlyRefIdeal.τ).loc Cert.EarlyRefIdeal.main_arg3) = m ((c.tc : Thread Cert.EarlyIdeal.nD Cert.EarlyIdeal.τ).loc Cert.EarlyIdeal.main_arg3)
      ∧ m' ((c.tc : Thread Cert.EarlyRefIdeal.nD Cert.EarlyRefIdeal.τ).loc Cert.EarlyRefIdeal.main_arg4) = m ((c.tc : Thread Cert.EarlyIdeal.nD Cert.EarlyIdeal.τ).loc Cert.EarlyIdeal.main_arg4)) →
    ∃ (v0 : (c : Dev Cert.EarlyIdeal.nD) → Buf (Elt Ideal) ((c.tc : Thread Cert.EarlyIdeal.nD Cert.EarlyIdeal.τ).loc Cert.EarlyIdeal.main_v13_0)) (v1 : (c : Dev Cert.EarlyIdeal.nD) → Buf (Elt Ideal) ((c.tc : Thread Cert.EarlyIdeal.nD Cert.EarlyIdeal.τ).loc Cert.EarlyIdeal.main_v13_1)),
      θ_run (Cert.EarlyIdeal.defs (F := Ideal)) (onTc (τ := Cert.EarlyIdeal.τ) (Cert.EarlyIdeal.main (F := Ideal))) ⟨m, fun _ => 0, g⟩ (fun r => ∀ c : Dev Cert.EarlyIdeal.nD,
          r.2.mem ((c.tc : Thread Cert.EarlyIdeal.nD Cert.EarlyIdeal.τ).loc Cert.EarlyIdeal.main_v13_0) = v0 c
          ∧ r.2.mem ((c.tc : Thread Cert.EarlyIdeal.nD Cert.EarlyIdeal.τ).loc Cert.EarlyIdeal.main_v13_1) = v1 c
          ∧ r.2.mem ((c.tc : Thread Cert.EarlyIdeal.nD Cert.EarlyIdeal.τ).loc Cert.EarlyIdeal.main_arg0) = m ((c.tc : Thread Cert.EarlyIdeal.nD Cert.EarlyIdeal.τ).loc Cert.EarlyIdeal.main_arg0)
          ∧ r.2.mem ((c.tc : Thread Cert.EarlyIdeal.nD Cert.EarlyIdeal.τ).loc Cert.EarlyIdeal.main_arg1) = m ((c.tc : Thread Cert.EarlyIdeal.nD Cert.EarlyIdeal.τ).loc Cert.EarlyIdeal.main_arg1)
          ∧ r.2.mem ((c.tc : Thread Cert.EarlyIdeal.nD Cert.EarlyIdeal.τ).loc Cert.EarlyIdeal.main_arg2) = m ((c.tc : Thread Cert.EarlyIdeal.nD Cert.EarlyIdeal.τ).loc Cert.EarlyIdeal.main_arg2)
          ∧ r.2.mem ((c.tc : Thread Cert.EarlyIdeal.nD Cert.EarlyIdeal.τ).loc Cert.EarlyIdeal.main_arg3) = m ((c.tc : Thread Cert.EarlyIdeal.nD Cert.EarlyIdeal.τ).loc Cert.EarlyIdeal.main_arg3)
          ∧ r.2.mem ((c.tc : Thread Cert.EarlyIdeal.nD Cert.EarlyIdeal.τ).loc Cert.EarlyIdeal.main_arg4) = m ((c.tc : Thread Cert.EarlyIdeal.nD Cert.EarlyIdeal.τ).loc Cert.EarlyIdeal.main_arg4))
      ∧ θ_run (Cert.EarlyRefIdeal.defs (F := Ideal)) (onTc (τ := Cert.EarlyRefIdeal.τ) (Cert.EarlyRefIdeal.main (F := Ideal))) ⟨m', fun _ => 0, g'⟩ (fun r => ∀ c : Dev Cert.EarlyRefIdeal.nD,
          r.2.mem ((c.tc : Thread Cert.EarlyRefIdeal.nD Cert.EarlyRefIdeal.τ).loc Cert.EarlyRefIdeal.main_v22) = v0 c
          ∧ r.2.mem ((c.tc : Thread Cert.EarlyRefIdeal.nD Cert.EarlyRefIdeal.τ).loc Cert.EarlyRefIdeal.main_v23) = v1 c
          ∧ r.2.mem ((c.tc : Thread Cert.EarlyRefIdeal.nD Cert.EarlyRefIdeal.τ).loc Cert.EarlyRefIdeal.main_arg0) = m' ((c.tc : Thread Cert.EarlyRefIdeal.nD Cert.EarlyRefIdeal.τ).loc Cert.EarlyRefIdeal.main_arg0)
          ∧ r.2.mem ((c.tc : Thread Cert.EarlyRefIdeal.nD Cert.EarlyRefIdeal.τ).loc Cert.EarlyRefIdeal.main_arg1) = m' ((c.tc : Thread Cert.EarlyRefIdeal.nD Cert.EarlyRefIdeal.τ).loc Cert.EarlyRefIdeal.main_arg1)
          ∧ r.2.mem ((c.tc : Thread Cert.EarlyRefIdeal.nD Cert.EarlyRefIdeal.τ).loc Cert.EarlyRefIdeal.main_arg2) = m' ((c.tc : Thread Cert.EarlyRefIdeal.nD Cert.EarlyRefIdeal.τ).loc Cert.EarlyRefIdeal.main_arg2)
          ∧ r.2.mem ((c.tc : Thread Cert.EarlyRefIdeal.nD Cert.EarlyRefIdeal.τ).loc Cert.EarlyRefIdeal.main_arg3) = m' ((c.tc : Thread Cert.EarlyRefIdeal.nD Cert.EarlyRefIdeal.τ).loc Cert.EarlyRefIdeal.main_arg3)
          ∧ r.2.mem ((c.tc : Thread Cert.EarlyRefIdeal.nD Cert.EarlyRefIdeal.τ).loc Cert.EarlyRefIdeal.main_arg4) = m' ((c.tc : Thread Cert.EarlyRefIdeal.nD Cert.EarlyRefIdeal.τ).loc Cert.EarlyRefIdeal.main_arg4))

def preserves_Late_LateIdeal : Prop :=
  True

def algebraic_LateIdeal_LateRefIdeal [hLateIdeal : Cert.LateIdeal.Facts] [hLateRefIdeal : Cert.LateRefIdeal.Facts] : Prop :=
  ∀ (m : (ℓ : Loc Cert.LateIdeal.nD Cert.LateIdeal.τ Cert.LateIdeal.sig) → Buf (Elt Ideal) ℓ) (g : Dev Cert.LateIdeal.nD → PrngReg)
    (m' : (ℓ : Loc Cert.LateRefIdeal.nD Cert.LateRefIdeal.τ Cert.LateRefIdeal.sig) → Buf (Elt Ideal) ℓ) (g' : Dev Cert.LateRefIdeal.nD → PrngReg), Pre_LateIdeal m →
    (∀ c : Dev Cert.LateIdeal.nD,
      m' ((c.tc : Thread Cert.LateRefIdeal.nD Cert.LateRefIdeal.τ).loc Cert.LateRefIdeal.main_arg0) = m ((c.tc : Thread Cert.LateIdeal.nD Cert.LateIdeal.τ).loc Cert.LateIdeal.main_arg0)
      ∧ m' ((c.tc : Thread Cert.LateRefIdeal.nD Cert.LateRefIdeal.τ).loc Cert.LateRefIdeal.main_arg1) = m ((c.tc : Thread Cert.LateIdeal.nD Cert.LateIdeal.τ).loc Cert.LateIdeal.main_arg1)
      ∧ m' ((c.tc : Thread Cert.LateRefIdeal.nD Cert.LateRefIdeal.τ).loc Cert.LateRefIdeal.main_arg2) = m ((c.tc : Thread Cert.LateIdeal.nD Cert.LateIdeal.τ).loc Cert.LateIdeal.main_arg2)
      ∧ m' ((c.tc : Thread Cert.LateRefIdeal.nD Cert.LateRefIdeal.τ).loc Cert.LateRefIdeal.main_arg3) = m ((c.tc : Thread Cert.LateIdeal.nD Cert.LateIdeal.τ).loc Cert.LateIdeal.main_arg3)) →
    ∃ (v0 : (c : Dev Cert.LateIdeal.nD) → Buf (Elt Ideal) ((c.tc : Thread Cert.LateIdeal.nD Cert.LateIdeal.τ).loc Cert.LateIdeal.main_v13)),
      θ_run (Cert.LateIdeal.defs (F := Ideal)) (onTc (τ := Cert.LateIdeal.τ) (Cert.LateIdeal.main (F := Ideal))) ⟨m, fun _ => 0, g⟩ (fun r => ∀ c : Dev Cert.LateIdeal.nD,
          r.2.mem ((c.tc : Thread Cert.LateIdeal.nD Cert.LateIdeal.τ).loc Cert.LateIdeal.main_v13) = v0 c
          ∧ r.2.mem ((c.tc : Thread Cert.LateIdeal.nD Cert.LateIdeal.τ).loc Cert.LateIdeal.main_arg0) = m ((c.tc : Thread Cert.LateIdeal.nD Cert.LateIdeal.τ).loc Cert.LateIdeal.main_arg0)
          ∧ r.2.mem ((c.tc : Thread Cert.LateIdeal.nD Cert.LateIdeal.τ).loc Cert.LateIdeal.main_arg1) = m ((c.tc : Thread Cert.LateIdeal.nD Cert.LateIdeal.τ).loc Cert.LateIdeal.main_arg1)
          ∧ r.2.mem ((c.tc : Thread Cert.LateIdeal.nD Cert.LateIdeal.τ).loc Cert.LateIdeal.main_arg2) = m ((c.tc : Thread Cert.LateIdeal.nD Cert.LateIdeal.τ).loc Cert.LateIdeal.main_arg2)
          ∧ r.2.mem ((c.tc : Thread Cert.LateIdeal.nD Cert.LateIdeal.τ).loc Cert.LateIdeal.main_arg3) = m ((c.tc : Thread Cert.LateIdeal.nD Cert.LateIdeal.τ).loc Cert.LateIdeal.main_arg3))
      ∧ θ_run (Cert.LateRefIdeal.defs (F := Ideal)) (onTc (τ := Cert.LateRefIdeal.τ) (Cert.LateRefIdeal.main (F := Ideal))) ⟨m', fun _ => 0, g'⟩ (fun r => ∀ c : Dev Cert.LateRefIdeal.nD,
          r.2.mem ((c.tc : Thread Cert.LateRefIdeal.nD Cert.LateRefIdeal.τ).loc Cert.LateRefIdeal.main_v21) = v0 c
          ∧ r.2.mem ((c.tc : Thread Cert.LateRefIdeal.nD Cert.LateRefIdeal.τ).loc Cert.LateRefIdeal.main_arg0) = m' ((c.tc : Thread Cert.LateRefIdeal.nD Cert.LateRefIdeal.τ).loc Cert.LateRefIdeal.main_arg0)
          ∧ r.2.mem ((c.tc : Thread Cert.LateRefIdeal.nD Cert.LateRefIdeal.τ).loc Cert.LateRefIdeal.main_arg1) = m' ((c.tc : Thread Cert.LateRefIdeal.nD Cert.LateRefIdeal.τ).loc Cert.LateRefIdeal.main_arg1)
          ∧ r.2.mem ((c.tc : Thread Cert.LateRefIdeal.nD Cert.LateRefIdeal.τ).loc Cert.LateRefIdeal.main_arg2) = m' ((c.tc : Thread Cert.LateRefIdeal.nD Cert.LateRefIdeal.τ).loc Cert.LateRefIdeal.main_arg2)
          ∧ r.2.mem ((c.tc : Thread Cert.LateRefIdeal.nD Cert.LateRefIdeal.τ).loc Cert.LateRefIdeal.main_arg3) = m' ((c.tc : Thread Cert.LateRefIdeal.nD Cert.LateRefIdeal.τ).loc Cert.LateRefIdeal.main_arg3))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_v32) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_PreB_PreBIdeal : Prop :=
  True

def algebraic_PreBIdeal_PreBRefIdeal_pre_pre_finite [hPreBIdeal : Cert.PreBIdeal.Facts] [hPreBRefIdeal : Cert.PreBRefIdeal.Facts] [hPre_pre_finite : Cert.Pre_pre_finite.Facts] : Prop :=
  ∀ (m : (ℓ : Loc Cert.PreBIdeal.nD Cert.PreBIdeal.τ Cert.PreBIdeal.sig) → Buf (Elt Ideal) ℓ) (g : Dev Cert.PreBIdeal.nD → PrngReg)
    (m' : (ℓ : Loc Cert.PreBRefIdeal.nD Cert.PreBRefIdeal.τ Cert.PreBRefIdeal.sig) → Buf (Elt Ideal) ℓ) (g' : Dev Cert.PreBRefIdeal.nD → PrngReg), Pre_PreBIdeal_pre_finite m →
    (∀ c : Dev Cert.PreBIdeal.nD,
      m' ((c.tc : Thread Cert.PreBRefIdeal.nD Cert.PreBRefIdeal.τ).loc Cert.PreBRefIdeal.main_arg0) = m ((c.tc : Thread Cert.PreBIdeal.nD Cert.PreBIdeal.τ).loc Cert.PreBIdeal.main_arg0)
      ∧ m' ((c.tc : Thread Cert.PreBRefIdeal.nD Cert.PreBRefIdeal.τ).loc Cert.PreBRefIdeal.main_arg1) = m ((c.tc : Thread Cert.PreBIdeal.nD Cert.PreBIdeal.τ).loc Cert.PreBIdeal.main_arg1)
      ∧ m' ((c.tc : Thread Cert.PreBRefIdeal.nD Cert.PreBRefIdeal.τ).loc Cert.PreBRefIdeal.main_arg2) = m ((c.tc : Thread Cert.PreBIdeal.nD Cert.PreBIdeal.τ).loc Cert.PreBIdeal.main_arg2)
      ∧ m' ((c.tc : Thread Cert.PreBRefIdeal.nD Cert.PreBRefIdeal.τ).loc Cert.PreBRefIdeal.main_arg3) = m ((c.tc : Thread Cert.PreBIdeal.nD Cert.PreBIdeal.τ).loc Cert.PreBIdeal.main_arg3)
      ∧ m' ((c.tc : Thread Cert.PreBRefIdeal.nD Cert.PreBRefIdeal.τ).loc Cert.PreBRefIdeal.main_arg4) = m ((c.tc : Thread Cert.PreBIdeal.nD Cert.PreBIdeal.τ).loc Cert.PreBIdeal.main_arg4)
      ∧ m' ((c.tc : Thread Cert.PreBRefIdeal.nD Cert.PreBRefIdeal.τ).loc Cert.PreBRefIdeal.main_arg5) = m ((c.tc : Thread Cert.PreBIdeal.nD Cert.PreBIdeal.τ).loc Cert.PreBIdeal.main_arg5)
      ∧ m' ((c.tc : Thread Cert.PreBRefIdeal.nD Cert.PreBRefIdeal.τ).loc Cert.PreBRefIdeal.main_arg6) = m ((c.tc : Thread Cert.PreBIdeal.nD Cert.PreBIdeal.τ).loc Cert.PreBIdeal.main_arg6)
      ∧ m' ((c.tc : Thread Cert.PreBRefIdeal.nD Cert.PreBRefIdeal.τ).loc Cert.PreBRefIdeal.main_arg7) = m ((c.tc : Thread Cert.PreBIdeal.nD Cert.PreBIdeal.τ).loc Cert.PreBIdeal.main_arg7)
      ∧ m' ((c.tc : Thread Cert.PreBRefIdeal.nD Cert.PreBRefIdeal.τ).loc Cert.PreBRefIdeal.main_arg8) = m ((c.tc : Thread Cert.PreBIdeal.nD Cert.PreBIdeal.τ).loc Cert.PreBIdeal.main_arg8)
      ∧ m' ((c.tc : Thread Cert.PreBRefIdeal.nD Cert.PreBRefIdeal.τ).loc Cert.PreBRefIdeal.main_arg9) = m ((c.tc : Thread Cert.PreBIdeal.nD Cert.PreBIdeal.τ).loc Cert.PreBIdeal.main_arg9)
      ∧ m' ((c.tc : Thread Cert.PreBRefIdeal.nD Cert.PreBRefIdeal.τ).loc Cert.PreBRefIdeal.main_arg10) = m ((c.tc : Thread Cert.PreBIdeal.nD Cert.PreBIdeal.τ).loc Cert.PreBIdeal.main_arg10)) →
    ∃ (v0 : (c : Dev Cert.PreBIdeal.nD) → Buf (Elt Ideal) ((c.tc : Thread Cert.PreBIdeal.nD Cert.PreBIdeal.τ).loc Cert.PreBIdeal.main_v6_0)) (v1 : (c : Dev Cert.PreBIdeal.nD) → Buf (Elt Ideal) ((c.tc : Thread Cert.PreBIdeal.nD Cert.PreBIdeal.τ).loc Cert.PreBIdeal.main_v6_2)) (v2 : (c : Dev Cert.PreBIdeal.nD) → Buf (Elt Ideal) ((c.tc : Thread Cert.PreBIdeal.nD Cert.PreBIdeal.τ).loc Cert.PreBIdeal.main_v6_3)),
      θ_run (Cert.PreBIdeal.defs (F := Ideal)) (onTc (τ := Cert.PreBIdeal.τ) (Cert.PreBIdeal.main (F := Ideal))) ⟨m, fun _ => 0, g⟩ (fun r => ∀ c : Dev Cert.PreBIdeal.nD,
          r.2.mem ((c.tc : Thread Cert.PreBIdeal.nD Cert.PreBIdeal.τ).loc Cert.PreBIdeal.main_v6_0) = v0 c
          ∧ r.2.mem ((c.tc : Thread Cert.PreBIdeal.nD Cert.PreBIdeal.τ).loc Cert.PreBIdeal.main_v6_2) = v1 c
          ∧ r.2.mem ((c.tc : Thread Cert.PreBIdeal.nD Cert.PreBIdeal.τ).loc Cert.PreBIdeal.main_v6_3) = v2 c
          ∧ r.2.mem ((c.tc : Thread Cert.PreBIdeal.nD Cert.PreBIdeal.τ).loc Cert.PreBIdeal.main_arg0) = m ((c.tc : Thread Cert.PreBIdeal.nD Cert.PreBIdeal.τ).loc Cert.PreBIdeal.main_arg0)
          ∧ r.2.mem ((c.tc : Thread Cert.PreBIdeal.nD Cert.PreBIdeal.τ).loc Cert.PreBIdeal.main_arg1) = m ((c.tc : Thread Cert.PreBIdeal.nD Cert.PreBIdeal.τ).loc Cert.PreBIdeal.main_arg1)
          ∧ r.2.mem ((c.tc : Thread Cert.PreBIdeal.nD Cert.PreBIdeal.τ).loc Cert.PreBIdeal.main_arg2) = m ((c.tc : Thread Cert.PreBIdeal.nD Cert.PreBIdeal.τ).loc Cert.PreBIdeal.main_arg2)
          ∧ r.2.mem ((c.tc : Thread Cert.PreBIdeal.nD Cert.PreBIdeal.τ).loc Cert.PreBIdeal.main_arg3) = m ((c.tc : Thread Cert.PreBIdeal.nD Cert.PreBIdeal.τ).loc Cert.PreBIdeal.main_arg3)
          ∧ r.2.mem ((c.tc : Thread Cert.PreBIdeal.nD Cert.PreBIdeal.τ).loc Cert.PreBIdeal.main_arg4) = m ((c.tc : Thread Cert.PreBIdeal.nD Cert.PreBIdeal.τ).loc Cert.PreBIdeal.main_arg4)
          ∧ r.2.mem ((c.tc : Thread Cert.PreBIdeal.nD Cert.PreBIdeal.τ).loc Cert.PreBIdeal.main_arg5) = m ((c.tc : Thread Cert.PreBIdeal.nD Cert.PreBIdeal.τ).loc Cert.PreBIdeal.main_arg5)
          ∧ r.2.mem ((c.tc : Thread Cert.PreBIdeal.nD Cert.PreBIdeal.τ).loc Cert.PreBIdeal.main_arg6) = m ((c.tc : Thread Cert.PreBIdeal.nD Cert.PreBIdeal.τ).loc Cert.PreBIdeal.main_arg6)
          ∧ r.2.mem ((c.tc : Thread Cert.PreBIdeal.nD Cert.PreBIdeal.τ).loc Cert.PreBIdeal.main_arg7) = m ((c.tc : Thread Cert.PreBIdeal.nD Cert.PreBIdeal.τ).loc Cert.PreBIdeal.main_arg7)
          ∧ r.2.mem ((c.tc : Thread Cert.PreBIdeal.nD Cert.PreBIdeal.τ).loc Cert.PreBIdeal.main_arg8) = m ((c.tc : Thread Cert.PreBIdeal.nD Cert.PreBIdeal.τ).loc Cert.PreBIdeal.main_arg8)
          ∧ r.2.mem ((c.tc : Thread Cert.PreBIdeal.nD Cert.PreBIdeal.τ).loc Cert.PreBIdeal.main_arg9) = m ((c.tc : Thread Cert.PreBIdeal.nD Cert.PreBIdeal.τ).loc Cert.PreBIdeal.main_arg9)
          ∧ r.2.mem ((c.tc : Thread Cert.PreBIdeal.nD Cert.PreBIdeal.τ).loc Cert.PreBIdeal.main_arg10) = m ((c.tc : Thread Cert.PreBIdeal.nD Cert.PreBIdeal.τ).loc Cert.PreBIdeal.main_arg10))
      ∧ θ_run (Cert.PreBRefIdeal.defs (F := Ideal)) (onTc (τ := Cert.PreBRefIdeal.τ) (Cert.PreBRefIdeal.main (F := Ideal))) ⟨m', fun _ => 0, g'⟩ (fun r => ∀ c : Dev Cert.PreBRefIdeal.nD,
          r.2.mem ((c.tc : Thread Cert.PreBRefIdeal.nD Cert.PreBRefIdeal.τ).loc Cert.PreBRefIdeal.main_v91) = v0 c
          ∧ r.2.mem ((c.tc : Thread Cert.PreBRefIdeal.nD Cert.PreBRefIdeal.τ).loc Cert.PreBRefIdeal.main_v74) = v1 c
          ∧ r.2.mem ((c.tc : Thread Cert.PreBRefIdeal.nD Cert.PreBRefIdeal.τ).loc Cert.PreBRefIdeal.main_v51) = v2 c
          ∧ r.2.mem ((c.tc : Thread Cert.PreBRefIdeal.nD Cert.PreBRefIdeal.τ).loc Cert.PreBRefIdeal.main_arg0) = m' ((c.tc : Thread Cert.PreBRefIdeal.nD Cert.PreBRefIdeal.τ).loc Cert.PreBRefIdeal.main_arg0)
          ∧ r.2.mem ((c.tc : Thread Cert.PreBRefIdeal.nD Cert.PreBRefIdeal.τ).loc Cert.PreBRefIdeal.main_arg1) = m' ((c.tc : Thread Cert.PreBRefIdeal.nD Cert.PreBRefIdeal.τ).loc Cert.PreBRefIdeal.main_arg1)
          ∧ r.2.mem ((c.tc : Thread Cert.PreBRefIdeal.nD Cert.PreBRefIdeal.τ).loc Cert.PreBRefIdeal.main_arg2) = m' ((c.tc : Thread Cert.PreBRefIdeal.nD Cert.PreBRefIdeal.τ).loc Cert.PreBRefIdeal.main_arg2)
          ∧ r.2.mem ((c.tc : Thread Cert.PreBRefIdeal.nD Cert.PreBRefIdeal.τ).loc Cert.PreBRefIdeal.main_arg3) = m' ((c.tc : Thread Cert.PreBRefIdeal.nD Cert.PreBRefIdeal.τ).loc Cert.PreBRefIdeal.main_arg3)
          ∧ r.2.mem ((c.tc : Thread Cert.PreBRefIdeal.nD Cert.PreBRefIdeal.τ).loc Cert.PreBRefIdeal.main_arg4) = m' ((c.tc : Thread Cert.PreBRefIdeal.nD Cert.PreBRefIdeal.τ).loc Cert.PreBRefIdeal.main_arg4)
          ∧ r.2.mem ((c.tc : Thread Cert.PreBRefIdeal.nD Cert.PreBRefIdeal.τ).loc Cert.PreBRefIdeal.main_arg5) = m' ((c.tc : Thread Cert.PreBRefIdeal.nD Cert.PreBRefIdeal.τ).loc Cert.PreBRefIdeal.main_arg5)
          ∧ r.2.mem ((c.tc : Thread Cert.PreBRefIdeal.nD Cert.PreBRefIdeal.τ).loc Cert.PreBRefIdeal.main_arg6) = m' ((c.tc : Thread Cert.PreBRefIdeal.nD Cert.PreBRefIdeal.τ).loc Cert.PreBRefIdeal.main_arg6)
          ∧ r.2.mem ((c.tc : Thread Cert.PreBRefIdeal.nD Cert.PreBRefIdeal.τ).loc Cert.PreBRefIdeal.main_arg7) = m' ((c.tc : Thread Cert.PreBRefIdeal.nD Cert.PreBRefIdeal.τ).loc Cert.PreBRefIdeal.main_arg7)
          ∧ r.2.mem ((c.tc : Thread Cert.PreBRefIdeal.nD Cert.PreBRefIdeal.τ).loc Cert.PreBRefIdeal.main_arg8) = m' ((c.tc : Thread Cert.PreBRefIdeal.nD Cert.PreBRefIdeal.τ).loc Cert.PreBRefIdeal.main_arg8)
          ∧ r.2.mem ((c.tc : Thread Cert.PreBRefIdeal.nD Cert.PreBRefIdeal.τ).loc Cert.PreBRefIdeal.main_arg9) = m' ((c.tc : Thread Cert.PreBRefIdeal.nD Cert.PreBRefIdeal.τ).loc Cert.PreBRefIdeal.main_arg9)
          ∧ r.2.mem ((c.tc : Thread Cert.PreBRefIdeal.nD Cert.PreBRefIdeal.τ).loc Cert.PreBRefIdeal.main_arg10) = m' ((c.tc : Thread Cert.PreBRefIdeal.nD Cert.PreBRefIdeal.τ).loc Cert.PreBRefIdeal.main_arg10))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hEarly : Cert.Early.Facts) (hEarlyIdeal : Cert.EarlyIdeal.Facts) (hEarlyRefIdeal : Cert.EarlyRefIdeal.Facts) (hLate : Cert.Late.Facts) (hLateIdeal : Cert.LateIdeal.Facts) (hLateRefIdeal : Cert.LateRefIdeal.Facts) (hAttn : Cert.Attn.Facts) (hAttnIdeal : Cert.AttnIdeal.Facts) (hAttnRefIdeal : Cert.AttnRefIdeal.Facts) (hPreB : Cert.PreB.Facts) (hPreBIdeal : Cert.PreBIdeal.Facts) (hPreBRefIdeal : Cert.PreBRefIdeal.Facts) (hPre_tail_finite : Cert.Pre_tail_finite.Facts) (hPre_attn_finite : Cert.Pre_attn_finite.Facts) (hPre_pre_finite : Cert.Pre_pre_finite.Facts),
    quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ quiescent_Proj (hProj := hProj)
    ∧ quiescent_ProjIdeal (hProjIdeal := hProjIdeal)
    ∧ quiescent_ProjRefIdeal (hProjRefIdeal := hProjRefIdeal)
    ∧ quiescent_Early (hEarly := hEarly)
    ∧ quiescent_EarlyIdeal (hEarlyIdeal := hEarlyIdeal)
    ∧ quiescent_EarlyRefIdeal (hEarlyRefIdeal := hEarlyRefIdeal)
    ∧ quiescent_Late (hLate := hLate)
    ∧ quiescent_LateIdeal (hLateIdeal := hLateIdeal)
    ∧ quiescent_LateRefIdeal (hLateRefIdeal := hLateRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_PreB (hPreB := hPreB)
    ∧ quiescent_PreBIdeal (hPreBIdeal := hPreBIdeal)
    ∧ quiescent_PreBIdeal_pre_pre_finite (hPreBIdeal := hPreBIdeal) (hPre_pre_finite := hPre_pre_finite)
    ∧ quiescent_PreBRefIdeal (hPreBRefIdeal := hPreBRefIdeal)
    ∧ quiescent_PreBRefIdeal_pre_pre_finite (hPreBRefIdeal := hPreBRefIdeal) (hPre_pre_finite := hPre_pre_finite)
    ∧ preserves_Tail_TailIdeal
    ∧ algebraic_TailIdeal_TailRefIdeal_pre_tail_finite (hTailIdeal := hTailIdeal) (hTailRefIdeal := hTailRefIdeal) (hPre_tail_finite := hPre_tail_finite)
    ∧ preserves_Proj_ProjIdeal
    ∧ algebraic_ProjIdeal_ProjRefIdeal (hProjIdeal := hProjIdeal) (hProjRefIdeal := hProjRefIdeal)
    ∧ preserves_Early_EarlyIdeal
    ∧ algebraic_EarlyIdeal_EarlyRefIdeal (hEarlyIdeal := hEarlyIdeal) (hEarlyRefIdeal := hEarlyRefIdeal)
    ∧ preserves_Late_LateIdeal
    ∧ algebraic_LateIdeal_LateRefIdeal (hLateIdeal := hLateIdeal) (hLateRefIdeal := hLateRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_PreB_PreBIdeal
    ∧ algebraic_PreBIdeal_PreBRefIdeal_pre_pre_finite (hPreBIdeal := hPreBIdeal) (hPreBRefIdeal := hPreBRefIdeal) (hPre_pre_finite := hPre_pre_finite)
-- ==== Pre_attn_finite.lean ====
abbrev S8x2048x64 : Shape := ⟨3, ![8, 2048, 64]⟩
abbrev S8x2048 : Shape := ⟨2, ![8, 2048]⟩
abbrev S_ : Shape := ⟨0, ![]⟩

class Facts : Prop where
  bcast_S_S8x2048x64 : S_.BroadcastsInDim S8x2048x64 (![] : Fin 0 → Fin S8x2048x64.rank)
  bcast_S_S8x2048 : S_.BroadcastsInDim S8x2048 (![] : Fin 0 → Fin S8x2048.rank)

variable [Facts]

def fn {F : FTy → Type} [FloatOps F] (main_arg0 : FVec F S8x2048x64 .f32) (main_arg1 : FVec F S8x2048x64 .f32) (main_arg2 : FVec F S8x2048x64 .f32) (main_arg3 : FVec F S8x2048 .f32) : IVec S8x2048x64 1 × IVec S8x2048x64 1 × IVec S8x2048x64 1 × IVec S8x2048 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_v3 : FVec F S8x2048x64 .f32 := Host.absf main_arg1
  let main_cst_0 : FVec F S_ .f32 := constant S_ .f32 0x7F800000#32
  let main_v4 : FVec F S8x2048x64 .f32 := broadcastInDim S8x2048x64 ![] bcast_S_S8x2048x64 main_cst_0
  let main_v5 : IVec S8x2048x64 1 := cmpf .olt main_v3 main_v4
  let main_v6 : FVec F S8x2048x64 .f32 := Host.absf main_arg2
  let main_cst_1 : FVec F S_ .f32 := constant S_ .f32 0x7F800000#32
  let main_v7 : FVec F S8x2048x64 .f32 := broadcastInDim S8x2048x64 ![] bcast_S_S8x2048x64 main_cst_1
  let main_v8 : IVec S8x2048x64 1 := cmpf .olt main_v6 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  (main_v2, main_v5, main_v8, main_v11)
-- ==== Pre_pre_finite.lean ====
abbrev S2048x2048 : Shape := ⟨2, ![2048, 2048]⟩
abbrev S2048x128 : Shape := ⟨2, ![2048, 128]⟩
abbrev S1x64 : Shape := ⟨2, ![1, 64]⟩
abbrev S1x128 : Shape := ⟨2, ![1, 128]⟩
abbrev S8x2048x64 : Shape := ⟨3, ![8, 2048, 64]⟩
abbrev S2048x512 : Shape := ⟨2, ![2048, 512]⟩
abbrev S_ : Shape := ⟨0, ![]⟩

class Facts : Prop where
  bcast_S_S2048x2048 : S_.BroadcastsInDim S2048x2048 (![] : Fin 0 → Fin S2048x2048.rank)
  bcast_S_S1x64 : S_.BroadcastsInDim S1x64 (![] : Fin 0 → Fin S1x64.rank)
  bcast_S_S8x2048x64 : S_.BroadcastsInDim S8x2048x64 (![] : Fin 0 → Fin S8x2048x64.rank)

variable [Facts]

def fn {F : FTy → Type} [FloatOps F] (main_arg0 : FVec F S2048x2048 .f32) (main_arg1 : FVec F S2048x128 .f32) (main_arg2 : FVec F S1x64 .f32) (main_arg3 : FVec F S1x64 .f32) (main_arg4 : FVec F S1x128 .f32) (main_arg5 : FVec F S8x2048x64 .f32) (main_arg6 : FVec F S8x2048x64 .f32) (main_arg7 : FVec F S8x2048x64 .f32) (main_arg8 : FVec F S2048x512 .f32) (main_arg9 : FVec F S2048x128 .f32) (main_arg10 : FVec F S2048x128 .f32) : IVec S2048x2048 1 × IVec S1x64 1 × IVec S1x64 1 × IVec S8x2048x64 1 × IVec S8x2048x64 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x64 .f32 := Host.absf main_arg2
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg3
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S8x2048x64 .f32 := Host.absf main_arg5
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_v12 : FVec F S8x2048x64 .f32 := Host.absf main_arg6
  let main_cst_3 : FVec F S_ .f32 := constant S_ .f32 0x7F800000#32
  let main_v13 : FVec F S8x2048x64 .f32 := broadcastInDim S8x2048x64 ![] bcast_S_S8x2048x64 main_cst_3
  let main_v14 : IVec S8x2048x64 1 := cmpf .olt main_v12 main_v13
  (main_v2, main_v5, main_v8, main_v11, main_v14)
-- ==== Pre_tail_finite.lean ====
abbrev S2048x1024 : Shape := ⟨2, ![2048, 1024]⟩
abbrev S2048x512 : Shape := ⟨2, ![2048, 512]⟩
abbrev S8x2048x64 : Shape := ⟨3, ![8, 2048, 64]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  bcast_S_S8x2048x64 : S_.BroadcastsInDim S8x2048x64 (![] : Fin 0 → Fin S8x2048x64.rank)
  bcast_S_S2048x2048 : S_.BroadcastsInDim S2048x2048 (![] : Fin 0 → Fin S2048x2048.rank)
  bitsLt_bf16_f32 : FTy.bits .bf16 < FTy.bits .f32
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S512x1024 .bf16) (main_arg7 : FVec F S512x1024 .bf16) (main_arg8 : FVec F S1024x1024 .bf16) (main_arg9 : FVec F S1x1024 .f32) (main_v2 : IVec S2048x1024 1) (main_v5 : IVec S2048x1024 1) (main_v8 : IVec S2048x512 1) (main_v11 : IVec S8x2048x64 1) (main_v14 : IVec S2048x2048 1) (main_v17 : IVec S2048x2048 1) : IVec S2048x1024 1 × IVec S2048x1024 1 × IVec S2048x512 1 × IVec S8x2048x64 1 × IVec S2048x2048 1 × IVec S2048x2048 1 × IVec S512x1024 1 × IVec S512x1024 1 × IVec S1024x1024 1 × IVec S1x1024 1 :=
  let main_v18 : FVec F S512x1024 .f32 := (extf .f32 · bitsLt_bf16_f32) main_arg6
  let main_v19 : FVec F S512x1024 .f32 := Host.absf main_v18
  let main_cst_5 : FVec F S_ .f32 := constant S_ .f32 0x7F800000#32
  let main_v20 : FVec F S512x1024 .f32 := broadcastInDim S512x1024 ![] bcast_S_S512x1024 main_cst_5
  let main_v21 : IVec S512x1024 1 := cmpf .olt main_v19 main_v20
  let main_v22 : FVec F S512x1024 .f32 := (extf .f32 · bitsLt_bf16_f32) main_arg7
  let main_v23 : FVec F S512x1024 .f32 := Host.absf main_v22
  let main_cst_6 : FVec F S_ .f32 := constant S_ .f32 0x7F800000#32
  let main_v24 : FVec F S512x1024 .f32 := broadcastInDim S512x1024 ![] bcast_S_S512x1024 main_cst_6
  let main_v25 : IVec S512x1024 1 := cmpf .olt main_v23 main_v24
  let main_v26 : FVec F S1024x1024 .f32 := (extf .f32 · bitsLt_bf16_f32) main_arg8
  let main_v27 : FVec F S1024x1024 .f32 := Host.absf main_v26
  let main_cst_7 : FVec F S_ .f32 := constant S_ .f32 0x7F800000#32
  let main_v28 : FVec F S1024x1024 .f32 := broadcastInDim S1024x1024 ![] bcast_S_S1024x1024 main_cst_7
  let main_v29 : IVec S1024x1024 1 := cmpf .olt main_v27 main_v28
  let main_v30 : FVec F S1x1024 .f32 := Host.absf main_arg9
  let main_cst_8 : FVec F S_ .f32 := constant S_ .f32 0x7F800000#32
  let main_v31 : FVec F S1x1024 .f32 := broadcastInDim S1x1024 ![] bcast_S_S1x1024 main_cst_8
  let main_v32 : IVec S1x1024 1 := cmpf .olt main_v30 main_v31
  (main_v2, main_v5, main_v8, main_v11, main_v14, main_v17, main_v21, main_v25, main_v29, main_v32)

def fn {F : FTy → Type} [FloatOps F] (main_arg0 : FVec F S2048x1024 .f32) (main_arg1 : FVec F S2048x1024 .f32) (main_arg2 : FVec F S2048x512 .f32) (main_arg3 : FVec F S8x2048x64 .f32) (main_arg4 : FVec F S2048x2048 .f32) (main_arg5 : FVec F S2048x2048 .f32) (main_arg6 : FVec F S512x1024 .bf16) (main_arg7 : FVec F S512x1024 .bf16) (main_arg8 : FVec F S1024x1024 .bf16) (main_arg9 : FVec F S1x1024 .f32) : IVec S2048x1024 1 × IVec S2048x1024 1 × IVec S2048x512 1 × IVec S8x2048x64 1 × IVec S2048x2048 1 × IVec S2048x2048 1 × IVec S512x1024 1 × IVec S512x1024 1 × IVec S1024x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S8x2048x64 .f32 := Host.absf main_arg3
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  let main_v15 : FVec F S2048x2048 .f32 := Host.absf main_arg5
  let main_cst_4 : FVec F S_ .f32 := constant S_ .f32 0x7F800000#32
  let main_v16 : FVec F S2048x2048 .f32 := broadcastInDim S2048x2048 ![] bcast_S_S2048x2048 main_cst_4
  let main_v17 : IVec S2048x2048 1 := cmpf .olt main_v15 main_v16
  fn_part1 (F := F) main_arg6 main_arg7 main_arg8 main_arg9 main_v2 main_v5 main_v8 main_v11 main_v14 main_v17
-- ==== Tail.lean ====
abbrev S2048x1024 : Shape := ⟨2, ![2048, 1024]⟩
abbrev S2048x512 : Shape := ⟨2, ![2048, 512]⟩
abbrev S8x2048x64 : Shape := ⟨3, ![8, 2048, 64]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S1x1 : Shape := ⟨2, ![1, 1]⟩
abbrev S256x1024 : Shape := ⟨2, ![256, 1024]⟩
abbrev S256x512 : Shape := ⟨2, ![256, 512]⟩
abbrev S8x256x64 : Shape := ⟨3, ![8, 256, 64]⟩
abbrev S256x2048 : Shape := ⟨2, ![256, 2048]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 20
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S8x2048x64, .f32⟩
  | .hbm, ⟨4, _⟩ => ⟨S2048x2048, .f32⟩
  | .hbm, ⟨5, _⟩ => ⟨S2048x2048, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S1x1, .f32⟩
  | .hbm, ⟨11, _⟩ => ⟨S1x1024, .f32⟩
  | .hbm, ⟨12, _⟩ => ⟨S1024x1024, .f32⟩
  | .hbm, ⟨13, _⟩ => ⟨S512x1024, .f32⟩
  | .hbm, ⟨14, _⟩ => ⟨S512x1024, .f32⟩
  | .hbm, ⟨15, _⟩ => ⟨S2048x1024, .f32⟩
  | .hbm, ⟨16, _⟩ => ⟨S2048x512, .f32⟩
  | .hbm, ⟨17, _⟩ => ⟨S8x2048x64, .f32⟩
  | .hbm, ⟨18, _⟩ => ⟨S2048x512, .f32⟩
  | .hbm, ⟨19, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S8x256x64, .f32⟩
  | .local _ .vmem, ⟨7, _⟩ => ⟨S8x256x64, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1, .f32⟩
  | .local _ .vmem, ⟨17, _⟩ => ⟨S1x1024, .f32⟩
  | .local _ .vmem, ⟨18, _⟩ => ⟨S1024x1024, .f32⟩
  | .local _ .vmem, ⟨19, _⟩ => ⟨S512x1024, .f32⟩
  | .local _ .vmem, ⟨20, _⟩ => ⟨S512x1024, .f32⟩
  | .local _ .vmem, ⟨21, _⟩ => ⟨S256x1024, .f32⟩
  | .local _ .vmem, ⟨22, _⟩ => ⟨S256x1024, .f32⟩
  | .local _ .vmem, ⟨23, _⟩ => ⟨S256x512, .f32⟩
  | .local _ .vmem, ⟨24, _⟩ => ⟨S256x512, .f32⟩
  | .local _ .vmem, ⟨25, _⟩ => ⟨S8x256x64, .f32⟩
  | .local _ .vmem, ⟨26, _⟩ => ⟨S8x256x64, .f32⟩
  | .local _ .vmem, ⟨27, _⟩ => ⟨S256x512, .f32⟩
  | .local _ .vmem, ⟨28, _⟩ => ⟨S256x512, .f32⟩
  | .local _ .vmem, ⟨29, _⟩ => ⟨S256x2048, .bf16⟩
  | .local _ .vmem, ⟨30, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== TailRefIdeal.lean ====
abbrev S2048x1024 : Shape := ⟨2, ![2048, 1024]⟩
abbrev S2048x512 : Shape := ⟨2, ![2048, 512]⟩
abbrev S8x2048x64 : Shape := ⟨3, ![8, 2048, 64]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S2048x8x64 : Shape := ⟨3, ![2048, 8, 64]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1024x512 : Shape := ⟨2, ![1024, 512]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S2048x1024, .f32⟩
  | 1 => ⟨S2048x1024, .f32⟩
  | 2 => ⟨S2048x512, .f32⟩
  | 3 => ⟨S8x2048x64, .f32⟩
  | 4 => ⟨S2048x2048, .f32⟩
  | 5 => ⟨S2048x2048, .f32⟩
  | 6 => ⟨S512x1024, .bf16⟩
  | 7 => ⟨S512x1024, .bf16⟩
  | 8 => ⟨S1024x1024, .bf16⟩
  | 9 => ⟨S1x1024, .f32⟩
  | 10 => ⟨S2048x512, .f32⟩
  | 11 => ⟨S512x1024, .f32⟩
  | 12 => ⟨S512x1024, .f32⟩
  | 13 => ⟨S1024x1024, .f32⟩
  | 14 => ⟨S2048x8x64, .f32⟩
  | 15 => ⟨S2048x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S_, .f32⟩
  | 22 => ⟨S2048x512, .f32⟩
  | 23 => ⟨S2048x512, .f32⟩
  | 24 => ⟨S_, .f32⟩
  | 25 => ⟨S2048x512, .f32⟩
  | 26 => ⟨S2048x512, .f32⟩
  | 27 => ⟨S2048x512, .f32⟩
  | 28 => ⟨S2048x512, .f32⟩
  | 29 => ⟨S2048x512, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S_, .f32⟩
  | 65 => ⟨S2048, .f32⟩
  | 66 => ⟨S2048x1, .f32⟩
  | 67 => ⟨S_, .f32⟩
  | 68 => ⟨S2048x1, .f32⟩
  | 69 => ⟨S2048x1, .f32⟩
  | 70 => ⟨S_, .f32⟩
  | 71 => ⟨S2048x1, .f32⟩
  | 72 => ⟨S2048x1, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048, .f32⟩
  | 89 => ⟨S_, .f32⟩
  | 90 => ⟨S2048, .f32⟩
  | 91 => ⟨S2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S2048, .f32⟩
  | 100 => ⟨S_, .f32⟩
  | 101 => ⟨S2048, .f32⟩
  | 102 => ⟨S2048, .f32⟩
  | 103 => ⟨S2048x1024, .f32⟩
  | 104 => ⟨S2048x1024, .f32⟩
  | 105 => ⟨S2048x1024, .f32⟩
  | 106 => ⟨S_, .f32⟩
  | 107 => ⟨S1024, .f32⟩
  | 108 => ⟨S1x1024, .f32⟩
  | 109 => ⟨S2048x1024, .f32⟩
  | 110 => ⟨S2048x1024, .f32⟩
  | 111 => ⟨S2048x1024, .f32⟩
  | 112 => ⟨S_, .f32⟩
  | 113 => ⟨S2048, .f32⟩
  | 114 => ⟨S2048x1, .f32⟩
  | 115 => ⟨S2048x1024, .f32⟩
  | 116 => ⟨S2048x1024, .f32⟩
  | 117 => ⟨S2048x1, .f32⟩
  | 118 => ⟨S_, .f32⟩
  | 119 => ⟨S2048x1, .f32⟩
  | 120 => ⟨S2048x1, .f32⟩
  | 121 => ⟨S_, .f32⟩
  | 122 => ⟨S2048, .f32⟩
  | 123 => ⟨S2048x1024, .f32⟩
  | 124 => ⟨S2048x1024, .f32⟩
  | 125 => ⟨S2048x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S1024x1024, .f32⟩
  | 1 => ⟨S1024x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S1024x512, .f32⟩
  | 9 => ⟨S512x1024, .f32⟩
  | 10 => ⟨S2048x512, .f32⟩
  | 11 => ⟨S2048x1024, .f32⟩
  | 12 => ⟨S2048x2048, .f32⟩
  | 13 => ⟨S1024x512, .f32⟩
  | 14 => ⟨S512x1024, .f32⟩
  | 15 => ⟨S2048x512, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x8x64, .f32⟩
  | 23 => ⟨S8x2048x64, .f32⟩
  | 24 => ⟨S1x1, .f32⟩
  | 25 => ⟨S2048x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v6_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v6_1 : Ref sig .tc := ⟨.hbm, 27, rfl⟩
abbrev main_v6_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_cst_14 : Ref sig .tc := ⟨.hbm, 96, rfl⟩
abbrev main_cst_15 : Ref sig .tc := ⟨.hbm, 97, rfl⟩
abbrev main_v59 : Ref sig .tc := ⟨.hbm, 98, rfl⟩
abbrev main_v60 : Ref sig .tc := ⟨.hbm, 99, rfl⟩
abbrev main_cst_16 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_17 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_v77 : Ref sig .tc := ⟨.hbm, 120, rfl⟩
abbrev main_cst_20 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]
-- ==== Proj.lean ====
abbrev S2048x1024 : Shape := ⟨2, ![2048, 1024]⟩
abbrev S1x1024 : Shape := ⟨2, ![1, 1024]⟩
abbrev S2176x1024 : Shape := ⟨2, ![2176, 1024]⟩
abbrev S128x1024 : Shape := ⟨2, ![128, 1024]⟩
abbrev S2048x2176 : Shape := ⟨2, ![2048, 2176]⟩
abbrev S2048x2048 : Shape := ⟨2, ![2048, 2048]⟩
abbrev S2048x128 : Shape := ⟨2, ![2048, 128]⟩
abbrev S256x1024 : Shape := ⟨2, ![256, 1024]⟩
abbrev S256x2176 : Shape := ⟨2, ![256, 2176]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2176x1024, .bf16⟩
  | .hbm, ⟨3, _⟩ => ⟨S2048x1024, .bf16⟩
  | .hbm, ⟨4, _⟩ => ⟨S2048x1024, .bf16⟩
  | .hbm, ⟨5, _⟩ => ⟨S128x1024, .bf16⟩
  | .hbm, ⟨6, _⟩ => ⟨S2048x1024, .bf16⟩
  | .hbm, ⟨7, _⟩ => ⟨S2048x2176, .f32⟩
  | .hbm, ⟨8, _⟩ => ⟨S2048x2048, .f32⟩
  | .hbm, ⟨9, _⟩ => ⟨S2048x2048, .f32⟩
  | .hbm, ⟨10, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2176x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S256x1024, .bf16⟩
  | .local _ .vmem, ⟨8, _⟩ => ⟨S256x1024, .bf16⟩
  | .local _ .vmem, ⟨9, _⟩ => ⟨S256x2176, .f32⟩
  | .local _ .vmem, ⟨10, _⟩ => ⟨S256x2176, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x128, .f32⟩
  | .local _ .vmem, ⟨16, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S2048x1024 : Shape := ⟨2, ![2048, 1024]⟩
abbrev S1x1024 : Shape := ⟨2, ![1, 1024]⟩
abbrev S2176x1024 : Shape := ⟨2, ![2176, 1024]⟩
abbrev S128x1024 : Shape := ⟨2, ![128, 1024]⟩
abbrev S_ : Shape := ⟨0, ![]⟩
abbrev S2048 : Shape := ⟨1, ![2048]⟩
abbrev S2048x1 : Shape := ⟨2, ![2048, 1]⟩
abbrev S6400x1024 : Shape := ⟨2, ![6400, 1024]⟩
abbrev S1024x6400 : Shape := ⟨2, ![1024, 6400]⟩
abbrev S2048x6400 : Shape := ⟨2, ![2048, 6400]⟩
abbrev S2048x2176 : Shape := ⟨2, ![2048, 2176]⟩
abbrev S2048x2048 : Shape := ⟨2, ![2048, 2048]⟩
abbrev S2048x128 : Shape := ⟨2, ![2048, 128]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2176x1024, .bf16⟩
  | .hbm, ⟨3, _⟩ => ⟨S2048x1024, .bf16⟩
  | .hbm, ⟨4, _⟩ => ⟨S2048x1024, .bf16⟩
  | .hbm, ⟨5, _⟩ => ⟨S128x1024, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S6400x1024, .bf16⟩
  | .hbm, ⟨22, _⟩ => ⟨S6400x1024, .f32⟩
  | .hbm, ⟨23, _⟩ => ⟨S1024x6400, .f32⟩
  | .hbm, ⟨24, _⟩ => ⟨S2048x6400, .f32⟩
  | .hbm, ⟨25, _⟩ => ⟨S2048x1024, .bf16⟩
  | .hbm, ⟨26, _⟩ => ⟨S2048x2176, .f32⟩
  | .hbm, ⟨27, _⟩ => ⟨S2048x2048, .f32⟩
  | .hbm, ⟨28, _⟩ => ⟨S2048x2048, .f32⟩
  | .hbm, ⟨29, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Early.lean ====
abbrev S2048x1024 : Shape := ⟨2, ![2048, 1024]⟩
abbrev S1x1024 : Shape := ⟨2, ![1, 1024]⟩
abbrev S2048x2048 : Shape := ⟨2, ![2048, 2048]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S5x785x1024 : Shape := ⟨3, ![5, 785, 1024]⟩
abbrev S184x1024 : Shape := ⟨2, ![184, 1024]⟩
abbrev S512x1024 : Shape := ⟨2, ![512, 1024]⟩
abbrev S512x2048 : Shape := ⟨2, ![512, 2048]⟩
abbrev S512x128 : Shape := ⟨2, ![512, 128]⟩
abbrev S128x1024 : Shape := ⟨2, ![128, 1024]⟩
abbrev S785x1024 : Shape := ⟨2, ![785, 1024]⟩
abbrev S1x785x1024 : Shape := ⟨3, ![1, 785, 1024]⟩
abbrev S299x1024 : Shape := ⟨2, ![299, 1024]⟩
abbrev S8x1024 : Shape := ⟨2, ![8, 1024]⟩
abbrev S478x1024 : Shape := ⟨2, ![478, 1024]⟩

abbrev nBuf : Space → Nat
  | .hbm => 23
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .bf16⟩
  | .hbm, ⟨3, _⟩ => ⟨S2048x2048, .bf16⟩
  | .hbm, ⟨4, _⟩ => ⟨S2048x128, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S5x785x1024, .bf16⟩
  | .hbm, ⟨22, _⟩ => ⟨S184x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S5x785x1024, .bf16⟩
  | .local _ .vmem, ⟨9, _⟩ => ⟨S184x1024, .f32⟩
  | .local _ .vmem, ⟨10, _⟩ => ⟨S2048x1024, .f32⟩
  | .local _ .vmem, ⟨11, _⟩ => ⟨S2048x1024, .f32⟩
  | .local _ .vmem, ⟨12, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v26 : BitVec 1 := Scalar.cmpi .eq arg0 c3_i32
  let v27 : BitVec 32 := Scalar.extui v26
  let c0_i32_22 : BitVec 32 := 0#32
  let v28 : BitVec 1 := Scalar.cmpi .ne v27 c0_i32_22
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x785x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S184x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== EarlyRefIdeal.lean ====
abbrev S2048x1024 : Shape := ⟨2, ![2048, 1024]⟩
abbrev S1x1024 : Shape := ⟨2, ![1, 1024]⟩
abbrev S2048x2048 : Shape := ⟨2, ![2048, 2048]⟩
abbrev S2048x128 : Shape := ⟨2, ![2048, 128]⟩
abbrev S2048x8 : Shape := ⟨2, ![2048, 8]⟩
abbrev S2048x4104 : Shape := ⟨2, ![2048, 4104]⟩
abbrev S_ : Shape := ⟨0, ![]⟩
abbrev S1024x4104 : Shape := ⟨2, ![1024, 4104]⟩
abbrev S2048 : Shape := ⟨1, ![2048]⟩
abbrev S2048x1 : Shape := ⟨2, ![2048, 1]⟩
abbrev S4104x1024 : Shape := ⟨2, ![4104, 1024]⟩
abbrev S3925x1024 : Shape := ⟨2, ![3925, 1024]⟩
abbrev S5x785x1024 : Shape := ⟨3, ![5, 785, 1024]⟩
abbrev S184x1024 : Shape := ⟨2, ![184, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .bf16⟩
  | .hbm, ⟨3, _⟩ => ⟨S2048x2048, .bf16⟩
  | .hbm, ⟨4, _⟩ => ⟨S2048x128, .bf16⟩
  | .hbm, ⟨5, _⟩ => ⟨S2048x8, .bf16⟩
  | .hbm, ⟨6, _⟩ => ⟨S2048x4104, .bf16⟩
  | .hbm, ⟨7, _⟩ => ⟨S2048x4104, .f32⟩
  | .hbm, ⟨8, _⟩ => ⟨S_, .f32⟩
  | .hbm, ⟨9, _⟩ => ⟨S1024x4104, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x4104, .f32⟩
  | .hbm, ⟨26, _⟩ => ⟨S4104x1024, .f32⟩
  | .hbm, ⟨27, _⟩ => ⟨S1024x4104, .f32⟩
  | .hbm, ⟨28, _⟩ => ⟨S4104x1024, .f32⟩
  | .hbm, ⟨29, _⟩ => ⟨S3925x1024, .f32⟩
  | .hbm, ⟨30, _⟩ => ⟨S5x785x1024, .f32⟩
  | .hbm, ⟨31, _⟩ => ⟨S5x785x1024, .bf16⟩
  | .hbm, ⟨32, _⟩ => ⟨S184x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Late.lean ====
abbrev S2048x1024 : Shape := ⟨2, ![2048, 1024]⟩
abbrev S1x1024 : Shape := ⟨2, ![1, 1024]⟩
abbrev S2048x2176 : Shape := ⟨2, ![2048, 2176]⟩
abbrev S184x1024 : Shape := ⟨2, ![184, 1024]⟩
abbrev S_ : Shape := ⟨0, ![]⟩
abbrev S2048 : Shape := ⟨1, ![2048]⟩
abbrev S2048x1 : Shape := ⟨2, ![2048, 1]⟩
abbrev S3x785x1024 : Shape := ⟨3, ![3, 785, 1024]⟩
abbrev S512x1024 : Shape := ⟨2, ![512, 1024]⟩
abbrev S512x2176 : Shape := ⟨2, ![512, 2176]⟩
abbrev S2176x1024 : Shape := ⟨2, ![2176, 1024]⟩
abbrev S785x1024 : Shape := ⟨2, ![785, 1024]⟩
abbrev S1x785x1024 : Shape := ⟨3, ![1, 785, 1024]⟩
abbrev S606x1024 : Shape := ⟨2, ![606, 1024]⟩
abbrev S179x1024 : Shape := ⟨2, ![179, 1024]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2176, .bf16⟩
  | .hbm, ⟨3, _⟩ => ⟨S184x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S3x785x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2176, .bf16⟩
  | .local _ .vmem, ⟨3, _⟩ => ⟨S512x2176, .bf16⟩
  | .local _ .vmem, ⟨4, _⟩ => ⟨S184x1024, .f32⟩
  | .local _ .vmem, ⟨5, _⟩ => ⟨S3x785x1024, .bf16⟩
  | .local _ .vmem, ⟨6, _⟩ => ⟨S2176x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S184x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x785x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LateRefIdeal.lean ====
abbrev S2048x1024 : Shape := ⟨2, ![2048, 1024]⟩
abbrev S1x1024 : Shape := ⟨2, ![1, 1024]⟩
abbrev S2048x2176 : Shape := ⟨2, ![2048, 2176]⟩
abbrev S184x1024 : Shape := ⟨2, ![184, 1024]⟩
abbrev S_ : Shape := ⟨0, ![]⟩
abbrev S1024x2176 : Shape := ⟨2, ![1024, 2176]⟩
abbrev S2048 : Shape := ⟨1, ![2048]⟩
abbrev S2048x1 : Shape := ⟨2, ![2048, 1]⟩
abbrev S2176x1024 : Shape := ⟨2, ![2176, 1024]⟩
abbrev S179x1024 : Shape := ⟨2, ![179, 1024]⟩
abbrev S2355x1024 : Shape := ⟨2, ![2355, 1024]⟩
abbrev S3x785x1024 : Shape := ⟨3, ![3, 785, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2176, .bf16⟩
  | .hbm, ⟨3, _⟩ => ⟨S184x1024, .f32⟩
  | .hbm, ⟨4, _⟩ => ⟨S_, .f32⟩
  | .hbm, ⟨5, _⟩ => ⟨S1024x2176, .f32⟩
  | .hbm, ⟨6, _⟩ => ⟨S2048x2176, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x2176, .f32⟩
  | .hbm, ⟨23, _⟩ => ⟨S2176x1024, .f32⟩
  | .hbm, ⟨24, _⟩ => ⟨S1024x2176, .f32⟩
  | .hbm, ⟨25, _⟩ => ⟨S2176x1024, .f32⟩
  | .hbm, ⟨26, _⟩ => ⟨S179x1024, .f32⟩
  | .hbm, ⟨27, _⟩ => ⟨S2355x1024, .f32⟩
  | .hbm, ⟨28, _⟩ => ⟨S3x785x1024, .f32⟩
  | .hbm, ⟨29, _⟩ => ⟨S3x785x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Attn.lean ====
abbrev S8x2048x64 : Shape := ⟨3, ![8, 2048, 64]⟩
abbrev S8x2048 : Shape := ⟨2, ![8, 2048]⟩
abbrev S8x2048x1 : Shape := ⟨3, ![8, 2048, 1]⟩
abbrev S8x1x2048 : Shape := ⟨3, ![8, 1, 2048]⟩
abbrev S1x256x64 : Shape := ⟨3, ![1, 256, 64]⟩
abbrev S1x2048x64 : Shape := ⟨3, ![1, 2048, 64]⟩
abbrev S1x256x1 : Shape := ⟨3, ![1, 256, 1]⟩
abbrev S1x1x2048 : Shape := ⟨3, ![1, 1, 2048]⟩
abbrev S256x64 : Shape := ⟨2, ![256, 64]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S1x512x64 : Shape := ⟨3, ![1, 512, 64]⟩
abbrev S512x64 : Shape := ⟨2, ![512, 64]⟩
abbrev S256x512 : Shape := ⟨2, ![256, 512]⟩
abbrev S1x1x512 : Shape := ⟨3, ![1, 1, 512]⟩
abbrev S1x512 : Shape := ⟨2, ![1, 512]⟩
abbrev S1x768x64 : Shape := ⟨3, ![1, 768, 64]⟩
abbrev S768x64 : Shape := ⟨2, ![768, 64]⟩
abbrev S256x768 : Shape := ⟨2, ![256, 768]⟩
abbrev S1x1x768 : Shape := ⟨3, ![1, 1, 768]⟩
abbrev S1x768 : Shape := ⟨2, ![1, 768]⟩
abbrev S1x1024x64 : Shape := ⟨3, ![1, 1024, 64]⟩
abbrev S1024x64 : Shape := ⟨2, ![1024, 64]⟩
abbrev S256x1024 : Shape := ⟨2, ![256, 1024]⟩
abbrev S1x1x1024 : Shape := ⟨3, ![1, 1, 1024]⟩
abbrev S1x1024 : Shape := ⟨2, ![1, 1024]⟩
abbrev S1x1280x64 : Shape := ⟨3, ![1, 1280, 64]⟩
abbrev S1280x64 : Shape := ⟨2, ![1280, 64]⟩
abbrev S256x1280 : Shape := ⟨2, ![256, 1280]⟩
abbrev S1x1x1280 : Shape := ⟨3, ![1, 1, 1280]⟩
abbrev S1x1280 : Shape := ⟨2, ![1, 1280]⟩
abbrev S1x1536x64 : Shape := ⟨3, ![1, 1536, 64]⟩
abbrev S1536x64 : Shape := ⟨2, ![1536, 64]⟩
abbrev S256x1536 : Shape := ⟨2, ![256, 1536]⟩
abbrev S1x1x1536 : Shape := ⟨3, ![1, 1, 1536]⟩
abbrev S1x1536 : Shape := ⟨2, ![1, 1536]⟩
abbrev S1x1792x64 : Shape := ⟨3, ![1, 1792, 64]⟩
abbrev S1792x64 : Shape := ⟨2, ![1792, 64]⟩
abbrev S256x1792 : Shape := ⟨2, ![256, 1792]⟩
abbrev S1x1x1792 : Shape := ⟨3, ![1, 1, 1792]⟩
abbrev S1x1792 : Shape := ⟨2, ![1, 1792]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048x1, .f32⟩
  | .hbm, ⟨5, _⟩ => ⟨S8x1x2048, .f32⟩
  | .hbm, ⟨6, _⟩ => ⟨S8x2048x64, .f32⟩
  | .hbm, ⟨7, _⟩ => ⟨S8x2048x1, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S1x256x64, .f32⟩
  | .local _ .vmem, ⟨11, _⟩ => ⟨S1x256x64, .f32⟩
  | .local _ .vmem, ⟨12, _⟩ => ⟨S1x256x1, .f32⟩
  | .local _ .vmem, ⟨13, _⟩ => ⟨S1x256x1, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_8 : BitVec 32 := 0#32
  let v21 : BitVec 1 := Scalar.cmpi .sgt arg1 c0_i32_8
  let v22 : BitVec 32 := Scalar.extui v21
  let c0_i32_9 : BitVec 32 := 0#32
  let v23 : BitVec 1 := Scalar.cmpi .slt arg1 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg1 c1_i32_7
  let c0_i32_12 : BitVec 32 := 0#32
  let v33 : BitVec 1 := Scalar.cmpi .ne v32 c0_i32_12
  let v34 : BitVec 1 := Scalar.andi v31 v33
  let v20 : BitVec 32 := Scalar.divsi arg1 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def k0_cond3 (i : grid0.Coords) : BitVec 1 :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c1_i32_16 : BitVec 32 := 1#32
  let c0_i32_19 : BitVec 32 := 0#32
  let v46 : BitVec 1 := Scalar.cmpi .sgt c1_i32_16 c0_i32_19
  let v47 : BitVec 32 := Scalar.extui v46
  let c0_i32_20 : BitVec 32 := 0#32
  let v48 : BitVec 1 := Scalar.cmpi .slt c1_i32_16 c0_i32_20
  let v49 : BitVec 32 := Scalar.extui v48
  let v50 : BitVec 32 := Scalar.subi v47 v49
  let v51 : BitVec 1 := Scalar.cmpi .ne v45 v50
  let v52 : BitVec 32 := Scalar.remsi arg1 c1_i32_16
  let c0_i32_21 : BitVec 32 := 0#32
  let v53 : BitVec 1 := Scalar.cmpi .ne v52 c0_i32_21
  let v54 : BitVec 1 := Scalar.andi v51 v53
  let v40 : BitVec 32 := Scalar.divsi arg1 c1_i32_16
  let c1_i32_22 : BitVec 32 := 1#32
  let v55 : BitVec 32 := Scalar.subi v40 c1_i32_22
  let v56 : BitVec 32 := Scalar.select v54 v55 v40
  let c2_i32 : BitVec 32 := 2#32
  let v57 : BitVec 1 := Scalar.cmpi .eq v56 c2_i32
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32_24 : BitVec 32 := 1#32
  let c0_i32_27 : BitVec 32 := 0#32
  let v66 : BitVec 1 := Scalar.cmpi .sgt c1_i32_24 c0_i32_27
  let v67 : BitVec 32 := Scalar.extui v66
  let c0_i32_28 : BitVec 32 := 0#32
  let v68 : BitVec 1 := Scalar.cmpi .slt c1_i32_24 c0_i32_28
  let v69 : BitVec 32 := Scalar.extui v68
  let v70 : BitVec 32 := Scalar.subi v67 v69
  let v71 : BitVec 1 := Scalar.cmpi .ne v65 v70
  let v72 : BitVec 32 := Scalar.remsi arg1 c1_i32_24
  let c0_i32_29 : BitVec 32 := 0#32
  let v73 : BitVec 1 := Scalar.cmpi .ne v72 c0_i32_29
  let v74 : BitVec 1 := Scalar.andi v71 v73
  let v60 : BitVec 32 := Scalar.divsi arg1 c1_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_cond5 (i : grid0.Coords) : BitVec 1 :=
  let arg1 : BitVec 32 := BitVec.ofNat 32 (i 1).val
  let c0_i32_33 : BitVec 32 := 0#32
  let v81 : BitVec 1 := Scalar.cmpi .sgt arg1 c0_i32_33
  let v82 : BitVec 32 := Scalar.extui v81
  let c0_i32_34 : BitVec 32 := 0#32
  let v83 : BitVec 1 := Scalar.cmpi .slt arg1 c0_i32_34
  let v84 : BitVec 32 := Scalar.extui v83
  let v85 : BitVec 32 := Scalar.subi v82 v84
  let c1_i32_32 : BitVec 32 := 1#32
  let c0_i32_35 : BitVec 32 := 0#32
  let v86 : BitVec 1 := Scalar.cmpi .sgt c1_i32_32 c0_i32_35
  let v87 : BitVec 32 := Scalar.extui v86
  let c0_i32_36 : BitVec 32 := 0#32
  let v88 : BitVec 1 := Scalar.cmpi .slt c1_i32_32 c0_i32_36
  let v89 : BitVec 32 := Scalar.extui v88
  let v90 : BitVec 32 := Scalar.subi v87 v89
  let v91 : BitVec 1 := Scalar.cmpi .ne v85 v90
  let v92 : BitVec 32 := Scalar.remsi arg1 c1_i32_32
  let c0_i32_37 : BitVec 32 := 0#32
  let v93 : BitVec 1 := Scalar.cmpi .ne v92 c0_i32_37
  let v94 : BitVec 1 := Scalar.andi v91 v93
  let v80 : BitVec 32 := Scalar.divsi arg1 c1_i32_32
  let c1_i32_38 : BitVec 32 := 1#32
  let v95 : BitVec 32 := Scalar.subi v80 c1_i32_38
  let v96 : BitVec 32 := Scalar.select v94 v95 v80
  let c4_i32 : BitVec 32 := 4#32
  let v97 : BitVec 1 := Scalar.cmpi .eq v96 c4_i32
  let v98 : BitVec 32 := Scalar.extui v97
  let c0_i32_39 : BitVec 32 := 0#32
  let v99 : BitVec 1 := Scalar.cmpi .ne v98 c0_i32_39
  v99

def k0_cond6 (i : grid0.Coords) : BitVec 1 :=
  let arg1 : BitVec 32 := BitVec.ofNat 32 (i 1).val
  let c0_i32_41 : BitVec 32 := 0#32
  let v101 : BitVec 1 := Scalar.cmpi .sgt arg1 c0_i32_41
  let v102 : BitVec 32 := Scalar.extui v101
  let c0_i32_42 : BitVec 32 := 0#32
  let v103 : BitVec 1 := Scalar.cmpi .slt arg1 c0_i32_42
  let v104 : BitVec 32 := Scalar.extui v103
  let v105 : BitVec 32 := Scalar.subi v102 v104
  let c1_i32_40 : BitVec 32 := 1#32
  let c0_i32_43 : BitVec 32 := 0#32
  let v106 : BitVec 1 := Scalar.cmpi .sgt c1_i32_40 c0_i32_43
  let v107 : BitVec 32 := Scalar.extui v106
  let c0_i32_44 : BitVec 32 := 0#32
  let v108 : BitVec 1 := Scalar.cmpi .slt c1_i32_40 c0_i32_44
  let v109 : BitVec 32 := Scalar.extui v108
  let v110 : BitVec 32 := Scalar.subi v107 v109
  let v111 : BitVec 1 := Scalar.cmpi .ne v105 v110
  let v112 : BitVec 32 := Scalar.remsi arg1 c1_i32_40
  let c0_i32_45 : BitVec 32 := 0#32
  let v113 : BitVec 1 := Scalar.cmpi .ne v112 c0_i32_45
  let v114 : BitVec 1 := Scalar.andi v111 v113
  let v100 : BitVec 32 := Scalar.divsi arg1 c1_i32_40
  let c1_i32_46 : BitVec 32 := 1#32
  let v115 : BitVec 32 := Scalar.subi v100 c1_i32_46
  let v116 : BitVec 32 := Scalar.select v114 v115 v100
  let c5_i32 : BitVec 32 := 5#32
  let v117 : BitVec 1 := Scalar.cmpi .eq v116 c5_i32
  let v118 : BitVec 32 := Scalar.extui v117
  let c0_i32_47 : BitVec 32 := 0#32
  let v119 : BitVec 1 := Scalar.cmpi .ne v118 c0_i32_47
  v119

def k0_cond7 (i : grid0.Coords) : BitVec 1 :=
  let arg1 : BitVec 32 := BitVec.ofNat 32 (i 1).val
  let c0_i32_49 : BitVec 32 := 0#32
  let v121 : BitVec 1 := Scalar.cmpi .sgt arg1 c0_i32_49
  let v122 : BitVec 32 := Scalar.extui v121
  let c0_i32_50 : BitVec 32 := 0#32
  let v123 : BitVec 1 := Scalar.cmpi .slt arg1 c0_i32_50
  let v124 : BitVec 32 := Scalar.extui v123
  let v125 : BitVec 32 := Scalar.subi v122 v124
  let c1_i32_48 : BitVec 32 := 1#32
  let c0_i32_51 : BitVec 32 := 0#32
  let v126 : BitVec 1 := Scalar.cmpi .sgt c1_i32_48 c0_i32_51
  let v127 : BitVec 32 := Scalar.extui v126
  let c0_i32_52 : BitVec 32 := 0#32
  let v128 : BitVec 1 := Scalar.cmpi .slt c1_i32_48 c0_i32_52
  let v129 : BitVec 32 := Scalar.extui v128
  let v130 : BitVec 32 := Scalar.subi v127 v129
  let v131 : BitVec 1 := Scalar.cmpi .ne v125 v130
  let v132 : BitVec 32 := Scalar.remsi arg1 c1_i32_48
  let c0_i32_53 : BitVec 32 := 0#32
  let v133 : BitVec 1 := Scalar.cmpi .ne v132 c0_i32_53
  let v134 : BitVec 1 := Scalar.andi v131 v133
  let v120 : BitVec 32 := Scalar.divsi arg1 c1_i32_48
  let c1_i32_54 : BitVec 32 := 1#32
  let v135 : BitVec 32 := Scalar.subi v120 c1_i32_54
  let v136 : BitVec 32 := Scalar.select v134 v135 v120
  let c6_i32 : BitVec 32 := 6#32
  let v137 : BitVec 1 := Scalar.cmpi .eq v136 c6_i32
  let v138 : BitVec 32 := Scalar.extui v137
  let c0_i32_55 : BitVec 32 := 0#32
  let v139 : BitVec 1 := Scalar.cmpi .ne v138 c0_i32_55
  v139

def k0_cond8 (i : grid0.Coords) : BitVec 1 :=
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c1_i32_56 : BitVec 32 := 1#32
  let c0_i32_59 : BitVec 32 := 0#32
  let v146 : BitVec 1 := Scalar.cmpi .sgt c1_i32_56 c0_i32_59
  let v147 : BitVec 32 := Scalar.extui v146
  let c0_i32_60 : BitVec 32 := 0#32
  let v148 : BitVec 1 := Scalar.cmpi .slt c1_i32_56 c0_i32_60
  let v149 : BitVec 32 := Scalar.extui v148
  let v150 : BitVec 32 := Scalar.subi v147 v149
  let v151 : BitVec 1 := Scalar.cmpi .ne v145 v150
  let v152 : BitVec 32 := Scalar.remsi arg1 c1_i32_56
  let c0_i32_61 : BitVec 32 := 0#32
  let v153 : BitVec 1 := Scalar.cmpi .ne v152 c0_i32_61
  let v154 : BitVec 1 := Scalar.andi v151 v153
  let v140 : BitVec 32 := Scalar.divsi arg1 c1_i32_56
  let c1_i32_62 : BitVec 32 := 1#32
  let v155 : BitVec 32 := Scalar.subi v140 c1_i32_62
  let v156 : BitVec 32 := Scalar.select v154 v155 v140
  let c7_i32 : BitVec 32 := 7#32
  let v157 : BitVec 1 := Scalar.cmpi .eq v156 c7_i32
  let v158 : BitVec 32 := Scalar.extui v157
  let c0_i32_63 : BitVec 32 := 0#32
  let v159 : BitVec 1 := Scalar.cmpi .ne v158 c0_i32_63
  v159

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x2048x64 : Shape := ⟨3, ![8, 2048, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x64, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x1, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== PreB.lean ====
abbrev S2048x2048 : Shape := ⟨2, ![2048, 2048]⟩
abbrev S2048x128 : Shape := ⟨2, ![2048, 128]⟩
abbrev S1x64 : Shape := ⟨2, ![1, 64]⟩
abbrev S1x128 : Shape := ⟨2, ![1, 128]⟩
abbrev S8x2048x64 : Shape := ⟨3, ![8, 2048, 64]⟩
abbrev S2048x512 : Shape := ⟨2, ![2048, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S256x2048 : Shape := ⟨2, ![256, 2048]⟩
abbrev S256x128 : Shape := ⟨2, ![256, 128]⟩
abbrev S8x256x64 : Shape := ⟨3, ![8, 256, 64]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩
abbrev S128 : Shape := ⟨1, ![128]⟩
abbrev S512 : Shape := ⟨1, ![512]⟩
abbrev S256x384 : Shape := ⟨2, ![256, 384]⟩

abbrev nBuf : Space → Nat
  | .hbm => 22
  | .vmem => 27
  | .smem => 0
  | _ => 0

abbrev bufTy : (tb : Table) → Fin (tcTables nBuf tb) → BufTy
  | .hbm, ⟨0, _⟩ => ⟨S2048x2048, .f32⟩
  | .hbm, ⟨1, _⟩ => ⟨S2048x128, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S8x2048x64, .f32⟩
  | .hbm, ⟨6, _⟩ => ⟨S8x2048x64, .f32⟩
  | .hbm, ⟨7, _⟩ => ⟨S8x2048x64, .f32⟩
  | .hbm, ⟨8, _⟩ => ⟨S2048x512, .f32⟩
  | .hbm, ⟨9, _⟩ => ⟨S2048x128, .f32⟩
  | .hbm, ⟨10, _⟩ => ⟨S2048x128, .f32⟩
  | .hbm, ⟨11, _⟩ => ⟨S1x1x1x64, .f32⟩
  | .hbm, ⟨12, _⟩ => ⟨S1x1x8x64, .f32⟩
  | .hbm, ⟨13, _⟩ => ⟨S1x512, .f32⟩
  | .hbm, ⟨14, _⟩ => ⟨S1x1x1x64, .f32⟩
  | .hbm, ⟨15, _⟩ => ⟨S1x1x8x64, .f32⟩
  | .hbm, ⟨16, _⟩ => ⟨S1x512, .f32⟩
  | .hbm, ⟨17, _⟩ => ⟨S2048x2048, .bf16⟩
  | .hbm, ⟨18, _⟩ => ⟨S2048x128, .bf16⟩
  | .hbm, ⟨19, _⟩ => ⟨S1x64, .f32⟩
  | .hbm, ⟨20, _⟩ => ⟨S1x64, .f32⟩
  | .hbm, ⟨21, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S8x256x64, .f32⟩
  | .local _ .vmem, ⟨8, _⟩ => ⟨S8x256x64, .f32⟩
  | .local _ .vmem, ⟨9, _⟩ => ⟨S8x256x64, .f32⟩
  | .local _ .vmem, ⟨10, _⟩ => ⟨S8x256x64, .f32⟩
  | .local _ .vmem, ⟨11, _⟩ => ⟨S8x256x64, .f32⟩
  | .local _ .vmem, ⟨12, _⟩ => ⟨S8x256x64, .f32⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x2048, .bf16⟩
  | .local _ .vmem, ⟨20, _⟩ => ⟨S256x2048, .bf16⟩
  | .local _ .vmem, ⟨21, _⟩ => ⟨S256x128, .bf16⟩
  | .local _ .vmem, ⟨22, _⟩ => ⟨S256x128, .bf16⟩
  | .local _ .vmem, ⟨23, _⟩ => ⟨S1x64, .f32⟩
  | .local _ .vmem, ⟨24, _⟩ => ⟨S1x64, .f32⟩
  | .local _ .vmem, ⟨25, _⟩ => ⟨S1x128, .f32⟩
  | .local _ .vmem, ⟨26, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PreBRefIdeal.lean ====
abbrev S2048x2048 : Shape := ⟨2, ![2048, 2048]⟩
abbrev S2048x128 : Shape := ⟨2, ![2048, 128]⟩
abbrev S1x64 : Shape := ⟨2, ![1, 64]⟩
abbrev S1x128 : Shape := ⟨2, ![1, 128]⟩
abbrev S8x2048x64 : Shape := ⟨3, ![8, 2048, 64]⟩
abbrev S2048x512 : Shape := ⟨2, ![2048, 512]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S64 : Shape := ⟨1, ![64]⟩

abbrev nBuf : Space → Nat
  | .hbm => 121
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x128, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S8x2048x64, .f32⟩
  | .hbm, ⟨6, _⟩ => ⟨S8x2048x64, .f32⟩
  | .hbm, ⟨7, _⟩ => ⟨S8x2048x64, .f32⟩
  | .hbm, ⟨8, _⟩ => ⟨S2048x512, .f32⟩
  | .hbm, ⟨9, _⟩ => ⟨S2048x128, .f32⟩
  | .hbm, ⟨10, _⟩ => ⟨S2048x128, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x8x64, .f32⟩
  | .hbm, ⟨16, _⟩ => ⟨S2048x8x64, .f32⟩
  | .hbm, ⟨17, _⟩ => ⟨S_, .f32⟩
  | .hbm, ⟨18, _⟩ => ⟨S2048x8, .f32⟩
  | .hbm, ⟨19, _⟩ => ⟨S2048x8x1, .f32⟩
  | .hbm, ⟨20, _⟩ => ⟨S_, .f32⟩
  | .hbm, ⟨21, _⟩ => ⟨S2048x8x1, .f32⟩
  | .hbm, ⟨22, _⟩ => ⟨S2048x8x1, .f32⟩
  | .hbm, ⟨23, _⟩ => ⟨S_, .f32⟩
  | .hbm, ⟨24, _⟩ => ⟨S2048x8x1, .f32⟩
  | .hbm, ⟨25, _⟩ => ⟨S2048x8x1, .f32⟩
  | .hbm, ⟨26, _⟩ => ⟨S2048x8x1, .f32⟩
  | .hbm, ⟨27, _⟩ => ⟨S2048x8x1, .f32⟩
  | .hbm, ⟨28, _⟩ => ⟨S_, .f32⟩
  | .hbm, ⟨29, _⟩ => ⟨S2048x8x1, .f32⟩
  | .hbm, ⟨30, _⟩ => ⟨S2048x8x1, .f32⟩
  | .hbm, ⟨31, _⟩ => ⟨S2048x8x64, .f32⟩
  | .hbm, ⟨32, _⟩ => ⟨S2048x8x64, .f32⟩
  | .hbm, ⟨33, _⟩ => ⟨S1x1x64, .f32⟩
  | .hbm, ⟨34, _⟩ => ⟨S2048x8x64, .f32⟩
  | .hbm, ⟨35, _⟩ => ⟨S2048x8x64, .f32⟩
  | .hbm, ⟨36, _⟩ => ⟨S8x2048x64, .f32⟩
  | .hbm, ⟨37, _⟩ => ⟨S2048x8x64, .f32⟩
  | .hbm, ⟨38, _⟩ => ⟨S2048x8x64, .f32⟩
  | .hbm, ⟨39, _⟩ => ⟨S_, .f32⟩
  | .hbm, ⟨40, _⟩ => ⟨S2048x8, .f32⟩
  | .hbm, ⟨41, _⟩ => ⟨S2048x8x1, .f32⟩
  | .hbm, ⟨42, _⟩ => ⟨S_, .f32⟩
  | .hbm, ⟨43, _⟩ => ⟨S2048x8x1, .f32⟩
  | .hbm, ⟨44, _⟩ => ⟨S2048x8x1, .f32⟩
  | .hbm, ⟨45, _⟩ => ⟨S_, .f32⟩
  | .hbm, ⟨46, _⟩ => ⟨S2048x8x1, .f32⟩
  | .hbm, ⟨47, _⟩ => ⟨S2048x8x1, .f32⟩
  | .hbm, ⟨48, _⟩ => ⟨S2048x8x1, .f32⟩
  | .hbm, ⟨49, _⟩ => ⟨S2048x8x1, .f32⟩
  | .hbm, ⟨50, _⟩ => ⟨S_, .f32⟩
  | .hbm, ⟨51, _⟩ => ⟨S2048x8x1, .f32⟩
  | .hbm, ⟨52, _⟩ => ⟨S2048x8x1, .f32⟩
  | .hbm, ⟨53, _⟩ => ⟨S2048x8x64, .f32⟩
  | .hbm, ⟨54, _⟩ => ⟨S2048x8x64, .f32⟩
  | .hbm, ⟨55, _⟩ => ⟨S1x1x64, .f32⟩
  | .hbm, ⟨56, _⟩ => ⟨S2048x8x64, .f32⟩
  | .hbm, ⟨57, _⟩ => ⟨S2048x8x64, .f32⟩
  | .hbm, ⟨58, _⟩ => ⟨S8x2048x64, .f32⟩
  | .hbm, ⟨59, _⟩ => ⟨S2048x8x64, .f32⟩
  | .hbm, ⟨60, _⟩ => ⟨S8x2048x64, .f32⟩
  | .hbm, ⟨61, _⟩ => ⟨S2048x8x64, .f32⟩
  | .hbm, ⟨62, _⟩ => ⟨S2048x512, .f32⟩
  | .hbm, ⟨63, _⟩ => ⟨S2048x8x64, .f32⟩
  | .hbm, ⟨64, _⟩ => ⟨S2048x8x64, .f32⟩
  | .hbm, ⟨65, _⟩ => ⟨S_, .f32⟩
  | .hbm, ⟨66, _⟩ => ⟨S64, .f32⟩
  | .hbm, ⟨67, _⟩ => ⟨S1x1x64, .f32⟩
  | .hbm, ⟨68, _⟩ => ⟨S2048x8x64, .f32⟩
  | .hbm, ⟨69, _⟩ => ⟨S2048x8x64, .f32⟩
  | .hbm, ⟨70, _⟩ => ⟨S_, .f32⟩
  | .hbm, ⟨71, _⟩ => ⟨S64, .f32⟩
  | .hbm, ⟨72, _⟩ => ⟨S1x64, .f32⟩
  | .hbm, ⟨73, _⟩ => ⟨S2048x8x64, .f32⟩
  | .hbm, ⟨74, _⟩ => ⟨S_, .f32⟩
  | .hbm, ⟨75, _⟩ => ⟨S2048x8, .f32⟩
  | .hbm, ⟨76, _⟩ => ⟨S2048x8x1, .f32⟩
  | .hbm, ⟨77, _⟩ => ⟨S2048x8x64, .f32⟩
  | .hbm, ⟨78, _⟩ => ⟨S2048x8x64, .f32⟩
  | .hbm, ⟨79, _⟩ => ⟨S2048x8x1, .f32⟩
  | .hbm, ⟨80, _⟩ => ⟨S_, .f32⟩
  | .hbm, ⟨81, _⟩ => ⟨S2048x8x1, .f32⟩
  | .hbm, ⟨82, _⟩ => ⟨S2048x8x1, .f32⟩
  | .hbm, ⟨83, _⟩ => ⟨S_, .f32⟩
  | .hbm, ⟨84, _⟩ => ⟨S2048x8, .f32⟩
  | .hbm, ⟨85, _⟩ => ⟨S2048x8x64, .f32⟩
  | .hbm, ⟨86, _⟩ => ⟨S2048x8x64, .f32⟩
  | .hbm, ⟨87, _⟩ => ⟨S2048x8x64, .f32⟩
  | .hbm, ⟨88, _⟩ => ⟨S2048x8x64, .f32⟩
  | .hbm, ⟨89, _⟩ => ⟨S2048x8x64, .f32⟩
  | .hbm, ⟨90, _⟩ => ⟨S2048x512, .f32⟩
  | .hbm, ⟨91, _⟩ => ⟨S2048x8x64, .f32⟩
  | .hbm, ⟨92, _⟩ => ⟨S2048x8x64, .f32⟩
  | .hbm, ⟨93, _⟩ => ⟨S_, .f32⟩
  | .hbm, ⟨94, _⟩ => ⟨S64, .f32⟩
  | .hbm, ⟨95, _⟩ => ⟨S1x1x64, .f32⟩
  | .hbm, ⟨96, _⟩ => ⟨S2048x8x64, .f32⟩
  | .hbm, ⟨97, _⟩ => ⟨S2048x8x64, .f32⟩
  | .hbm, ⟨98, _⟩ => ⟨S_, .f32⟩
  | .hbm, ⟨99, _⟩ => ⟨S64, .f32⟩
  | .hbm, ⟨100, _⟩ => ⟨S1x64, .f32⟩
  | .hbm, ⟨101, _⟩ => ⟨S2048x8x64, .f32⟩
  | .hbm, ⟨102, _⟩ => ⟨S_, .f32⟩
  | .hbm, ⟨103, _⟩ => ⟨S2048x8, .f32⟩
  | .hbm, ⟨104, _⟩ => ⟨S2048x8x1, .f32⟩
  | .hbm, ⟨105, _⟩ => ⟨S2048x8x64, .f32⟩
  | .hbm, ⟨106, _⟩ => ⟨S2048x8x64, .f32⟩
  | .hbm, ⟨107, _⟩ => ⟨S2048x8x1, .f32⟩
  | .hbm, ⟨108, _⟩ => ⟨S_, .f32⟩
  | .hbm, ⟨109, _⟩ => ⟨S2048x8x1, .f32⟩
  | .hbm, ⟨110, _⟩ => ⟨S2048x8x1, .f32⟩
  | .hbm, ⟨111, _⟩ => ⟨S_, .f32⟩
  | .hbm, ⟨112, _⟩ => ⟨S2048x8, .f32⟩
  | .hbm, ⟨113, _⟩ => ⟨S2048x8x64, .f32⟩
  | .hbm, ⟨114, _⟩ => ⟨S2048x8x64, .f32⟩
  | .hbm, ⟨115, _⟩ => ⟨S2048x8x64, .f32⟩
  | .hbm, ⟨116, _⟩ => ⟨S2048x8x64, .f32⟩
  | .hbm, ⟨117, _⟩ => ⟨S2048x8x64, .f32⟩
  | .hbm, ⟨118, _⟩ => ⟨S2048x512, .f32⟩
  | .hbm, ⟨119, _⟩ => ⟨S2048x2048, .f32⟩
  | .hbm, ⟨120, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Proof.Finite.lean ====
module

public import Idealize.ShloMosaic.Lib.Pointwise
public import Idealize.ShloMosaic.PureOps.Ideal

/-! What the precondition says of one element: an element whose absolute value compares below infinity is a real number. -/

@[expose] public section

noncomputable section

namespace Cert.Finite

open Idealize.ShloMosaic

/-- A value whose absolute value compares below infinity is real. -/
theorem coe_of {x : EReal} (h : Ideal.cmp .olt (max x (-x)) (Ideal.ofBits .f32 0x7F800000#32) = 1#1) :
    x = ((x.toReal : ℝ) : EReal) := by
  have e : Ideal.ofBits .f32 0x7F800000#32 = (⊤ : EReal) := by simp [Ideal.ofBits, Ideal.ieee]
  rw [e] at h
  have h' : max x (-x) < ⊤ := by
    by_contra hn
    exact absurd h (by rw [Ideal.cmp_olt, decide_eq_false hn]; decide)
  refine (EReal.coe_toReal ?_ ?_).symm
  · rintro rfl; simp at h'
  · rintro rfl; simp at h'

/-- … and so for an array all of whose elements compare so. -/
theorem all {S : Shape} {x : S.Idx → EReal} {b : S.Idx → EReal} (hb : ∀ i, b i = Ideal.ofBits .f32 0x7F800000#32)
    (h : (fun i => Ideal.cmp .olt (max (x i) (-(x i))) (b i)) = fun _ => 1#1) (i : S.Idx) :
    x i = (((x i).toReal : ℝ) : EReal) :=
  coe_of (by rw [← hb i]; exact congrFun h i)

end Cert.Finite

end
-- ==== Proof.TailSpec.lean ====
module

public import Idealize.ShloMosaic.PureOps.Ideal
public import Idealize.ShloMosaic.PureOps.Ideal.Laws

/-! The mathematics of the step's head, in real numbers: from the two mixers' outputs through the gated merge, the
output projection, the final RMS norm and the squared error, and back. One token at a time; the gradients of the
weights are sums over the tokens. Nothing here mentions a program. -/

@[expose] public section

noncomputable section

namespace Cert.Head

open Idealize.ShloMosaic

/-! ### Numbers the programs spell as words -/

theorem word_zero : Ideal.ofBits .f32 0x00000000#32 = ((0 : ℝ) : EReal) := by
  simp [Ideal.ofBits, Ideal.ieee, -EReal.coe_mul]
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_2048th : Ideal.ofBits .f32 0x3A000000#32 = ((1 / 2048 : ℝ) : EReal) := by
  simp [Ideal.ofBits, Ideal.ieee, -EReal.coe_mul]; norm_num
theorem word_1024th : Ideal.ofBits .f32 0x3A800000#32 = ((1 / 1024 : ℝ) : EReal) := by
  simp [Ideal.ofBits, Ideal.ieee, -EReal.coe_mul]; norm_num

/-- The norm's small constant, the float nearest to a millionth. -/
def eps : ℝ := 8796093 / 2 ^ 43

theorem eps_pos : 0 < eps := by unfold eps; norm_num

theorem word_eps : Ideal.ofBits .f32 0x358637BD#32 = ((eps : ℝ) : EReal) := by
  unfold eps
  simp [Ideal.ofBits, Ideal.ieee, -EReal.coe_mul]; norm_num

/-! ### Extended reals that are real numbers -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers, the divisor not zero. -/
theorem coe_div' {x y : ℝ} (h : y ≠ 0) : Ideal.div ((x : ℝ) : EReal) ((y : ℝ) : EReal) = ((x / y : ℝ) : EReal) := by
  rw [Ideal.div_coe h, ← EReal.coe_mul]; congr 1; ring

/-- The reciprocal root of a positive number. -/
theorem rsqrt_pos {x : ℝ} (h : 0 < x) : Ideal.rsqrt ((x : ℝ) : EReal) = (((Real.sqrt x)⁻¹ : ℝ) : EReal) := by
  rw [Ideal.rsqrt_coe, if_neg (not_lt.mpr h.le), if_neg h.ne']

/-! ### One token -/

/-- The logistic function. -/
def lgs (x : ℝ) : ℝ := 1 / (1 + Real.exp (-x))

theorem one_add_exp_ne (x : ℝ) : 1 + Real.exp x ≠ 0 := by positivity

/-- The logistic function as the host writes it. -/
theorem sig_host (x : ℝ) : Ideal.div 1 (1 + Ideal.exp (-((x : ℝ) : EReal))) = ((lgs x : ℝ) : EReal) := by
  rw [← EReal.coe_neg, Ideal.exp_coe, ← EReal.coe_one, ← EReal.coe_add, coe_div' (one_add_exp_ne _)]; rfl

/-- The logistic function as the kernel writes it. -/
theorem sig_kernel (x : ℝ) : Ideal.div 1 (1 + Ideal.exp (0 - ((x : ℝ) : EReal))) = ((lgs x : ℝ) : EReal) := by
  rw [zero_sub, sig_host]

/-- One less a real number. -/
theorem one_sub_coe (x : ℝ) : 1 - ((x : ℝ) : EReal) = ((1 - x : ℝ) : EReal) := by
  rw [EReal.coe_sub, EReal.coe_one]

/-- One more than a real number. -/
theorem one_add_coe (x : ℝ) : 1 + ((x : ℝ) : EReal) = ((1 + x : ℝ) : EReal) := by
  rw [EReal.coe_add, EReal.coe_one]

/-- What the head reads of one token: the residual stream, the target, the first mixer's output, the second's
(its heads side by side) with its gate, and the two merge gates. -/
structure Row where
  x : Fin 1024 → ℝ
  t : Fin 1024 → ℝ
  ya : Fin 512 → ℝ
  ov : Fin 512 → ℝ
  g : Fin 512 → ℝ
  ga : Fin 1024 → ℝ
  gb : Fin 1024 → ℝ

/-- The head's weights: the two mixers' output projections, the block's, and the final norm's gain. -/
structure Wts where
  wa : Fin 512 → Fin 1024 → ℝ
  wb : Fin 512 → Fin 1024 → ℝ
  wo : Fin 1024 → Fin 1024 → ℝ
  fg : Fin 1024 → ℝ

variable (R : Row) (W : Wts)

/-- The second mixer's output, gated. -/
def yb (k : Fin 512) : ℝ := R.ov k * (R.g k * lgs (R.g k))
/-- The first mixer's output, projected. -/
def bigA (j : Fin 1024) : ℝ := ∑ k, R.ya k * W.wa k j
/-- The second mixer's output, projected. -/
def bigB (j : Fin 1024) : ℝ := ∑ k, yb R k * W.wb k j
/-- The gated sum of the two. -/
def merged (j : Fin 1024) : ℝ := lgs (R.ga j) * bigA R W j + lgs (R.gb j) * bigB R W j
/-- The residual stream after the block. -/
def strm (j : Fin 1024) : ℝ := R.x j + ∑ k, merged R W k * W.wo k j
/-- Its sum of squares. -/
def ssq : ℝ := ∑ j, strm R W j * strm R W j
/-- Its reciprocal root mean square. -/
def rs : ℝ := (Real.sqrt (ssq R W / 1024 + eps))⁻¹
/-- The stream, normalised. -/
def xn (j : Fin 1024) : ℝ := strm R W j * rs R W
/-- The error against the target. -/
def err (j : Fin 1024) : ℝ := xn R W j * W.fg j - R.t j
/-- The token's squared error. -/
def sqerr : ℝ := ∑ j, err R W j * err R W j
/-- The loss's gradient at the norm's output. -/
def dout (j : Fin 1024) : ℝ := err R W j * (1 / 1024)
/-- … at the normalised stream. -/
def dxn (j : Fin 1024) : ℝ := dout R W j * W.fg j
/-- … at the stream. -/
def dx2 (j : Fin 1024) : ℝ := rs R W * (dxn R W j - xn R W j * ((∑ k, dxn R W k * xn R W k) / 1024))
/-- … at the gated sum. -/
def dmerged (j : Fin 1024) : ℝ := ∑ k, dx2 R W k * W.wo j k
/-- … at the first mixer's projected output. -/
def dbigA (j : Fin 1024) : ℝ := dmerged R W j * lgs (R.ga j)
/-- … at the second's. -/
def dbigB (j : Fin 1024) : ℝ := dmerged R W j * lgs (R.gb j)
/-- … at the first merge gate. -/
def dga (j : Fin 1024) : ℝ := dmerged R W j * bigA R W j * lgs (R.ga j) * (1 - lgs (R.ga j))
/-- … at the second. -/
def dgb (j : Fin 1024) : ℝ := dmerged R W j * bigB R W j * lgs (R.gb j) * (1 - lgs (R.gb j))
/-- … at the first mixer's output. -/
def dya (k : Fin 512) : ℝ := ∑ j, dbigA R W j * W.wa k j
/-- … at the second's, gated. -/
def dyb (k : Fin 512) : ℝ := ∑ j, dbigB R W j * W.wb k j
/-- … at the second mixer's gate. -/
def dgate (k : Fin 512) : ℝ := dyb R W k * R.ov k * (lgs (R.g k) * (1 + R.g k * (1 - lgs (R.g k))))
/-- … at the second mixer's output. -/
def dov (k : Fin 512) : ℝ := dyb R W k * (R.g k * lgs (R.g k))

theorem ssq_nonneg : 0 ≤ ssq R W := Finset.sum_nonneg fun _ _ => mul_self_nonneg _

theorem ms_pos : 0 < ssq R W / 1024 + eps := by
  have := ssq_nonneg R W; have := eps_pos; positivity

theorem rs_sq : rs R W * rs R W = 1 / (ssq R W / 1024 + eps) := by
  unfold rs
  rw [← mul_inv, Real.mul_self_sqrt (ms_pos R W).le, one_div]

end Cert.Head

end
-- ==== Proof.TailPay.lean ====
module

public import proofs.«01_k».proof.Proof.TailSpec
public import proofs.«01_k».proof.Proof.Gen.TailIdeal.Skeleton
public import Idealize.ShloMosaic.Lib.Pointwise

/-! What one grid point of the head computes, in real numbers: every payload of the kernel's body at an index, over a
tile of 256 tokens whose inputs are real. -/

@[expose] public section

set_option maxRecDepth 16384

noncomputable section

namespace Cert.TailIdeal.Pay

open Idealize.ShloMosaic Idealize.ShloMosaic.Pointwise Cert.TailIdeal Cert.TailIdeal.Gen Cert.Head

/-- A tile's inputs, as real numbers: the rows of its 256 tokens and the weights. -/
structure Tile (v3 v4 : Vec Ideal S256x512 .f32) (v13 v15 v17 v19 v21 v23 v25 v27 : Vec Ideal S1x256x64 .f32) (v31 v34 : Vec Ideal S512x1024 .bf16)
    (v37 v45 v56 : Vec Ideal S256x1024 .f32) (v57 : Vec Ideal S1024x1024 .bf16) (v71 : Vec Ideal S1x1024 .f32) (v74 : Vec Ideal S256x1024 .f32)
    (T : Fin 256 → Row) (W : Wts) : Prop where
  h3 : ∀ r k, v3 (ix2 r k) = (((T r).ya k : ℝ) : EReal)
  h4 : ∀ r k, v4 (ix2 r k) = (((T r).g k : ℝ) : EReal)
  ho0 : ∀ r (n : Fin 64) (k : Fin 512), k.val = 0 + n.val → v13 (ix3 0 r n) = (((T r).ov k : ℝ) : EReal)
  ho1 : ∀ r (n : Fin 64) (k : Fin 512), k.val = 64 + n.val → v15 (ix3 0 r n) = (((T r).ov k : ℝ) : EReal)
  ho2 : ∀ r (n : Fin 64) (k : Fin 512), k.val = 128 + n.val → v17 (ix3 0 r n) = (((T r).ov k : ℝ) : EReal)
  ho3 : ∀ r (n : Fin 64) (k : Fin 512), k.val = 192 + n.val → v19 (ix3 0 r n) = (((T r).ov k : ℝ) : EReal)
  ho4 : ∀ r (n : Fin 64) (k : Fin 512), k.val = 256 + n.val → v21 (ix3 0 r n) = (((T r).ov k : ℝ) : EReal)
  ho5 : ∀ r (n : Fin 64) (k : Fin 512), k.val = 320 + n.val → v23 (ix3 0 r n) = (((T r).ov k : ℝ) : EReal)
  ho6 : ∀ r (n : Fin 64) (k : Fin 512), k.val = 384 + n.val → v25 (ix3 0 r n) = (((T r).ov k : ℝ) : EReal)
  ho7 : ∀ r (n : Fin 64) (k : Fin 512), k.val = 448 + n.val → v27 (ix3 0 r n) = (((T r).ov k : ℝ) : EReal)
  h31 : ∀ k j, v31 (ix2 k j) = ((W.wa k j : ℝ) : EReal)
  h34 : ∀ k j, v34 (ix2 k j) = ((W.wb k j : ℝ) : EReal)
  h37 : ∀ r j, v37 (ix2 r j) = (((T r).ga j : ℝ) : EReal)
  h45 : ∀ r j, v45 (ix2 r j) = (((T r).gb j : ℝ) : EReal)
  h56 : ∀ r j, v56 (ix2 r j) = (((T r).x j : ℝ) : EReal)
  h57 : ∀ k j, v57 (ix2 k j) = ((W.wo k j : ℝ) : EReal)
  h71 : ∀ j, v71 (ix2 0 j) = ((W.fg j : ℝ) : EReal)
  h74 : ∀ r j, v74 (ix2 r j) = (((T r).t j : ℝ) : EReal)

variable {v3 v4 : Vec Ideal S256x512 .f32} {v13 v15 v17 v19 v21 v23 v25 v27 : Vec Ideal S1x256x64 .f32} {v31 v34 : Vec Ideal S512x1024 .bf16}
  {v37 v45 v56 : Vec Ideal S256x1024 .f32} {v57 : Vec Ideal S1024x1024 .bf16} {v71 : Vec Ideal S1x1024 .f32} {v74 : Vec Ideal S256x1024 .f32}
  {T : Fin 256 → Row} {W : Wts}
  (H : Tile v3 v4 v13 v15 v17 v19 v21 v23 v25 v27 v31 v34 v37 v45 v56 v57 v71 v74 T W)

include H

/-- The second mixer's gate through the logistic function. -/
theorem sg_at (r : Fin 256) (k : Fin 512) :
    (k0_pay7 (F := Ideal) v4) (ix2 r k) = ((lgs ((T r).g k) : ℝ) : EReal) := by
  pointwise [k0_pay7]
  rw [H.h4, sig_kernel]

theorem silu_at (r : Fin 256) (k : Fin 512) :
    (k0_pay8 (F := Ideal) v4) (ix2 r k) = (((T r).g k * lgs ((T r).g k) : ℝ) : EReal) := by
  pointwise [k0_pay8]
  simp only [H.h4, sg_at H, ← EReal.coe_mul]

/-- The second mixer's heads, side by side. -/
theorem ov_at (r : Fin 256) (k : Fin 512) :
    (k0_pay16 (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27) (ix2 r k) = (((T r).ov k : ℝ) : EReal) := by
  have hk := k.isLt
  pointwise [k0_pay16, k0_pay9, k0_pay10, k0_pay11, k0_pay12, k0_pay13, k0_pay14, k0_pay15]
  split
  · exact H.ho0 r _ k (by simp only []; omega)
  split
  · exact H.ho1 r _ k (by simp only []; omega)
  split
  · exact H.ho2 r _ k (by simp only []; omega)
  split
  · exact H.ho3 r _ k (by simp only []; omega)
  split
  · exact H.ho4 r _ k (by simp only []; omega)
  split
  · exact H.ho5 r _ k (by simp only []; omega)
  split
  · exact H.ho6 r _ k (by simp only []; omega)
  exact H.ho7 r _ k (by simp only []; omega)

theorem yb_at (r : Fin 256) (k : Fin 512) :
    (k0_pay17 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27) (ix2 r k) = ((yb (T r) k : ℝ) : EReal) := by
  pointwise [k0_pay17]
  simp only [ov_at H, silu_at H, ← EReal.coe_mul]; rfl

theorem bigA_at (r : Fin 256) (j : Fin 1024) :
    (k0_pay18 (F := Ideal) v3 v31) (ix2 r j) = ((bigA (T r) W j : ℝ) : EReal) := by
  pointwise [k0_pay18]
  simp only [H.h3, H.h31, ← EReal.coe_mul, coe_sum]; rfl

theorem bigB_at (r : Fin 256) (j : Fin 1024) :
    (k0_pay19 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v34) (ix2 r j) = ((bigB (T r) W j : ℝ) : EReal) := by
  pointwise [k0_pay19]
  simp only [yb_at H, H.h34, ← EReal.coe_mul, coe_sum]; rfl

theorem sa_at (r : Fin 256) (j : Fin 1024) :
    (k0_pay20 (F := Ideal) v37) (ix2 r j) = ((lgs ((T r).ga j) : ℝ) : EReal) := by
  pointwise [k0_pay20]
  rw [H.h37, sig_kernel]

theorem sb_at (r : Fin 256) (j : Fin 1024) :
    (k0_pay21 (F := Ideal) v45) (ix2 r j) = ((lgs ((T r).gb j) : ℝ) : EReal) := by
  pointwise [k0_pay21]
  rw [H.h45, sig_kernel]

theorem merged_at (r : Fin 256) (j : Fin 1024) :
    (k0_pay22 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45) (ix2 r j) = ((merged (T r) W j : ℝ) : EReal) := by
  pointwise [k0_pay22]
  simp only [sa_at H, sb_at H, bigA_at H, bigB_at H, ← EReal.coe_mul, ← EReal.coe_add]; rfl

theorem strm_at (r : Fin 256) (j : Fin 1024) :
    (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (ix2 r j) = ((strm (T r) W j : ℝ) : EReal) := by
  pointwise [k0_pay23]
  simp only [H.h56, H.h57, merged_at H, ← EReal.coe_mul, coe_sum, ← EReal.coe_add]; rfl

theorem ssq_at (r : Fin 256) :
    (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (ix1 r) = ((ssq (T r) W : ℝ) : EReal) := by
  pointwise [k0_pay24]
  simp only [strm_at H, ← EReal.coe_mul, coe_sum]; rfl

theorem rs_at (r : Fin 256) :
    (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (ix2 r 0) = ((rs (T r) W : ℝ) : EReal) := by
  pointwise [k0_pay25]
  rw [ssq_at H, word_1024, word_eps, coe_div' (by norm_num), ← EReal.coe_add, rsqrt_pos (ms_pos _ _)]; rfl

theorem xn_at (r : Fin 256) (j : Fin 1024) :
    (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (ix2 r j) = ((xn (T r) W j : ℝ) : EReal) := by
  pointwise [k0_pay26]
  simp only [strm_at H, rs_at H, ← EReal.coe_mul]; rfl

theorem err_at (r : Fin 256) (j : Fin 1024) :
    (k0_pay27 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74) (ix2 r j) = ((err (T r) W j : ℝ) : EReal) := by
  pointwise [k0_pay27]
  simp only [xn_at H, H.h71, H.h74, ← EReal.coe_mul, ← EReal.coe_sub]; rfl

theorem dout_at (r : Fin 256) (j : Fin 1024) :
    (k0_pay29 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74) (ix2 r j) = ((dout (T r) W j : ℝ) : EReal) := by
  pointwise [k0_pay29]
  simp only [err_at H, word_1024th, ← EReal.coe_mul]; rfl

theorem dxn_at (r : Fin 256) (j : Fin 1024) :
    (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (ix2 r j) = ((dxn (T r) W j : ℝ) : EReal) := by
  pointwise [k0_pay31]
  simp only [dout_at H, H.h71, ← EReal.coe_mul]; rfl

theorem dxnxn_at (r : Fin 256) (j : Fin 1024) :
    (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (ix2 r j) = ((dxn (T r) W j * xn (T r) W j : ℝ) : EReal) := by
  pointwise [k0_pay32]
  simp only [dxn_at H, xn_at H, ← EReal.coe_mul]

/-- The gradient at the residual stream. -/
theorem dx2_at (r : Fin 256) (j : Fin 1024) :
    (k0_pay33 (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71)) (ix2 r j) = ((dx2 (T r) W j : ℝ) : EReal) := by
  pointwise [k0_pay33]
  simp only [rs_at H, dxn_at H, xn_at H, dxnxn_at H, word_1024, coe_sum, coe_div' (show (1024 : ℝ) ≠ 0 by norm_num), ← EReal.coe_mul, ← EReal.coe_sub]; rfl

theorem dmerged_at (r : Fin 256) (j : Fin 1024) :
    (k0_pay35 (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) (ix2 r j) = ((dmerged (T r) W j : ℝ) : EReal) := by
  pointwise [k0_pay35]
  simp only [dx2_at H, H.h57, ← EReal.coe_mul, coe_sum]; rfl

theorem dbigA_at (r : Fin 256) (j : Fin 1024) :
    (k0_pay36 (k0_pay20 (F := Ideal) v37) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) (ix2 r j) = ((dbigA (T r) W j : ℝ) : EReal) := by
  pointwise [k0_pay36]
  simp only [dmerged_at H, sa_at H, ← EReal.coe_mul]; rfl

theorem dbigB_at (r : Fin 256) (j : Fin 1024) :
    (k0_pay37 (k0_pay21 (F := Ideal) v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) (ix2 r j) = ((dbigB (T r) W j : ℝ) : EReal) := by
  pointwise [k0_pay37]
  simp only [dmerged_at H, sb_at H, ← EReal.coe_mul]; rfl

/-- The gradient at the first merge gate. -/
theorem dga_at (r : Fin 256) (j : Fin 1024) :
    (k0_pay38 (k0_pay18 (F := Ideal) v3 v31) (k0_pay20 (F := Ideal) v37) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) (ix2 r j) = ((dga (T r) W j : ℝ) : EReal) := by
  pointwise [k0_pay38]
  simp only [dmerged_at H, bigA_at H, sa_at H, one_sub_coe, ← EReal.coe_mul]; rfl

/-- The gradient at the second merge gate. -/
theorem dgb_at (r : Fin 256) (j : Fin 1024) :
    (k0_pay39 (k0_pay19 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v34) (k0_pay21 (F := Ideal) v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) (ix2 r j) = ((dgb (T r) W j : ℝ) : EReal) := by
  pointwise [k0_pay39]
  simp only [dmerged_at H, bigB_at H, sb_at H, one_sub_coe, ← EReal.coe_mul]; rfl

/-- The gradient at the first mixer's output. -/
theorem dya_at (r : Fin 256) (k : Fin 512) :
    (k0_pay42 (k0_pay36 (k0_pay20 (F := Ideal) v37) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) v31) (ix2 r k) = ((dya (T r) W k : ℝ) : EReal) := by
  pointwise [k0_pay42]
  simp only [dbigA_at H, H.h31, ← EReal.coe_mul, coe_sum]; rfl

theorem dyb_at (r : Fin 256) (k : Fin 512) :
    (k0_pay43 (k0_pay37 (k0_pay21 (F := Ideal) v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) v34) (ix2 r k) = ((dyb (T r) W k : ℝ) : EReal) := by
  pointwise [k0_pay43]
  simp only [dbigB_at H, H.h34, ← EReal.coe_mul, coe_sum]; rfl

/-- The gradient at the second mixer's gate. -/
theorem dgate_at (r : Fin 256) (k : Fin 512) :
    (k0_pay44 v4 (k0_pay7 (F := Ideal) v4) (k0_pay16 (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27) (k0_pay37 (k0_pay21 (F := Ideal) v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) v34) (ix2 r k) = ((dgate (T r) W k : ℝ) : EReal) := by
  pointwise [k0_pay44]
  simp only [dyb_at H, ov_at H, sg_at H, H.h4, one_sub_coe, one_add_coe, ← EReal.coe_mul]; rfl

/-- The gradient at the second mixer's output, its heads side by side. -/
theorem dov_at (r : Fin 256) (k : Fin 512) :
    (k0_pay45 (k0_pay8 (F := Ideal) v4) (k0_pay37 (k0_pay21 (F := Ideal) v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) v34) (ix2 r k) = ((dov (T r) W k : ℝ) : EReal) := by
  pointwise [k0_pay45]
  simp only [dyb_at H, silu_at H, ← EReal.coe_mul]; rfl

/-- The loss, added into. -/
theorem loss_at (acc : Vec Ideal S1x1 .f32) :
    (k0_pay28 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 acc) (ix2 0 0) = acc (ix2 0 0) + ((∑ r, 1 / 2048 * sqerr (T r) W : ℝ) : EReal) := by
  pointwise [k0_pay28]
  simp only [err_at H, word_2048th, ← EReal.coe_mul, coe_sum]
  congr 2; rw [Finset.mul_sum]; rfl

/-- The norm's gain's gradient, added into. -/
theorem dfg_at (acc : Vec Ideal S1x1024 .f32) (j : Fin 1024) :
    (k0_pay30 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 acc) (ix2 0 j) = acc (ix2 0 j) + ((∑ r, dout (T r) W j * xn (T r) W j : ℝ) : EReal) := by
  pointwise [k0_pay30]
  simp only [dout_at H, xn_at H, ← EReal.coe_mul, coe_sum]

/-- The block's output projection's gradient, added into. -/
theorem dwo_at (acc : Vec Ideal S1024x1024 .f32) (i j : Fin 1024) :
    (k0_pay34 (k0_pay22 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) acc) (ix2 i j) = acc (ix2 i j) + ((∑ r, merged (T r) W i * dx2 (T r) W j : ℝ) : EReal) := by
  pointwise [k0_pay34]
  simp only [merged_at H, dx2_at H, ← EReal.coe_mul, coe_sum]

/-- The first mixer's output projection's gradient, added into. -/
theorem dwoa_at (acc : Vec Ideal S512x1024 .f32) (i : Fin 512) (j : Fin 1024) :
    (k0_pay40 v3 (k0_pay36 (k0_pay20 (F := Ideal) v37) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) acc) (ix2 i j) = acc (ix2 i j) + ((∑ r, (T r).ya i * dbigA (T r) W j : ℝ) : EReal) := by
  pointwise [k0_pay40]
  simp only [H.h3, dbigA_at H, ← EReal.coe_mul, coe_sum]

/-- The second's. -/
theorem dwob_at (acc : Vec Ideal S512x1024 .f32) (i : Fin 512) (j : Fin 1024) :
    (k0_pay41 (k0_pay17 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27) (k0_pay37 (k0_pay21 (F := Ideal) v45) (k0_pay25 (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay26 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57)) (k0_pay31 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) (k0_pay32 (k0_pay23 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) (k0_pay24 v3 (k0_pay8 (F := Ideal) v4) (k0_pay9 (F := Ideal) v13) (k0_pay10 (F := Ideal) v15) (k0_pay11 (F := Ideal) v17) (k0_pay12 (F := Ideal) v19) (k0_pay13 (F := Ideal) v21) (k0_pay14 (F := Ideal) v23) (k0_pay15 (F := Ideal) v25) v27 v31 v34 v37 v45 v56 v57) v71 v74 v71) v57) acc) (ix2 i j) = acc (ix2 i j) + ((∑ r, yb (T r) i * dbigB (T r) W j : ℝ) : EReal) := by
  pointwise [k0_pay41]
  simp only [yb_at H, dbigB_at H, ← EReal.coe_mul, coe_sum]

end Cert.TailIdeal.Pay

end
-- ==== Proof.TailRef.lean ====
module

public import proofs.«01_k».proof.Proof.TailSpec
public import proofs.«01_k».proof.Proof.Gen.TailRefIdeal.Read
public import Idealize.ShloMosaic.Lib.Pointwise

@[expose] public section

set_option maxRecDepth 16384

noncomputable section

namespace Cert.TailRefIdeal.Val

open Idealize.ShloMosaic Idealize.ShloMosaic.Pointwise Cert.TailRefIdeal Cert.TailRefIdeal.Gen Cert.Head

/-- The reference's arguments, as real numbers: the tokens' rows and the weights. -/
structure Args (x0 x1 : FVec Ideal S2048x1024 .f32) (x2 : FVec Ideal S2048x512 .f32) (x3 : FVec Ideal S8x2048x64 .f32)
    (x4 x5 : FVec Ideal S2048x2048 .f32) (x6 x7 : FVec Ideal S512x1024 .bf16) (x8 : FVec Ideal S1024x1024 .bf16)
    (x9 : FVec Ideal S1x1024 .f32) (T : Fin 2048 → Row) (W : Wts) : Prop where
  h0 : ∀ r j, x0 (ix2 r j) = (((T r).x j : ℝ) : EReal)
  h1 : ∀ r j, x1 (ix2 r j) = (((T r).t j : ℝ) : EReal)
  h2 : ∀ r k, x2 (ix2 r k) = (((T r).ya k : ℝ) : EReal)
  h3 : ∀ (h : Fin 8) r (n : Fin 64) (k : Fin 512), k.val = 64 * h.val + n.val → x3 (ix3 h r n) = (((T r).ov k : ℝ) : EReal)
  h4 : ∀ r (k : Fin 512) (l : Fin 2048), l.val = 1536 + k.val → x4 (ix2 r l) = (((T r).g k : ℝ) : EReal)
  h5a : ∀ r (j : Fin 1024) (l : Fin 2048), l.val = j.val → x5 (ix2 r l) = (((T r).ga j : ℝ) : EReal)
  h5b : ∀ r (j : Fin 1024) (l : Fin 2048), l.val = 1024 + j.val → x5 (ix2 r l) = (((T r).gb j : ℝ) : EReal)
  h6 : ∀ k j, x6 (ix2 k j) = ((W.wa k j : ℝ) : EReal)
  h7 : ∀ k j, x7 (ix2 k j) = ((W.wb k j : ℝ) : EReal)
  h8 : ∀ k j, x8 (ix2 k j) = ((W.wo k j : ℝ) : EReal)
  h9 : ∀ j, x9 (ix2 0 j) = ((W.fg j : ℝ) : EReal)

variable {x0 x1 : FVec Ideal S2048x1024 .f32} {x2 : FVec Ideal S2048x512 .f32} {x3 : FVec Ideal S8x2048x64 .f32}
  {x4 x5 : FVec Ideal S2048x2048 .f32} {x6 x7 : FVec Ideal S512x1024 .bf16} {x8 : FVec Ideal S1024x1024 .bf16}
  {x9 : FVec Ideal S1x1024 .f32} {T : Fin 2048 → Row} {W : Wts}
  (H : Args x0 x1 x2 x3 x4 x5 x6 x7 x8 x9 T W)

include H

/-! ### Forward -/

theorem g_at (r : Fin 2048) (k : Fin 512) : Read.val_main_v0 (F := Ideal) x4 (ix2 r k) = (((T r).g k : ℝ) : EReal) := by
  pointwise [Read.val_main_v0]
  exact H.h4 r k _ (by simp <;> omega)

theorem ov_at (r : Fin 2048) (k : Fin 512) : Read.val_main_v5 (F := Ideal) x3 (ix2 r k) = (((T r).ov k : ℝ) : EReal) := by
  pointwise [Read.val_main_v5, Read.val_main_v4]
  exact H.h3 _ r _ k (by simp <;> omega)

theorem sg_at (r : Fin 2048) (k : Fin 512) : Read.val_main_v6_2 (F := Ideal) x4 (ix2 r k) = ((lgs ((T r).g k) : ℝ) : EReal) := by
  pointwise [Read.val_main_v6_2, Read.val_main_call0_v4, Read.val_main_call0_cst_0, Read.val_main_call0_v3, Read.val_main_call0_v2, Read.val_main_call0_cst, Read.val_main_call0_v1, Read.val_main_call0_v0]
  simp only [g_at H, sig_host]

theorem dsg_at (r : Fin 2048) (k : Fin 512) : Read.val_main_v6_1 (F := Ideal) x4 (ix2 r k) = ((lgs ((T r).g k) * (1 - lgs ((T r).g k)) : ℝ) : EReal) := by
  pointwise [Read.val_main_v6_1, Read.val_main_call0_v7, Read.val_main_call0_v6, Read.val_main_call0_cst_1]
  simp only [sg_at H, one_sub_coe, ← EReal.coe_mul]

theorem silu_at (r : Fin 2048) (k : Fin 512) : Read.val_main_v6_0 (F := Ideal) x4 (ix2 r k) = (((T r).g k * lgs ((T r).g k) : ℝ) : EReal) := by
  pointwise [Read.val_main_v6_0]
  simp only [g_at H, sg_at H, ← EReal.coe_mul]

theorem yb_at (r : Fin 2048) (k : Fin 512) : Read.val_main_v7 (F := Ideal) x3 x4 (ix2 r k) = ((yb (T r) k : ℝ) : EReal) := by
  pointwise [Read.val_main_v7]
  simp only [ov_at H, silu_at H, ← EReal.coe_mul]; rfl

theorem bigB_at (r : Fin 2048) (j : Fin 1024) : Read.val_main_v8 (F := Ideal) x3 x4 x7 (ix2 r j) = ((bigB (T r) W j : ℝ) : EReal) := by
  pointwise [Read.val_main_v8, Read.val_main_v2]
  simp only [yb_at H, H.h7, ← EReal.coe_mul, coe_sum]; rfl

theorem bigA_at (r : Fin 2048) (j : Fin 1024) : Read.val_main_v20 (F := Ideal) x2 x6 (ix2 r j) = ((bigA (T r) W j : ℝ) : EReal) := by
  pointwise [Read.val_main_v20, Read.val_main_v1]
  simp only [H.h2, H.h6, ← EReal.coe_mul, coe_sum]; rfl

theorem sa_at (r : Fin 2048) (j : Fin 1024) : Read.val_main_v16 (F := Ideal) x5 (ix2 r j) = ((lgs ((T r).ga j) : ℝ) : EReal) := by
  pointwise [Read.val_main_v16, Read.val_main_v15, Read.val_main_cst_0, Read.val_main_v14, Read.val_main_v13, Read.val_main_cst, Read.val_main_v12, Read.val_main_v11, Read.val_main_v9]
  rw [H.h5a r j _ (by simp), sig_host]

theorem sb_at (r : Fin 2048) (j : Fin 1024) : Read.val_main_v27 (F := Ideal) x5 (ix2 r j) = ((lgs ((T r).gb j) : ℝ) : EReal) := by
  pointwise [Read.val_main_v27, Read.val_main_v26, Read.val_main_cst_3, Read.val_main_v25, Read.val_main_v24, Read.val_main_cst_2, Read.val_main_v23, Read.val_main_v22, Read.val_main_v10]
  rw [H.h5b r j _ (by simp <;> omega), sig_host]

theorem dsa_at (r : Fin 2048) (j : Fin 1024) : Read.val_main_v19 (F := Ideal) x5 (ix2 r j) = ((lgs ((T r).ga j) * (1 - lgs ((T r).ga j)) : ℝ) : EReal) := by
  pointwise [Read.val_main_v19, Read.val_main_v18, Read.val_main_v17, Read.val_main_cst_1]
  simp only [sa_at H, one_sub_coe, ← EReal.coe_mul]

theorem dsb_at (r : Fin 2048) (j : Fin 1024) : Read.val_main_v30 (F := Ideal) x5 (ix2 r j) = ((lgs ((T r).gb j) * (1 - lgs ((T r).gb j)) : ℝ) : EReal) := by
  pointwise [Read.val_main_v30, Read.val_main_v29, Read.val_main_v28, Read.val_main_cst_4]
  simp only [sb_at H, one_sub_coe, ← EReal.coe_mul]

theorem merged_at (r : Fin 2048) (j : Fin 1024) : Read.val_main_v32 (F := Ideal) x2 x3 x4 x5 x6 x7 (ix2 r j) = ((merged (T r) W j : ℝ) : EReal) := by
  pointwise [Read.val_main_v32, Read.val_main_v21, Read.val_main_v31]
  simp only [sa_at H, sb_at H, bigA_at H, bigB_at H, ← EReal.coe_mul, ← EReal.coe_add]; rfl

theorem x2_at (r : Fin 2048) (j : Fin 1024) : Read.val_main_v34 (F := Ideal) x0 x2 x3 x4 x5 x6 x7 x8 (ix2 r j) = ((strm (T r) W j : ℝ) : EReal) := by
  pointwise [Read.val_main_v34, Read.val_main_v33, Read.val_main_v3]
  simp only [H.h0, H.h8, merged_at H, ← EReal.coe_mul, coe_sum, ← EReal.coe_add]; rfl

/-- The mean square, raised. -/
theorem ms_at (r : Fin 2048) : Read.val_main_v41 (F := Ideal) x0 x2 x3 x4 x5 x6 x7 x8 (ix2 r 0) = ((ssq (T r) W / 1024 + eps : ℝ) : EReal) := by
  pointwise [Read.val_main_v41, Read.val_main_v40, Read.val_main_cst_7, Read.val_main_v39, Read.val_main_v38, Read.val_main_cst_6, Read.val_main_v37, Read.val_main_v36, Read.val_main_cst_5, Read.val_main_v35]
  simp only [x2_at H, ← EReal.coe_mul, coe_sum, word_1024, word_eps]
  rw [coe_div' (by norm_num), ← EReal.coe_add]; rfl

theorem rs_at (r : Fin 2048) : Read.val_main_v42 (F := Ideal) x0 x2 x3 x4 x5 x6 x7 x8 (ix2 r 0) = ((rs (T r) W : ℝ) : EReal) := by
  pointwise [Read.val_main_v42]
  rw [ms_at H, rsqrt_pos (ms_pos _ _)]; rfl

theorem xn_at (r : Fin 2048) (j : Fin 1024) : Read.val_main_v47 (F := Ideal) x0 x2 x3 x4 x5 x6 x7 x8 (ix2 r j) = ((xn (T r) W j : ℝ) : EReal) := by
  pointwise [Read.val_main_v47, Read.val_main_v46]
  simp only [x2_at H, rs_at H, ← EReal.coe_mul]; rfl

theorem err_at (r : Fin 2048) (j : Fin 1024) : Read.val_main_v50 (F := Ideal) x0 x1 x2 x3 x4 x5 x6 x7 x8 x9 (ix2 r j) = ((err (T r) W j : ℝ) : EReal) := by
  pointwise [Read.val_main_v50, Read.val_main_v49, Read.val_main_v48]
  simp only [xn_at H, H.h9, H.h1, ← EReal.coe_mul, ← EReal.coe_sub]; rfl

/-- The loss: half the sum over the tokens of the mean squared error. -/
theorem loss_at : Read.val_main_v105 (F := Ideal) x0 x1 x2 x3 x4 x5 x6 x7 x8 x9 (ix2 0 0) = ((∑ r, 1 / 2048 * sqerr (T r) W : ℝ) : EReal) := by
  pointwise [Read.val_main_v105, Read.val_main_v58, Read.val_main_cst_13, Read.val_main_v57, Read.val_main_cst_12, Read.val_main_v56, Read.val_main_v55, Read.val_main_cst_11, Read.val_main_v54, Read.val_main_cst_10, Read.val_main_v51]
  simp only [err_at H, ← EReal.coe_mul, coe_sum, word_1024, word_half, coe_div' (show (1024 : ℝ) ≠ 0 by norm_num)]
  congr 1
  rw [Finset.mul_sum]
  refine Finset.sum_congr rfl fun r _ => ?_
  unfold sqerr; ring

/-! ### Backward -/

theorem dout_at (r : Fin 2048) (j : Fin 1024) : Read.val_main_v64 (F := Ideal) x0 x1 x2 x3 x4 x5 x6 x7 x8 x9 (ix2 r j) = ((dout (T r) W j : ℝ) : EReal) := by
  pointwise [Read.val_main_v64, Read.val_main_v63, Read.val_main_v62, Read.val_main_v61, Read.val_main_cst_16, Read.val_main_v60, Read.val_main_v59, Read.val_main_cst_14, Read.val_main_cst_15, Read.val_main_v53, Read.val_main_v52, Read.val_main_cst_9]
  simp only [err_at H, word_half, word_1024, word_two, mul_one, coe_div' (show (1024 : ℝ) ≠ 0 by norm_num), ← EReal.coe_mul]
  congr 1; unfold dout; ring

theorem dfg_at (j : Fin 1024) : Read.val_main_v67 (F := Ideal) x0 x1 x2 x3 x4 x5 x6 x7 x8 x9 (ix2 0 j) = ((∑ r, dout (T r) W j * xn (T r) W j : ℝ) : EReal) := by
  pointwise [Read.val_main_v67, Read.val_main_v66, Read.val_main_cst_17, Read.val_main_v65]
  simp only [dout_at H, xn_at H, ← EReal.coe_mul, coe_sum]
  congr 1
  exact Finset.sum_congr rfl fun r _ => mul_comm _ _

theorem dxn_at (r : Fin 2048) (j : Fin 1024) : Read.val_main_v69 (F := Ideal) x0 x1 x2 x3 x4 x5 x6 x7 x8 x9 (ix2 r j) = ((dxn (T r) W j : ℝ) : EReal) := by
  pointwise [Read.val_main_v69, Read.val_main_v68]
  simp only [dout_at H, H.h9, ← EReal.coe_mul]; rfl

/-- What the mean square passes back to every lane of its token. -/
theorem dms_at (r : Fin 2048) (j : Fin 1024) : Read.val_main_v79 (F := Ideal) x0 x1 x2 x3 x4 x5 x6 x7 x8 x9 (ix2 r j)
    = (((∑ k, strm (T r) W k * dxn (T r) W k) * (-(1 / 2) * (rs (T r) W / (ssq (T r) W / 1024 + eps))) / 1024 : ℝ) : EReal) := by
  pointwise [Read.val_main_v79, Read.val_main_v78, Read.val_main_cst_20, Read.val_main_v77, Read.val_main_v76, Read.val_main_cst_19, Read.val_main_v75, Read.val_main_v72, Read.val_main_v71, Read.val_main_cst_18, Read.val_main_v70, Read.val_main_v45, Read.val_main_v44, Read.val_main_cst_8, Read.val_main_v43]
  rw [Fin.sum_univ_one]
  simp only [x2_at H, dxn_at H, rs_at H, ms_at H, word_neg_half, word_1024, coe_div' (ms_pos _ _).ne', ← EReal.coe_mul, coe_sum, coe_div' (show (1024 : ℝ) ≠ 0 by norm_num)]

theorem dx2_at (r : Fin 2048) (j : Fin 1024) : Read.val_main_v83 (F := Ideal) x0 x1 x2 x3 x4 x5 x6 x7 x8 x9 (ix2 r j) = ((dx2 (T r) W j : ℝ) : EReal) := by
  pointwise [Read.val_main_v83, Read.val_main_v82, Read.val_main_v81, Read.val_main_v80, Read.val_main_v74, Read.val_main_v73]
  simp only [x2_at H, dxn_at H, rs_at H, dms_at H, ← EReal.coe_mul, ← EReal.coe_add]
  congr 1
  have h : ∑ k, dxn (T r) W k * xn (T r) W k = (∑ k, strm (T r) W k * dxn (T r) W k) * rs (T r) W := by
    rw [Finset.sum_mul]; exact Finset.sum_congr rfl fun k _ => by unfold xn; ring
  have h2 := rs_sq (T r) W
  have h3 : rs (T r) W / (ssq (T r) W / 1024 + eps) = rs (T r) W * (rs (T r) W * rs (T r) W) := by rw [h2]; ring
  unfold dx2
  rw [h, h3]; unfold xn; ring

theorem dwo_at (i j : Fin 1024) : Read.val_main_v85 (F := Ideal) x0 x1 x2 x3 x4 x5 x6 x7 x8 x9 (ix2 i j) = ((∑ r, merged (T r) W i * dx2 (T r) W j : ℝ) : EReal) := by
  pointwise [Read.val_main_v85, Read.val_main_v84]
  simp only [dx2_at H, merged_at H, ← EReal.coe_mul, coe_sum]
  congr 1
  exact Finset.sum_congr rfl fun r _ => mul_comm _ _

theorem dmerged_at (r : Fin 2048) (j : Fin 1024) : Read.val_main_v86 (F := Ideal) x0 x1 x2 x3 x4 x5 x6 x7 x8 x9 (ix2 r j) = ((dmerged (T r) W j : ℝ) : EReal) := by
  pointwise [Read.val_main_v86, Read.val_main_v3]
  simp only [dx2_at H, H.h8, ← EReal.coe_mul, coe_sum]; rfl

theorem dbigA_at (r : Fin 2048) (j : Fin 1024) : Read.val_main_v90 (F := Ideal) x0 x1 x2 x3 x4 x5 x6 x7 x8 x9 (ix2 r j) = ((dbigA (T r) W j : ℝ) : EReal) := by
  pointwise [Read.val_main_v90]
  simp only [dmerged_at H, sa_at H, ← EReal.coe_mul]
  rw [mul_comm]; rfl

theorem dbigB_at (r : Fin 2048) (j : Fin 1024) : Read.val_main_v87 (F := Ideal) x0 x1 x2 x3 x4 x5 x6 x7 x8 x9 (ix2 r j) = ((dbigB (T r) W j : ℝ) : EReal) := by
  pointwise [Read.val_main_v87]
  simp only [dmerged_at H, sb_at H, ← EReal.coe_mul]
  rw [mul_comm]; rfl

theorem dga_at (r : Fin 2048) (j : Fin 1024) : Read.val_main_v95 (F := Ideal) x0 x1 x2 x3 x4 x5 x6 x7 x8 x9 (ix2 r j) = ((dga (T r) W j : ℝ) : EReal) := by
  pointwise [Read.val_main_v95, Read.val_main_v91]
  simp only [dmerged_at H, bigA_at H, dsa_at H, ← EReal.coe_mul]
  congr 1; unfold dga; ring

theorem dgb_at (r : Fin 2048) (j : Fin 1024) : Read.val_main_v89 (F := Ideal) x0 x1 x2 x3 x4 x5 x6 x7 x8 x9 (ix2 r j) = ((dgb (T r) W j : ℝ) : EReal) := by
  pointwise [Read.val_main_v89, Read.val_main_v88]
  simp only [dmerged_at H, bigB_at H, dsb_at H, ← EReal.coe_mul]
  congr 1; unfold dgb; ring

theorem dug_at_a (r : Fin 2048) (j : Fin 1024) (l : Fin 2048) (hl : l.val = j.val) : Read.val_main_v106 (F := Ideal) x0 x1 x2 x3 x4 x5 x6 x7 x8 x9 (ix2 r l) = ((dga (T r) W j : ℝ) : EReal) := by
  pointwise [Read.val_main_v106, Read.val_main_v96]
  rw [dif_pos (by omega)]
  exact (congrArg (fun q => Read.val_main_v95 (F := Ideal) x0 x1 x2 x3 x4 x5 x6 x7 x8 x9 (ix2 r q)) (Fin.ext hl)).trans (dga_at H r j)

theorem dug_at_b (r : Fin 2048) (j : Fin 1024) (l : Fin 2048) (hl : l.val = 1024 + j.val) : Read.val_main_v106 (F := Ideal) x0 x1 x2 x3 x4 x5 x6 x7 x8 x9 (ix2 r l) = ((dgb (T r) W j : ℝ) : EReal) := by
  pointwise [Read.val_main_v106, Read.val_main_v96]
  rw [dif_neg (by omega)]
  exact (congrArg (fun q => Read.val_main_v89 (F := Ideal) x0 x1 x2 x3 x4 x5 x6 x7 x8 x9 (ix2 r q)) (Fin.ext (by show l.val - 1024 = j.val; omega))).trans (dgb_at H r j)

theorem dwoa_at (i : Fin 512) (j : Fin 1024) : Read.val_main_v93 (F := Ideal) x0 x1 x2 x3 x4 x5 x6 x7 x8 x9 (ix2 i j) = ((∑ r, (T r).ya i * dbigA (T r) W j : ℝ) : EReal) := by
  pointwise [Read.val_main_v93, Read.val_main_v92]
  simp only [dbigA_at H, H.h2, ← EReal.coe_mul, coe_sum]
  congr 1
  exact Finset.sum_congr rfl fun r _ => mul_comm _ _

theorem dwob_at (i : Fin 512) (j : Fin 1024) : Read.val_main_v98 (F := Ideal) x0 x1 x2 x3 x4 x5 x6 x7 x8 x9 (ix2 i j) = ((∑ r, yb (T r) i * dbigB (T r) W j : ℝ) : EReal) := by
  pointwise [Read.val_main_v98, Read.val_main_v97]
  simp only [dbigB_at H, yb_at H, ← EReal.coe_mul, coe_sum]
  congr 1
  exact Finset.sum_congr rfl fun r _ => mul_comm _ _

theorem dya_at (r : Fin 2048) (k : Fin 512) : Read.val_main_v94 (F := Ideal) x0 x1 x2 x3 x4 x5 x6 x7 x8 x9 (ix2 r k) = ((dya (T r) W k : ℝ) : EReal) := by
  pointwise [Read.val_main_v94, Read.val_main_v1]
  simp only [dbigA_at H, H.h6, ← EReal.coe_mul, coe_sum]; rfl

theorem dyb_at (r : Fin 2048) (k : Fin 512) : Read.val_main_v99 (F := Ideal) x0 x1 x2 x3 x4 x5 x6 x7 x8 x9 (ix2 r k) = ((dyb (T r) W k : ℝ) : EReal) := by
  pointwise [Read.val_main_v99, Read.val_main_v2]
  simp only [dbigB_at H, H.h7, ← EReal.coe_mul, coe_sum]; rfl

theorem dov_at (r : Fin 2048) (k : Fin 512) : Read.val_main_v101 (F := Ideal) x0 x1 x2 x3 x4 x5 x6 x7 x8 x9 (ix2 r k) = ((dov (T r) W k : ℝ) : EReal) := by
  pointwise [Read.val_main_v101]
  simp only [dyb_at H, silu_at H, ← EReal.coe_mul]; rfl

theorem do_at (h : Fin 8) (r : Fin 2048) (n : Fin 64) (k : Fin 512) (hk : k.val = 64 * h.val + n.val) : Read.val_main_v104 (F := Ideal) x0 x1 x2 x3 x4 x5 x6 x7 x8 x9 (ix3 h r n) = ((dov (T r) W k : ℝ) : EReal) := by
  pointwise [Read.val_main_v104, Read.val_main_v103]
  exact (congrArg (fun q => Read.val_main_v101 (F := Ideal) x0 x1 x2 x3 x4 x5 x6 x7 x8 x9 (ix2 r q)) (Fin.ext (by show h.val * 64 + n.val = k.val; omega))).trans (dov_at H r k)

theorem dgate_at (r : Fin 2048) (k : Fin 512) : Read.val_main_v102 (F := Ideal) x0 x1 x2 x3 x4 x5 x6 x7 x8 x9 (ix2 r k) = ((dgate (T r) W k : ℝ) : EReal) := by
  pointwise [Read.val_main_v102, Read.val_main_call1_v1, Read.val_main_call1_v2, Read.val_main_call1_v0, Read.val_main_v100]
  simp only [ov_at H, dyb_at H, g_at H, sg_at H, dsg_at H, ← EReal.coe_mul, ← EReal.coe_add]
  congr 1; unfold dgate; ring

end Cert.TailRefIdeal.Val

end
-- ==== Proof.TailTile.lean ====
module

public import proofs.«01_k».proof.Proof.TailPay
public import proofs.«01_k».proof.Proof.TailRef
public import proofs.«01_k».proof.Proof.Gen.TailIdeal.Frame
public import Idealize.ShloMosaic.Lib.Pipeline.ValueKit
public import Idealize.ShloMosaic.Lib.Pointwise

/-! What a grid point of the head reads, in real numbers: rows of the arguments. -/

@[expose] public section

set_option maxRecDepth 16384

noncomputable section

namespace Cert.TailIdeal.Val

open Idealize.ShloMosaic Idealize.ShloMosaic.TcCoe Idealize.SL.Sem Idealize.ShloMosaic.Pointwise
open Idealize.ShloMosaic.Pipeline (Dat)
open Cert.TailIdeal Cert.TailIdeal.Gen Cert.Head Cert.TailRefIdeal.Val

variable (m : (ℓ : Loc nD τ sig) → Buf (Elt Ideal) ℓ)

/-- Which block each window shows at point `t`. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 3] ∧ win0_5.index t = ![t.val, 0]
    ∧ win0_6.index t = ![0, 0] ∧ win0_7.index t = ![0, 0] ∧ win0_8.index t = ![0, 0] ∧ win0_9.index t = ![0, 0]
    ∧ win0_15.index t = ![t.val, 0] ∧ win0_16.index t = ![t.val, 0] ∧ win0_17.index t = ![0, t.val, 0]
    ∧ win0_18.index t = ![t.val, 0] ∧ win0_19.index t = ![t.val, 0] :=
  (by decide +kernel : ∀ t : Fin grid0.N, _)

/-- Row `r` of the tile of point `t`, among the 2048 tokens. -/
def tok (t : Fin cfg0.N) (r : Fin 256) : Fin 2048 :=
  ⟨t.val * 256 + r.val, by have := lt_of_lt_of_eq t.isLt N_0; omega⟩

/-- The arguments of the call are real: the tokens' rows and the weights. -/
abbrev In (c : Dev nD) (T : Fin 2048 → Row) (W : Wts) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) T W

/-- What a point reads is a tile of the tokens. -/
theorem tile {c : Dev nD} {T : Fin 2048 → Row} {W : Wts} (A : In m c T W) (t : Fin cfg0.N) :
    Pay.Tile (iblk m c 2 t) (iblk m c 4 t)
      (View.ld (iblk m c 3 t) (Rect.unit ![0, 0, 0] ![1, 256, 64] inb_S8x256x64_S1x256x64_0_0_0))
      (View.ld (iblk m c 3 t) (Rect.unit ![1, 0, 0] ![1, 256, 64] inb_S8x256x64_S1x256x64_1_0_0))
      (View.ld (iblk m c 3 t) (Rect.unit ![2, 0, 0] ![1, 256, 64] inb_S8x256x64_S1x256x64_2_0_0))
      (View.ld (iblk m c 3 t) (Rect.unit ![3, 0, 0] ![1, 256, 64] inb_S8x256x64_S1x256x64_3_0_0))
      (View.ld (iblk m c 3 t) (Rect.unit ![4, 0, 0] ![1, 256, 64] inb_S8x256x64_S1x256x64_4_0_0))
      (View.ld (iblk m c 3 t) (Rect.unit ![5, 0, 0] ![1, 256, 64] inb_S8x256x64_S1x256x64_5_0_0))
      (View.ld (iblk m c 3 t) (Rect.unit ![6, 0, 0] ![1, 256, 64] inb_S8x256x64_S1x256x64_6_0_0))
      (View.ld (iblk m c 3 t) (Rect.unit ![7, 0, 0] ![1, 256, 64] inb_S8x256x64_S1x256x64_7_0_0))
      (iblk m c 6 t) (iblk m c 7 t)
      (View.ld (iblk m c 5 t) (Rect.unit ![0, 0] ![256, 1024] inb_S256x2048_S256x1024_0_0))
      (View.ld (iblk m c 5 t) (Rect.unit ![0, 1024] ![256, 1024] inb_S256x2048_S256x1024_0_1024))
      (iblk m c 0 t) (iblk m c 8 t) (iblk m c 9 t) (iblk m c 1 t) (fun r => T (tok t r)) W where
  h3 r k := (show iblk m c 2 t (ix2 r k) = m ((c : Thread nD τ).loc main_arg2) (ix2 (tok t r) k) by blk_point [iblk, V, idx t, tok]).trans (A.h2 _ _)
  h4 r k := (show iblk m c 4 t (ix2 r k) = m ((c : Thread nD τ).loc main_arg4) (ix2 (tok t r) ⟨1536 + k.val, by omega⟩) by
    blk_point [iblk, V, idx t, tok]).trans (A.h4 _ _ _ rfl)
  ho0 r n k hk := by
    pointwise []
    refine (show _ = m ((c : Thread nD τ).loc main_arg3) (ix3 ⟨0, by omega⟩ (tok t r) n) from ?_).trans (A.h3 _ _ _ _ (by simpa using hk))
    blk_point [iblk, V, idx t, tok]
  ho1 r n k hk := by
    pointwise []
    refine (show _ = m ((c : Thread nD τ).loc main_arg3) (ix3 ⟨1, by omega⟩ (tok t r) n) from ?_).trans (A.h3 _ _ _ _ (by simpa using hk))
    blk_point [iblk, V, idx t, tok]
  ho2 r n k hk := by
    pointwise []
    refine (show _ = m ((c : Thread nD τ).loc main_arg3) (ix3 ⟨2, by omega⟩ (tok t r) n) from ?_).trans (A.h3 _ _ _ _ (by simpa using hk))
    blk_point [iblk, V, idx t, tok]
  ho3 r n k hk := by
    pointwise []
    refine (show _ = m ((c : Thread nD τ).loc main_arg3) (ix3 ⟨3, by omega⟩ (tok t r) n) from ?_).trans (A.h3 _ _ _ _ (by simpa using hk))
    blk_point [iblk, V, idx t, tok]
  ho4 r n k hk := by
    pointwise []
    refine (show _ = m ((c : Thread nD τ).loc main_arg3) (ix3 ⟨4, by omega⟩ (tok t r) n) from ?_).trans (A.h3 _ _ _ _ (by simpa using hk))
    blk_point [iblk, V, idx t, tok]
  ho5 r n k hk := by
    pointwise []
    refine (show _ = m ((c : Thread nD τ).loc main_arg3) (ix3 ⟨5, by omega⟩ (tok t r) n) from ?_).trans (A.h3 _ _ _ _ (by simpa using hk))
    blk_point [iblk, V, idx t, tok]
  ho6 r n k hk := by
    pointwise []
    refine (show _ = m ((c : Thread nD τ).loc main_arg3) (ix3 ⟨6, by omega⟩ (tok t r) n) from ?_).trans (A.h3 _ _ _ _ (by simpa using hk))
    blk_point [iblk, V, idx t, tok]
  ho7 r n k hk := by
    pointwise []
    refine (show _ = m ((c : Thread nD τ).loc main_arg3) (ix3 ⟨7, by omega⟩ (tok t r) n) from ?_).trans (A.h3 _ _ _ _ (by simpa using hk))
    blk_point [iblk, V, idx t, tok]
  h31 k j := (show iblk m c 6 t (ix2 k j) = m ((c : Thread nD τ).loc main_arg6) (ix2 k j) by blk_point [iblk, V, idx t, tok]).trans (A.h6 _ _)
  h34 k j := (show iblk m c 7 t (ix2 k j) = m ((c : Thread nD τ).loc main_arg7) (ix2 k j) by blk_point [iblk, V, idx t, tok]).trans (A.h7 _ _)
  h37 r j := by
    pointwise []
    refine (show _ = m ((c : Thread nD τ).loc main_arg5) (ix2 (tok t r) ⟨j.val, by omega⟩) from ?_).trans (A.h5a _ _ _ rfl)
    blk_point [iblk, V, idx t, tok]
  h45 r j := by
    pointwise []
    refine (show _ = m ((c : Thread nD τ).loc main_arg5) (ix2 (tok t r) ⟨1024 + j.val, by omega⟩) from ?_).trans (A.h5b _ _ _ rfl)
    blk_point [iblk, V, idx t, tok]
  h56 r j := (show iblk m c 0 t (ix2 r j) = m ((c : Thread nD τ).loc main_arg0) (ix2 (tok t r) j) by blk_point [iblk, V, idx t, tok]).trans (A.h0 _ _)
  h57 k j := (show iblk m c 8 t (ix2 k j) = m ((c : Thread nD τ).loc main_arg8) (ix2 k j) by blk_point [iblk, V, idx t, tok]).trans (A.h8 _ _)
  h71 j := (show iblk m c 9 t (ix2 0 j) = m ((c : Thread nD τ).loc main_arg9) (ix2 0 j) by blk_point [iblk, V, idx t, tok]).trans (A.h9 _)
  h74 r j := (show iblk m c 1 t (ix2 r j) = m ((c : Thread nD τ).loc main_arg1) (ix2 (tok t r) j) by blk_point [iblk, V, idx t, tok]).trans (A.h1 _ _)

end Cert.TailIdeal.Val

end
-- ==== Proof.TailVal.lean ====
module

public import proofs.«01_k».proof.Proof.TailTile

/-! The head's arrays after its eight grid points, in real numbers: the five sums gather one term per point, and the
other five results are written tile by tile. -/

@[expose] public section

set_option maxRecDepth 16384

noncomputable section

namespace Cert.TailIdeal.Val

open Idealize.ShloMosaic Idealize.ShloMosaic.TcCoe Idealize.SL.Sem Idealize.ShloMosaic.Pointwise
open Idealize.ShloMosaic.Pipeline (Dat)
open Cert.TailIdeal Cert.TailIdeal.Gen Cert.Head Cert.TailRefIdeal.Val

variable {m : (ℓ : Loc nD τ sig) → Buf (Elt Ideal) ℓ} {c : Dev nD} {T : Fin 2048 → Row} {W : Wts} (A : In m c T W)

/-- A sum over the tokens gathered tile by tile. -/
theorem sum_tok (f : Fin 2048 → ℝ) : ∑ p : Fin cfg0.N, ((∑ r, f (tok p r) : ℝ) : EReal) = ((∑ r, f r : ℝ) : EReal) := by
  rw [coe_sum]
  congr 1
  rw [← (finCongr N_0).symm.sum_comp, ← (finProdFinEquiv (m := 8) (n := 256)).sum_comp f, Fintype.sum_prod_type]
  refine Finset.sum_congr rfl fun p _ => Finset.sum_congr rfl fun r _ => congrArg f (Fin.ext ?_)
  show p.val * 256 + r.val = r.val + 256 * p.val
  omega

/-- The two merge gates' gradients side by side. -/
def dug (R : Row) (W : Wts) (l : Fin 2048) : ℝ :=
  if h : l.val < 1024 then dga R W ⟨l.val, h⟩ else dgb R W ⟨l.val - 1024, by omega⟩

theorem dov_congr {t : Fin cfg0.N} {r r' : Fin 256} {k k' : Fin 512} (hr : r.val = r'.val) (hk : k.val = k'.val) :
    ((dov (T (tok t r)) W k : ℝ) : EReal) = ((dov (T (tok t r')) W k' : ℝ) : EReal) := by
  rw [Fin.ext hr, Fin.ext hk]

include A

/-- The gradient at the residual stream: point `t`'s tile. -/
theorem at15 (t : Fin cfg0.N) (r : Fin 256) (j : Fin 1024) :
    (outsAt0 m c t.val t.isLt).2.2.2.2.2.1 (ix2 r j) = ((dx2 (T (tok t r)) W j : ℝ) : EReal) := by
  by_cases h : t.val % 8 = 0
  · rw [outsAt0_A m c t h]; frame_out; exact Pay.dx2_at (tile m A t) r j
  · rw [outsAt0_B m c t h]; frame_out; exact Pay.dx2_at (tile m A t) r j

/-- The gradient at the residual stream: the whole array. -/
theorem out15 : (dats m 0 c).arrAt 15 (cfgs 0).N = (fun i => ((dx2 (T (i 0)) W (i 1) : ℝ) : EReal)) := by
  refine (dats m 0 c).arrAt_eq_of_covers 15 _ (by decide +kernel) fun t hf y => ?_
  blk_simp
  rw [after0_15]
  refine (congrArg _ (eq_ix2 y)).trans ((at15 A t _ _).trans ?_)
  rw [show tok t (y 0) = (win0_15.blk t).view.emb y 0 from Fin.ext (by blk_simp [idx t, tok]),
    show y 1 = (win0_15.blk t).view.emb y 1 from Fin.ext (by blk_simp [idx t])]

/-- The gradient at the first mixer's output: point `t`'s tile. -/
theorem at16 (t : Fin cfg0.N) (r : Fin 256) (j : Fin 512) :
    (outsAt0 m c t.val t.isLt).2.2.2.2.2.2.1 (ix2 r j) = ((dya (T (tok t r)) W j : ℝ) : EReal) := by
  by_cases h : t.val % 8 = 0
  · rw [outsAt0_A m c t h]; frame_out; exact Pay.dya_at (tile m A t) r j
  · rw [outsAt0_B m c t h]; frame_out; exact Pay.dya_at (tile m A t) r j

/-- The gradient at the first mixer's output: the whole array. -/
theorem out16 : (dats m 0 c).arrAt 16 (cfgs 0).N = (fun i => ((dya (T (i 0)) W (i 1) : ℝ) : EReal)) := by
  refine (dats m 0 c).arrAt_eq_of_covers 16 _ (by decide +kernel) fun t hf y => ?_
  blk_simp
  rw [after0_16]
  refine (congrArg _ (eq_ix2 y)).trans ((at16 A t _ _).trans ?_)
  rw [show tok t (y 0) = (win0_16.blk t).view.emb y 0 from Fin.ext (by blk_simp [idx t, tok]),
    show y 1 = (win0_16.blk t).view.emb y 1 from Fin.ext (by blk_simp [idx t])]

/-- The gradient at the second mixer's gate: point `t`'s tile. -/
theorem at18 (t : Fin cfg0.N) (r : Fin 256) (j : Fin 512) :
    (outsAt0 m c t.val t.isLt).2.2.2.2.2.2.2.2.1 (ix2 r j) = ((dgate (T (tok t r)) W j : ℝ) : EReal) := by
  by_cases h : t.val % 8 = 0
  · rw [outsAt0_A m c t h]; frame_out; exact Pay.dgate_at (tile m A t) r j
  · rw [outsAt0_B m c t h]; frame_out; exact Pay.dgate_at (tile m A t) r j

/-- The gradient at the second mixer's gate: the whole array. -/
theorem out18 : (dats m 0 c).arrAt 18 (cfgs 0).N = (fun i => ((dgate (T (i 0)) W (i 1) : ℝ) : EReal)) := by
  refine (dats m 0 c).arrAt_eq_of_covers 18 _ (by decide +kernel) fun t hf y => ?_
  blk_simp
  rw [after0_18]
  refine (congrArg _ (eq_ix2 y)).trans ((at18 A t _ _).trans ?_)
  rw [show tok t (y 0) = (win0_18.blk t).view.emb y 0 from Fin.ext (by blk_simp [idx t, tok]),
    show y 1 = (win0_18.blk t).view.emb y 1 from Fin.ext (by blk_simp [idx t])]

/-- The gradient at the second mixer's output, head by head. -/
def dovH (R : Row) (W : Wts) (h : Fin 8) (n : Fin 64) : ℝ := dov R W ⟨64 * h.val + n.val, by omega⟩

set_option maxHeartbeats 1600000 in
/-- … point `t`'s tile. -/
theorem at17 (t : Fin cfg0.N) (y : S8x256x64.Idx) :
    (outsAt0 m c t.val t.isLt).2.2.2.2.2.2.2.1 y = ((dovH (T (tok t (y 1))) W (y 0) (y 2) : ℝ) : EReal) := by
  by_cases h : t.val % 8 = 0
  · rw [outsAt0_A m c t h]; frame_out; canon_tiles x hh
    all_goals
      pointwise [k0_pay1, k0_pay54, k0_pay47, k0_pay46, k0_pay48, k0_pay49, k0_pay50, k0_pay51, k0_pay52, k0_pay53]
      refine (Pay.dov_at (tile m A t) _ _).trans (dov_congr hh1.symm ?_)
      simp only []; omega
  · rw [outsAt0_B m c t h]; frame_out; canon_tiles x hh
    all_goals
      pointwise [k0_pay1, k0_pay54, k0_pay47, k0_pay46, k0_pay48, k0_pay49, k0_pay50, k0_pay51, k0_pay52, k0_pay53]
      refine (Pay.dov_at (tile m A t) _ _).trans (dov_congr hh1.symm ?_)
      simp only []; omega

/-- … and the whole array. -/
theorem out17 : (dats m 0 c).arrAt 17 (cfgs 0).N = (fun i => ((dovH (T (i 1)) W (i 0) (i 2) : ℝ) : EReal)) := by
  refine (dats m 0 c).arrAt_eq_of_covers 17 _ (by decide +kernel) fun t hf y => ?_
  blk_simp
  rw [after0_17]
  refine (at17 A t y).trans ?_
  rw [show tok t (y 1) = (win0_17.blk t).view.emb y 1 from Fin.ext (by blk_simp [idx t, tok]),
    show y 0 = (win0_17.blk t).view.emb y 0 from Fin.ext (by blk_simp [idx t]),
    show y 2 = (win0_17.blk t).view.emb y 2 from Fin.ext (by blk_simp [idx t])]

omit A in
theorem dug_lo {R : Row} {l : Fin 2048} {j : Fin 1024} (h : l.val = j.val) : dug R W l = dga R W j := by
  unfold dug; rw [dif_pos (by omega)]; congr 1; exact Fin.ext h

omit A in
theorem dug_hi {R : Row} {l : Fin 2048} {j : Fin 1024} (h : l.val = 1024 + j.val) : dug R W l = dgb R W j := by
  unfold dug; rw [dif_neg (by omega)]; congr 1; exact Fin.ext (by simp only []; omega)

set_option maxHeartbeats 1600000 in
/-- The merge gates' gradients: point `t`'s tile. -/
theorem at19 (t : Fin cfg0.N) (y : S256x2048.Idx) :
    (outsAt0 m c t.val t.isLt).2.2.2.2.2.2.2.2.2 y = ((dug (T (tok t (y 0))) W (y 1) : ℝ) : EReal) := by
  by_cases h : t.val % 8 = 0
  · rw [outsAt0_A m c t h]; frame_out; canon_tiles x hh
    · refine (congrArg _ (eq_ix2 x)).trans ((Pay.dgb_at (tile m A t) _ _).trans ?_)
      rw [dug_hi (j := x 1) hh1, show y 0 = x 0 from Fin.ext hh0]
    · refine (congrArg _ (eq_ix2 x)).trans ((Pay.dga_at (tile m A t) _ _).trans ?_)
      rw [dug_lo (j := x 1) hh1, show y 0 = x 0 from Fin.ext hh0]
  · rw [outsAt0_B m c t h]; frame_out; canon_tiles x hh
    · refine (congrArg _ (eq_ix2 x)).trans ((Pay.dgb_at (tile m A t) _ _).trans ?_)
      rw [dug_hi (j := x 1) hh1, show y 0 = x 0 from Fin.ext hh0]
    · refine (congrArg _ (eq_ix2 x)).trans ((Pay.dga_at (tile m A t) _ _).trans ?_)
      rw [dug_lo (j := x 1) hh1, show y 0 = x 0 from Fin.ext hh0]

/-- … and the whole array. -/
theorem out19 : (dats m 0 c).arrAt 19 (cfgs 0).N = (fun i => ((dug (T (i 0)) W (i 1) : ℝ) : EReal)) := by
  refine (dats m 0 c).arrAt_eq_of_covers 19 _ (by decide +kernel) fun t hf y => ?_
  blk_simp
  rw [after0_19]
  refine (at19 A t y).trans ?_
  rw [show tok t (y 0) = (win0_19.blk t).view.emb y 0 from Fin.ext (by blk_simp [idx t, tok]),
    show y 1 = (win0_19.blk t).view.emb y 1 from Fin.ext (by blk_simp [idx t])]

omit A in
theorem eq_row (j : S1x1024.Idx) : j = ix2 0 (j 1) :=
  (eq_ix2 j).trans (congrArg (fun q : Fin 1 => (ix2 q (j 1) : S1x1024.Idx)) (Subsingleton.elim _ _))

omit A in
theorem eq_one (j : S1x1.Idx) : j = ix2 0 0 :=
  (eq_ix2 j).trans (by rw [Subsingleton.elim (α := Fin 1) (j 0) 0, Subsingleton.elim (α := Fin 1) (j 1) 0])

/-- The loss. -/
theorem out10 : (dats m 0 c).arrAt 10 (cfgs 0).N = (fun j => ((∑ r, 1 / 2048 * sqerr (T r) W : ℝ) : EReal)) := by
  refine (dats m 0 c).arrAt_eq_of_after_last 10 t0_7 (by decide +kernel) _ fun j => ?_
  blk_simp
  rw [after0_10]
  rw [Pipeline.eq_sum_fin_of_reset_step_apply_last (fun n h => (outsAt0 m c n h).1) 8 (fun _ => 0)
    (fun t j => ((∑ r, 1 / 2048 * sqerr (T (tok t r)) W : ℝ) : EReal))
    (fun t h j => by
      rw [outsAt0_A m c t h]; frame_out; rw [eq_one j]
      exact (Pay.loss_at (tile m A t) _).trans (by pointwise [k0_pay2] <;> rfl))
    (fun t h j => by
      rw [outsAt0_B m c t h]; frame_out; rw [eq_one j]
      exact (Pay.loss_at (tile m A t) _).trans rfl)
    (le_of_eq N_0) t0_7 rfl j, zero_add]
  exact sum_tok (fun r => 1 / 2048 * sqerr (T r) W)

/-- The gradient of the final norm's gain. -/
theorem out11 : (dats m 0 c).arrAt 11 (cfgs 0).N = (fun j => ((∑ r, dout (T r) W (j 1) * xn (T r) W (j 1) : ℝ) : EReal)) := by
  refine (dats m 0 c).arrAt_eq_of_after_last 11 t0_7 (by decide +kernel) _ fun j => ?_
  blk_simp
  rw [after0_11]
  rw [Pipeline.eq_sum_fin_of_reset_step_apply_last (fun n h => (outsAt0 m c n h).2.1) 8 (fun _ => 0)
    (fun t j => ((∑ r, dout (T (tok t r)) W (j 1) * xn (T (tok t r)) W (j 1) : ℝ) : EReal))
    (fun t h j => by
      rw [outsAt0_A m c t h]; frame_out; rw [eq_row j]
      exact (Pay.dfg_at (tile m A t) _ _).trans (by pointwise [k0_pay3] <;> rfl))
    (fun t h j => by
      rw [outsAt0_B m c t h]; frame_out; rw [eq_row j]
      exact (Pay.dfg_at (tile m A t) _ _).trans rfl)
    (le_of_eq N_0) t0_7 rfl j, zero_add]
  exact sum_tok (fun r => dout (T r) W (j 1) * xn (T r) W (j 1))

/-- The gradient of the block's output projection. -/
theorem out12 : (dats m 0 c).arrAt 12 (cfgs 0).N = (fun j => ((∑ r, merged (T r) W (j 0) * dx2 (T r) W (j 1) : ℝ) : EReal)) := by
  refine (dats m 0 c).arrAt_eq_of_after_last 12 t0_7 (by decide +kernel) _ fun j => ?_
  blk_simp
  rw [after0_12]
  rw [Pipeline.eq_sum_fin_of_reset_step_apply_last (fun n h => (outsAt0 m c n h).2.2.1) 8 (fun _ => 0)
    (fun t j => ((∑ r, merged (T (tok t r)) W (j 0) * dx2 (T (tok t r)) W (j 1) : ℝ) : EReal))
    (fun t h j => by
      rw [outsAt0_A m c t h]; frame_out; rw [eq_ix2 j]
      exact (Pay.dwo_at (tile m A t) _ _ _).trans (by pointwise [k0_pay4] <;> rfl))
    (fun t h j => by
      rw [outsAt0_B m c t h]; frame_out; rw [eq_ix2 j]
      exact (Pay.dwo_at (tile m A t) _ _ _).trans rfl)
    (le_of_eq N_0) t0_7 rfl j, zero_add]
  exact sum_tok (fun r => merged (T r) W (j 0) * dx2 (T r) W (j 1))

/-- The gradient of the first mixer's output projection. -/
theorem out13 : (dats m 0 c).arrAt 13 (cfgs 0).N = (fun j => ((∑ r, (T r).ya (j 0) * dbigA (T r) W (j 1) : ℝ) : EReal)) := by
  refine (dats m 0 c).arrAt_eq_of_after_last 13 t0_7 (by decide +kernel) _ fun j => ?_
  blk_simp
  rw [after0_13]
  rw [Pipeline.eq_sum_fin_of_reset_step_apply_last (fun n h => (outsAt0 m c n h).2.2.2.1) 8 (fun _ => 0)
    (fun t j => ((∑ r, (T (tok t r)).ya (j 0) * dbigA (T (tok t r)) W (j 1) : ℝ) : EReal))
    (fun t h j => by
      rw [outsAt0_A m c t h]; frame_out; rw [eq_ix2 j]
      exact (Pay.dwoa_at (tile m A t) _ _ _).trans (by pointwise [k0_pay5] <;> rfl))
    (fun t h j => by
      rw [outsAt0_B m c t h]; frame_out; rw [eq_ix2 j]
      exact (Pay.dwoa_at (tile m A t) _ _ _).trans rfl)
    (le_of_eq N_0) t0_7 rfl j, zero_add]
  exact sum_tok (fun r => (T r).ya (j 0) * dbigA (T r) W (j 1))

/-- The gradient of the second mixer's output projection. -/
theorem out14 : (dats m 0 c).arrAt 14 (cfgs 0).N = (fun j => ((∑ r, yb (T r) (j 0) * dbigB (T r) W (j 1) : ℝ) : EReal)) := by
  refine (dats m 0 c).arrAt_eq_of_after_last 14 t0_7 (by decide +kernel) _ fun j => ?_
  blk_simp
  rw [after0_14]
  rw [Pipeline.eq_sum_fin_of_reset_step_apply_last (fun n h => (outsAt0 m c n h).2.2.2.2.1) 8 (fun _ => 0)
    (fun t j => ((∑ r, yb (T (tok t r)) (j 0) * dbigB (T (tok t r)) W (j 1) : ℝ) : EReal))
    (fun t h j => by
      rw [outsAt0_A m c t h]; frame_out; rw [eq_ix2 j]
      exact (Pay.dwob_at (tile m A t) _ _ _).trans (by pointwise [k0_pay6] <;> rfl))
    (fun t h j => by
      rw [outsAt0_B m c t h]; frame_out; rw [eq_ix2 j]
      exact (Pay.dwob_at (tile m A t) _ _ _).trans rfl)
    (le_of_eq N_0) t0_7 rfl j, zero_add]
  exact sum_tok (fun r => yb (T r) (j 0) * dbigB (T r) W (j 1))

end Cert.TailIdeal.Val

end
-- ==== Proof.TailMain.lean ====
module

public import proofs.«01_k».proof.Defs
public import proofs.«01_k».proof.Proof.Finite
public import proofs.«01_k».proof.Proof.TailVal
public import proofs.«01_k».proof.Proof.Gen.Pre_tail_finite
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import Idealize.ShloMosaic.Lib.Claim

/-! The head's kernel and its reference have equal results: from finite arguments both sides are the real functions of
`TailSpec`. -/

@[expose] public section

set_option maxRecDepth 16384

noncomputable section

namespace Cert.Proof.TailMain

open Idealize.ShloMosaic Idealize.ShloMosaic.TcCoe Idealize.SL.Sem
open Cert.Head

variable (m : (ℓ : Loc Cert.TailIdeal.nD Cert.TailIdeal.τ Cert.TailIdeal.sig) → Buf (Elt Ideal) ℓ) (c : Dev Cert.TailIdeal.nD)

/-- The tokens' rows, read off the arguments. -/
def rows : Fin 2048 → Row := fun r => {
  x := fun j => (show EReal from m ((c.tc : Thread Cert.TailIdeal.nD Cert.TailIdeal.τ).loc Cert.TailIdeal.main_arg0) (ix2 r j)).toReal
  t := fun j => (show EReal from m ((c.tc : Thread Cert.TailIdeal.nD Cert.TailIdeal.τ).loc Cert.TailIdeal.main_arg1) (ix2 r j)).toReal
  ya := fun k => (show EReal from m ((c.tc : Thread Cert.TailIdeal.nD Cert.TailIdeal.τ).loc Cert.TailIdeal.main_arg2) (ix2 r k)).toReal
  ov := fun k => (show EReal from m ((c.tc : Thread Cert.TailIdeal.nD Cert.TailIdeal.τ).loc Cert.TailIdeal.main_arg3) (ix3 ⟨k.val / 64, by omega⟩ r ⟨k.val % 64, by omega⟩)).toReal
  g := fun k => (show EReal from m ((c.tc : Thread Cert.TailIdeal.nD Cert.TailIdeal.τ).loc Cert.TailIdeal.main_arg4) (ix2 r ⟨1536 + k.val, by omega⟩)).toReal
  ga := fun j => (show EReal from m ((c.tc : Thread Cert.TailIdeal.nD Cert.TailIdeal.τ).loc Cert.TailIdeal.main_arg5) (ix2 r ⟨j.val, by omega⟩)).toReal
  gb := fun j => (show EReal from m ((c.tc : Thread Cert.TailIdeal.nD Cert.TailIdeal.τ).loc Cert.TailIdeal.main_arg5) (ix2 r ⟨1024 + j.val, by omega⟩)).toReal }

/-- The weights, read off the arguments. -/
def wts : Wts := {
  wa := fun k j => (show EReal from m ((c.tc : Thread Cert.TailIdeal.nD Cert.TailIdeal.τ).loc Cert.TailIdeal.main_arg6) (ix2 k j)).toReal
  wb := fun k j => (show EReal from m ((c.tc : Thread Cert.TailIdeal.nD Cert.TailIdeal.τ).loc Cert.TailIdeal.main_arg7) (ix2 k j)).toReal
  wo := fun k j => (show EReal from m ((c.tc : Thread Cert.TailIdeal.nD Cert.TailIdeal.τ).loc Cert.TailIdeal.main_arg8) (ix2 k j)).toReal
  fg := fun j => (show EReal from m ((c.tc : Thread Cert.TailIdeal.nD Cert.TailIdeal.τ).loc Cert.TailIdeal.main_arg9) (ix2 0 j)).toReal }

/-- Finite arguments are those rows and weights. -/
theorem args (h : Cert.Pre_TailIdeal_tail_finite m) : Cert.TailIdeal.Val.In m c (rows m c) (wts m c) := by
  obtain ⟨h0, h1, h2, h3, h4, h5, h6, h7, h8, h9⟩ := h c
  constructor
  · exact fun r j => Cert.Finite.all (fun _ => rfl) h0 _
  · exact fun r j => Cert.Finite.all (fun _ => rfl) h1 _
  · exact fun r j => Cert.Finite.all (fun _ => rfl) h2 _
  · intro a r n k hk
    have ea : a = ⟨k.val / 64, by omega⟩ := Fin.ext (by simp only []; omega)
    have en : n = ⟨k.val % 64, by omega⟩ := Fin.ext (by simp only []; omega)
    have e : (ix3 a r n : Cert.TailIdeal.S8x2048x64.Idx) = ix3 ⟨k.val / 64, by omega⟩ r ⟨k.val % 64, by omega⟩ :=
      congrArg₂ (fun p q => (ix3 p r q : Cert.TailIdeal.S8x2048x64.Idx)) ea en
    rw [e]; exact Cert.Finite.all (fun _ => rfl) h3 _
  · intro r k l hl
    rw [show l = ⟨1536 + k.val, by omega⟩ from Fin.ext hl]; exact Cert.Finite.all (fun _ => rfl) h4 _
  · intro r j l hl
    rw [show l = ⟨j.val, by omega⟩ from Fin.ext hl]; exact Cert.Finite.all (fun _ => rfl) h5 _
  · intro r j l hl
    rw [show l = ⟨1024 + j.val, by omega⟩ from Fin.ext hl]; exact Cert.Finite.all (fun _ => rfl) h5 _
  · exact fun r j => Cert.Finite.all (fun _ => rfl) h6 _
  · exact fun r j => Cert.Finite.all (fun _ => rfl) h7 _
  · exact fun r j => Cert.Finite.all (fun _ => rfl) h8 _
  · exact fun j => Cert.Finite.all (fun _ => rfl) h9 _

/-- The reference's arguments agree with the kernel's, so they are the same rows and weights. -/
theorem ref_args (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Val.Args (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) (m' ((c.tc : Thread Cert.TailRefIdeal.nD Cert.TailRefIdeal.τ).loc Cert.TailRefIdeal.main_arg9)) (rows m c) (wts m c) := by
  obtain ⟨e0, e1, e2, e3, e4, e5, e6, e7, e8, e9⟩ := hagree
  rw [e0, e1, e2, e3, e4, e5, e6, e7, e8, e9]
  exact args m c h

theorem res105 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v105 m' c = (Cert.TailIdeal.Gen.dats m 0 c).arrAt 10 (Cert.TailIdeal.cfgs 0).N := by
  have A := ref_args m c h m' hagree
  rw [Cert.TailRefIdeal.Read.val_main_v105_eq, Cert.TailIdeal.Val.out10 (args m c h)]
  funext i
  exact (congrArg _ (Cert.TailIdeal.Val.eq_one i)).trans (Cert.TailRefIdeal.Val.loss_at A)

theorem res67 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v67 m' c = (Cert.TailIdeal.Gen.dats m 0 c).arrAt 11 (Cert.TailIdeal.cfgs 0).N := by
  have A := ref_args m c h m' hagree
  rw [Cert.TailRefIdeal.Read.val_main_v67_eq, Cert.TailIdeal.Val.out11 (args m c h)]
  funext i
  exact (congrArg _ (Cert.TailIdeal.Val.eq_row i)).trans (Cert.TailRefIdeal.Val.dfg_at A _)

theorem res85 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v85 m' c = (Cert.TailIdeal.Gen.dats m 0 c).arrAt 12 (Cert.TailIdeal.cfgs 0).N := by
  have A := ref_args m c h m' hagree
  rw [Cert.TailRefIdeal.Read.val_main_v85_eq, Cert.TailIdeal.Val.out12 (args m c h)]
  funext i
  exact (congrArg _ (eq_ix2 i)).trans (Cert.TailRefIdeal.Val.dwo_at A _ _)

theorem res93 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v93 m' c = (Cert.TailIdeal.Gen.dats m 0 c).arrAt 13 (Cert.TailIdeal.cfgs 0).N := by
  have A := ref_args m c h m' hagree
  rw [Cert.TailRefIdeal.Read.val_main_v93_eq, Cert.TailIdeal.Val.out13 (args m c h)]
  funext i
  exact (congrArg _ (eq_ix2 i)).trans (Cert.TailRefIdeal.Val.dwoa_at A _ _)

theorem res98 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v98 m' c = (Cert.TailIdeal.Gen.dats m 0 c).arrAt 14 (Cert.TailIdeal.cfgs 0).N := by
  have A := ref_args m c h m' hagree
  rw [Cert.TailRefIdeal.Read.val_main_v98_eq, Cert.TailIdeal.Val.out14 (args m c h)]
  funext i
  exact (congrArg _ (eq_ix2 i)).trans (Cert.TailRefIdeal.Val.dwob_at A _ _)

theorem res83 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v83 m' c = (Cert.TailIdeal.Gen.dats m 0 c).arrAt 15 (Cert.TailIdeal.cfgs 0).N := by
  have A := ref_args m c h m' hagree
  rw [Cert.TailRefIdeal.Read.val_main_v83_eq, Cert.TailIdeal.Val.out15 (args m c h)]
  funext i
  exact (congrArg _ (eq_ix2 i)).trans (Cert.TailRefIdeal.Val.dx2_at A _ _)

theorem res94 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v94 m' c = (Cert.TailIdeal.Gen.dats m 0 c).arrAt 16 (Cert.TailIdeal.cfgs 0).N := by
  have A := ref_args m c h m' hagree
  rw [Cert.TailRefIdeal.Read.val_main_v94_eq, Cert.TailIdeal.Val.out16 (args m c h)]
  funext i
  exact (congrArg _ (eq_ix2 i)).trans (Cert.TailRefIdeal.Val.dya_at A _ _)

theorem res104 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v104 m' c = (Cert.TailIdeal.Gen.dats m 0 c).arrAt 17 (Cert.TailIdeal.cfgs 0).N := by
  have A := ref_args m c h m' hagree
  rw [Cert.TailRefIdeal.Read.val_main_v104_eq, Cert.TailIdeal.Val.out17 (args m c h)]
  funext i
  exact (congrArg _ (eq_ix3 i)).trans (Cert.TailRefIdeal.Val.do_at A _ _ _ _ rfl)

theorem res102 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v102 m' c = (Cert.TailIdeal.Gen.dats m 0 c).arrAt 18 (Cert.TailIdeal.cfgs 0).N := by
  have A := ref_args m c h m' hagree
  rw [Cert.TailRefIdeal.Read.val_main_v102_eq, Cert.TailIdeal.Val.out18 (args m c h)]
  funext i
  exact (congrArg _ (eq_ix2 i)).trans (Cert.TailRefIdeal.Val.dgate_at A _ _)

theorem res106 (h : Cert.Pre_TailIdeal_tail_finite m)
    (m' : (ℓ : Loc Cert.TailRefIdeal.nD Cert.TailRefIdeal.τ Cert.TailRefIdeal.sig) → Buf (Elt Ideal) ℓ)
    (hagree : m' ((c.tc : Thread Cert.TailRefIdeal.nD Cert.TailRefIdeal.τ).loc Cert.TailRefIdeal.main_arg0) = m ((c.tc : Thread Cert.TailIdeal.nD Cert.TailIdeal.τ).loc Cert.TailIdeal.main_arg0) ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1) ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2) ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3) ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4) ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5) ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6) ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7) ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8) ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) :
    Cert.TailRefIdeal.Value.res_main_v106 m' c = (Cert.TailIdeal.Gen.dats m 0 c).arrAt 19 (Cert.TailIdeal.cfgs 0).N := by
  have A := ref_args m c h m' hagree
  rw [Cert.TailRefIdeal.Read.val_main_v106_eq, Cert.TailIdeal.Val.out19 (args m c h)]
  funext i
  refine (congrArg _ (eq_ix2 i)).trans ?_
  by_cases hl : (i 1).val < 1024
  · exact (Cert.TailRefIdeal.Val.dug_at_a A _ ⟨(i 1).val, hl⟩ _ rfl).trans
      (by rw [Cert.TailIdeal.Val.dug_lo (j := ⟨(i 1).val, hl⟩) rfl])
  · have hi : (i 1).val < 2048 := (i 1).isLt
    have hj : (i 1).val = 1024 + ((i 1).val - 1024) := by omega
    exact (Cert.TailRefIdeal.Val.dug_at_b A _ ⟨(i 1).val - 1024, by omega⟩ _ hj).trans
      (by rw [Cert.TailIdeal.Val.dug_hi (j := ⟨(i 1).val - 1024, by omega⟩) hj])

/-- The claim about values: the kernel's ten results and the reference's are the same arrays. -/
theorem algebraic : Cert.algebraic_TailIdeal_TailRefIdeal_pre_tail_finite := by
  intro m g m' g' hpre hagree
  refine ⟨fun c => (Cert.TailIdeal.Gen.dats m 0 c).arrAt 10 Cert.TailIdeal.cfg0.N, fun c => (Cert.TailIdeal.Gen.dats m 0 c).arrAt 11 Cert.TailIdeal.cfg0.N, fun c => (Cert.TailIdeal.Gen.dats m 0 c).arrAt 12 Cert.TailIdeal.cfg0.N, fun c => (Cert.TailIdeal.Gen.dats m 0 c).arrAt 13 Cert.TailIdeal.cfg0.N, fun c => (Cert.TailIdeal.Gen.dats m 0 c).arrAt 14 Cert.TailIdeal.cfg0.N, fun c => (Cert.TailIdeal.Gen.dats m 0 c).arrAt 15 Cert.TailIdeal.cfg0.N, fun c => (Cert.TailIdeal.Gen.dats m 0 c).arrAt 16 Cert.TailIdeal.cfg0.N, fun c => (Cert.TailIdeal.Gen.dats m 0 c).arrAt 17 Cert.TailIdeal.cfg0.N, fun c => (Cert.TailIdeal.Gen.dats m 0 c).arrAt 18 Cert.TailIdeal.cfg0.N, fun c => (Cert.TailIdeal.Gen.dats m 0 c).arrAt 19 Cert.TailIdeal.cfg0.N, Cert.TailIdeal.Value.run_blocks m g, ?_⟩
  refine (θ_run Cert.TailRefIdeal.defs _ _).mono (fun r h c => ?_) (Cert.TailRefIdeal.Value.run m' g')
  obtain ⟨r105, r67, r85, r93, r98, r83, r94, r104, r102, r106, hargs⟩ := h c
  exact ⟨r105.trans (res105 m c hpre m' (hagree c)), r67.trans (res67 m c hpre m' (hagree c)), r85.trans (res85 m c hpre m' (hagree c)), r93.trans (res93 m c hpre m' (hagree c)), r98.trans (res98 m c hpre m' (hagree c)), r83.trans (res83 m c hpre m' (hagree c)), r94.trans (res94 m c hpre m' (hagree c)), r104.trans (res104 m c hpre m' (hagree c)), r102.trans (res102 m c hpre m' (hagree c)), r106.trans (res106 m c hpre m' (hagree c)), hargs⟩

end Cert.Proof.TailMain

end
-- ==== Proof.InputSpec.lean ====
module

public import Idealize.ShloMosaic.Lib.Pointwise

/-! The input norm, as both programs of each claim compute it. -/

@[expose] public section

noncomputable section

open Idealize.ShloMosaic

namespace Cert.Input

/-- A token's normalised row: the row over its root mean square, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

end Cert.Input
-- ==== Proof.ProjVal.lean ====
module

public import proofs.«01_k».proof.Defs
public import proofs.«01_k».proof.Proof.InputSpec
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise
public import Idealize.ShloMosaic.Lib.Claim

/-! The input norm and the four input projections: kernel and reference hold the same sums. -/

@[expose] public section

set_option maxRecDepth 16384

noncomputable section

open Idealize.ShloMosaic Idealize.ShloMosaic.TcCoe Idealize.SL.Sem Idealize.ShloMosaic.Pointwise

namespace Cert.ProjIdeal.Val

open Cert.ProjIdeal Cert.ProjIdeal.Gen Cert.Input
open Idealize.ShloMosaic.Pipeline (Dat)

theorem h_at (x : Vec Ideal S256x1024 .f32) (g : Vec Ideal S1x1024 .f32) (r : Fin 256) (k : Fin 1024) :
    k0_pay1 x g (ix2 r k) = normed (fun j => x (ix2 r j)) (fun j => g (ix2 0 j)) k := by
  pointwise [k0_pay1, normed]

theorem a_pay (x : Vec Ideal S256x1024 .f32) (g : Vec Ideal S1x1024 .f32) (w : Vec Ideal S2176x1024 .bf16) (r : Fin 256)
    (j : Fin 2176) :
    k0_pay2 x g w (ix2 r j) = ∑ k, normed (fun j => x (ix2 r j)) (fun j => g (ix2 0 j)) k * w (ix2 j k) := by
  pointwise [k0_pay2]
  simp only [h_at]

theorem b_pay (x : Vec Ideal S256x1024 .f32) (g : Vec Ideal S1x1024 .f32) (w : Vec Ideal S2048x1024 .bf16) (r : Fin 256)
    (j : Fin 2048) :
    k0_pay3 x g w (ix2 r j) = ∑ k, normed (fun j => x (ix2 r j)) (fun j => g (ix2 0 j)) k * w (ix2 j k) := by
  pointwise [k0_pay3]
  simp only [h_at]

theorem c_pay (x : Vec Ideal S256x1024 .f32) (g : Vec Ideal S1x1024 .f32) (w : Vec Ideal S2048x1024 .bf16) (r : Fin 256)
    (j : Fin 2048) :
    k0_pay4 x g w (ix2 r j) = ∑ k, normed (fun j => x (ix2 r j)) (fun j => g (ix2 0 j)) k * w (ix2 j k) := by
  pointwise [k0_pay4]
  simp only [h_at]

theorem f_pay (x : Vec Ideal S256x1024 .f32) (g : Vec Ideal S1x1024 .f32) (w : Vec Ideal S128x1024 .bf16) (r : Fin 256)
    (j : Fin 128) :
    k0_pay5 x g w (ix2 r j) = ∑ k, normed (fun j => x (ix2 r j)) (fun j => g (ix2 0 j)) k * w (ix2 j k) := by
  pointwise [k0_pay5]
  simp only [h_at]

variable (m : (ℓ : Loc nD τ sig) → Buf (Elt Ideal) ℓ) (c : Dev nD)

/-- Which block each window shows at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

/-- Row `r` of the tile of point `t`, among the 2048 tokens. -/
def tok (t : Fin cfg0.N) (r : Fin 256) : Fin 2048 :=
  ⟨t.val * 256 + r.val, by have := lt_of_lt_of_eq t.isLt N_0; omega⟩

/-- A token's normalised row, from the arguments. -/
def row (r : Fin 2048) (k : Fin 1024) : EReal :=
  normed (fun j => m ((c : Thread nD τ).loc main_arg0) (ix2 r j)) (fun j => m ((c : Thread nD τ).loc main_arg1) (ix2 0 j)) k

theorem row_at (t : Fin cfg0.N) (r : Fin 256) (k : Fin 1024) :
    normed (fun j => iblk m c 0 t (ix2 r j)) (fun j => iblk m c 1 t (ix2 0 j)) k = row m c (tok t r) k := by
  unfold row
  congr 1
  · funext j
    blk_point [iblk, V, idx t, tok]
  · funext j
    blk_point [iblk, V, idx t]

theorem h_out : (dats m 0 c).arrAt 6 (cfgs 0).N = (fun i => row m c (i 0) (i 1)) := by
  refine (dats m 0 c).arrAt_eq_of_covers 6 _ (by decide +kernel) fun t hf y => ?_
  blk_simp
  rw [after0_6]
  frame_out
  refine (congrArg _ (eq_ix2 y)).trans ((h_at _ _ _ _).trans ?_)
  rw [show (win0_6.blk t).view.emb y 0 = tok t (y 0) from Fin.ext (by blk_simp [idx t, tok]),
    show (win0_6.blk t).view.emb y 1 = y 1 from Fin.ext (by blk_simp [idx t])]
  exact row_at m c t (y 0) (y 1)

theorem a_out : (dats m 0 c).arrAt 7 (cfgs 0).N
    = (fun i => ∑ k, row m c (i 0) k * (m ((c : Thread nD τ).loc main_arg2) (ix2 (i 1) k) : EReal)) := by
  refine (dats m 0 c).arrAt_eq_of_covers 7 _ (by decide +kernel) fun t hf y => ?_
  blk_simp
  rw [after0_7]
  frame_out
  refine (congrArg _ (eq_ix2 y)).trans ((a_pay _ _ _ _ _).trans ?_)
  rw [show (win0_7.blk t).view.emb y 0 = tok t (y 0) from Fin.ext (by blk_simp [idx t, tok]),
    show (win0_7.blk t).view.emb y 1 = y 1 from Fin.ext (by blk_simp [idx t])]
  refine Finset.sum_congr rfl fun k _ => congrArg₂ (· * ·) (row_at m c t (y 0) k) ?_
  blk_point [iblk, V, idx t]

theorem b_out : (dats m 0 c).arrAt 8 (cfgs 0).N
    = (fun i => ∑ k, row m c (i 0) k * (m ((c : Thread nD τ).loc main_arg3) (ix2 (i 1) k) : EReal)) := by
  refine (dats m 0 c).arrAt_eq_of_covers 8 _ (by decide +kernel) fun t hf y => ?_
  blk_simp
  rw [after0_8]
  frame_out
  refine (congrArg _ (eq_ix2 y)).trans ((b_pay _ _ _ _ _).trans ?_)
  rw [show (win0_8.blk t).view.emb y 0 = tok t (y 0) from Fin.ext (by blk_simp [idx t, tok]),
    show (win0_8.blk t).view.emb y 1 = y 1 from Fin.ext (by blk_simp [idx t])]
  refine Finset.sum_congr rfl fun k _ => congrArg₂ (· * ·) (row_at m c t (y 0) k) ?_
  blk_point [iblk, V, idx t]

theorem c_out : (dats m 0 c).arrAt 9 (cfgs 0).N
    = (fun i => ∑ k, row m c (i 0) k * (m ((c : Thread nD τ).loc main_arg4) (ix2 (i 1) k) : EReal)) := by
  refine (dats m 0 c).arrAt_eq_of_covers 9 _ (by decide +kernel) fun t hf y => ?_
  blk_simp
  rw [after0_9]
  frame_out
  refine (congrArg _ (eq_ix2 y)).trans ((c_pay _ _ _ _ _).trans ?_)
  rw [show (win0_9.blk t).view.emb y 0 = tok t (y 0) from Fin.ext (by blk_simp [idx t, tok]),
    show (win0_9.blk t).view.emb y 1 = y 1 from Fin.ext (by blk_simp [idx t])]
  refine Finset.sum_congr rfl fun k _ => congrArg₂ (· * ·) (row_at m c t (y 0) k) ?_
  blk_point [iblk, V, idx t]

theorem f_out : (dats m 0 c).arrAt 10 (cfgs 0).N
    = (fun i => ∑ k, row m c (i 0) k * (m ((c : Thread nD τ).loc main_arg5) (ix2 (i 1) k) : EReal)) := by
  refine (dats m 0 c).arrAt_eq_of_covers 10 _ (by decide +kernel) fun t hf y => ?_
  blk_simp
  rw [after0_10]
  frame_out
  refine (congrArg _ (eq_ix2 y)).trans ((f_pay _ _ _ _ _).trans ?_)
  rw [show (win0_10.blk t).view.emb y 0 = tok t (y 0) from Fin.ext (by blk_simp [idx t, tok]),
    show (win0_10.blk t).view.emb y 1 = y 1 from Fin.ext (by blk_simp [idx t])]
  refine Finset.sum_congr rfl fun k _ => congrArg₂ (· * ·) (row_at m c t (y 0) k) ?_
  blk_point [iblk, V, idx t]

end Cert.ProjIdeal.Val

namespace Cert.ProjRefIdeal.Val

open Cert.ProjRefIdeal Cert.ProjRefIdeal.Gen Cert.Input

variable (x : FVec Ideal S2048x1024 .f32) (g : FVec Ideal S1x1024 .f32) (a : FVec Ideal S2176x1024 .bf16)
  (b c : FVec Ideal S2048x1024 .bf16) (f : FVec Ideal S128x1024 .bf16)

theorem h_at (r : Fin 2048) (k : Fin 1024) :
    Read.val_main_v11 (F := Ideal) x g (ix2 r k) = normed (fun j => x (ix2 r j)) (fun j => g (ix2 0 j)) k := by
  pointwise [Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, normed]

theorem saved_at (r : Fin 2048) (k : Fin 1024) :
    Read.val_main_v16 (F := Ideal) x g (ix2 r k) = normed (fun j => x (ix2 r j)) (fun j => g (ix2 0 j)) k := by
  pointwise [Read.val_main_v16]
  exact h_at x g r k

theorem a_at (r : Fin 2048) (j : Fin 2176) :
    Read.val_main_v17 (F := Ideal) x g a b c f (ix2 r j)
      = ∑ k, normed (fun j => x (ix2 r j)) (fun j => g (ix2 0 j)) k * a (ix2 j k) := by
  pointwise [Read.val_main_v17, Read.val_main_v15, Read.val_main_v12, Read.val_main_v13, Read.val_main_v14]
  simp only [h_at]

theorem b_at (r : Fin 2048) (j : Fin 2048) :
    Read.val_main_v18 (F := Ideal) x g a b c f (ix2 r j)
      = ∑ k, normed (fun j => x (ix2 r j)) (fun j => g (ix2 0 j)) k * b (ix2 j k) := by
  pointwise [Read.val_main_v18, Read.val_main_v15, Read.val_main_v12, Read.val_main_v13, Read.val_main_v14]
  simp only [h_at]

theorem c_at (r : Fin 2048) (j : Fin 2048) :
    Read.val_main_v19 (F := Ideal) x g a b c f (ix2 r j)
      = ∑ k, normed (fun j => x (ix2 r j)) (fun j => g (ix2 0 j)) k * c (ix2 j k) := by
  pointwise [Read.val_main_v19, Read.val_main_v15, Read.val_main_v12, Read.val_main_v13, Read.val_main_v14]
  simp only [h_at]
  refine Finset.sum_congr rfl fun k _ => congrArg _ ?_
  rw [dif_neg (by omega), dif_neg (by omega), dif_pos (by omega)]
  exact congrArg c (congrArg (fun q => ix2 q k) (Fin.ext (by simp only []; omega)))

theorem f_at (r : Fin 2048) (j : Fin 128) :
    Read.val_main_v20 (F := Ideal) x g a b c f (ix2 r j)
      = ∑ k, normed (fun j => x (ix2 r j)) (fun j => g (ix2 0 j)) k * f (ix2 j k) := by
  pointwise [Read.val_main_v20, Read.val_main_v15, Read.val_main_v12, Read.val_main_v13, Read.val_main_v14]
  simp only [h_at]
  refine Finset.sum_congr rfl fun k _ => congrArg _ ?_
  rw [dif_neg (by omega), dif_neg (by omega), dif_neg (by omega)]
  exact congrArg f (congrArg (fun q => ix2 q k) (Fin.ext (by simp only []; omega)))

end Cert.ProjRefIdeal.Val

namespace Cert.Proof.ProjVal

open Cert.Input

theorem algebraic : Cert.algebraic_ProjIdeal_ProjRefIdeal := by
  intro m g m' g' _ hagree
  have key : ∀ c : Dev Cert.ProjIdeal.nD, ∀ (r : Fin 2048) (k : Fin 1024), normed (fun j => m' ((c.tc : Thread Cert.ProjRefIdeal.nD Cert.ProjRefIdeal.τ).loc Cert.ProjRefIdeal.main_arg0) (ix2 r j)) (fun j => m' ((c.tc : Thread Cert.ProjRefIdeal.nD Cert.ProjRefIdeal.τ).loc Cert.ProjRefIdeal.main_arg1) (ix2 0 j)) k = Cert.ProjIdeal.Val.row m c r k := fun c r k => by
    obtain ⟨e0, e1, -⟩ := hagree c
    rw [e0, e1]
    rfl
  refine ⟨fun c => (Cert.ProjIdeal.Gen.dats m 0 c).arrAt 6 (Cert.ProjIdeal.cfgs 0).N, fun c => (Cert.ProjIdeal.Gen.dats m 0 c).arrAt 7 (Cert.ProjIdeal.cfgs 0).N, fun c => (Cert.ProjIdeal.Gen.dats m 0 c).arrAt 8 (Cert.ProjIdeal.cfgs 0).N, fun c => (Cert.ProjIdeal.Gen.dats m 0 c).arrAt 9 (Cert.ProjIdeal.cfgs 0).N, fun c => (Cert.ProjIdeal.Gen.dats m 0 c).arrAt 10 (Cert.ProjIdeal.cfgs 0).N, Cert.ProjIdeal.Value.run_blocks m g, ?_⟩
  refine (θ_run Cert.ProjRefIdeal.defs _ _).mono (fun r h c => ?_) (Cert.ProjRefIdeal.Value.run m' g')
  obtain ⟨r0, r1, r2, r3, r4, hargs⟩ := h c
  obtain ⟨-, -, e2, e3, e4, e5⟩ := hagree c
  refine ⟨r0.trans ?_, r1.trans ?_, r2.trans ?_, r3.trans ?_, r4.trans ?_, hargs⟩
  · rw [Cert.ProjRefIdeal.Read.val_main_v16_eq]
    refine Eq.trans (funext fun i => ?_) (Cert.ProjIdeal.Val.h_out m c).symm
    exact (congrArg _ (eq_ix2 i)).trans ((Cert.ProjRefIdeal.Val.saved_at _ _ _ _).trans (key c (i 0) (i 1)))
  · rw [Cert.ProjRefIdeal.Read.val_main_v17_eq, e2, e3, e4, e5]
    refine Eq.trans (funext fun i => ?_) (Cert.ProjIdeal.Val.a_out m c).symm
    refine (congrArg _ (eq_ix2 i)).trans ((Cert.ProjRefIdeal.Val.a_at _ _ _ _ _ _ _ _).trans ?_)
    exact Finset.sum_congr rfl fun k _ => congrArg₂ (· * ·) (key c (i 0) k) rfl
  · rw [Cert.ProjRefIdeal.Read.val_main_v18_eq, e2, e3, e4, e5]
    refine Eq.trans (funext fun i => ?_) (Cert.ProjIdeal.Val.b_out m c).symm
    refine (congrArg _ (eq_ix2 i)).trans ((Cert.ProjRefIdeal.Val.b_at _ _ _ _ _ _ _ _).trans ?_)
    exact Finset.sum_congr rfl fun k _ => congrArg₂ (· * ·) (key c (i 0) k) rfl
  · rw [Cert.ProjRefIdeal.Read.val_main_v19_eq, e2, e3, e4, e5]
    refine Eq.trans (funext fun i => ?_) (Cert.ProjIdeal.Val.c_out m c).symm
    refine (congrArg _ (eq_ix2 i)).trans ((Cert.ProjRefIdeal.Val.c_at _ _ _ _ _ _ _ _).trans ?_)
    exact Finset.sum_congr rfl fun k _ => congrArg₂ (· * ·) (key c (i 0) k) rfl
  · rw [Cert.ProjRefIdeal.Read.val_main_v20_eq, e2, e3, e4, e5]
    refine Eq.trans (funext fun i => ?_) (Cert.ProjIdeal.Val.f_out m c).symm
    refine (congrArg _ (eq_ix2 i)).trans ((Cert.ProjRefIdeal.Val.f_at _ _ _ _ _ _ _ _).trans ?_)
    exact Finset.sum_congr rfl fun k _ => congrArg₂ (· * ·) (key c (i 0) k) rfl

end Cert.Proof.ProjVal

end
-- ==== Proof.EarlyRef.lean ====
module

public import proofs.«01_k».proof.Proof.InputSpec
public import proofs.«01_k».proof.Proof.Gen.EarlyRefIdeal
public import proofs.«01_k».proof.Proof.Gen.EarlyRefIdeal.Run
public import proofs.«01_k».proof.Proof.Gen.EarlyRefIdeal.Read
public import Idealize.ShloMosaic.Lib.Pointwise
public import Idealize.ShloMosaic.Lib.Claim

/-! The reference's gradients of the other three input projections, row by row. -/

@[expose] public section

set_option maxRecDepth 16384

noncomputable section

open Idealize.ShloMosaic Idealize.ShloMosaic.TcCoe Idealize.SL.Sem Idealize.ShloMosaic.Pointwise

namespace Cert.EarlyRefIdeal.Val

open Cert.EarlyRefIdeal Cert.EarlyRefIdeal.Gen Cert.Input

variable (x : FVec Ideal S2048x1024 .f32) (g : FVec Ideal S1x1024 .f32) (b : FVec Ideal S2048x2048 .bf16)
  (gg : FVec Ideal S2048x2048 .bf16) (f : FVec Ideal S2048x128 .bf16)

theorem h_at (r : Fin 2048) (k : Fin 1024) :
    Read.val_main_v15 (F := Ideal) x g (ix2 r k) = normed (fun j => x (ix2 r j)) (fun j => g (ix2 0 j)) k := by
  pointwise [Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_cst, Read.val_main_cst_0, Read.val_main_cst_1, Read.val_main_cst_2, normed]

/-- The three gradients' rows, end to end. -/
def gradRow (n : ℕ) (j : Fin 1024) : EReal :=
  if h : n < 2048 then ∑ r : Fin 2048, (b (ix2 r ⟨n, h⟩) : EReal) * normed (fun j => x (ix2 r j)) (fun j => g (ix2 0 j)) j
  else if h1 : n < 2056 then ∑ r : Fin 2048, (f (ix2 r ⟨n - 2048, by omega⟩) : EReal) * normed (fun j => x (ix2 r j)) (fun j => g (ix2 0 j)) j
  else if h2 : n < 4104 then ∑ r : Fin 2048, (gg (ix2 r ⟨n - 2056, by omega⟩) : EReal) * normed (fun j => x (ix2 r j)) (fun j => g (ix2 0 j)) j
  else 0

theorem dw_at (n : Fin 4104) (j : Fin 1024) : Read.val_main_v19 (F := Ideal) x g b gg f (ix2 n j) = gradRow x g b gg f n.val j := by
  pointwise [Read.val_main_v19, Read.val_main_v18, Read.val_main_v17, Read.val_main_v2, Read.val_main_v1, Read.val_main_v0]
  simp only [h_at]
  unfold gradRow
  by_cases h : n.val < 2048
  · rw [dif_pos h]
    exact Finset.sum_congr rfl fun r _ => by rw [dif_pos h]
  · rw [dif_neg h]
    by_cases h1 : n.val < 2056
    · rw [dif_pos h1]
      exact Finset.sum_congr rfl fun r _ => by rw [dif_neg h, dif_pos (by omega)]
    · rw [dif_neg h1, dif_pos n.isLt]
      exact Finset.sum_congr rfl fun r _ => by rw [dif_neg h, dif_neg (by omega)]; exact congrArg (fun q => (gg (ix2 r q) : EReal) * _) (Fin.ext (by simp only []; omega))

theorem cut_at (v : FVec Ideal S3925x1024 .f32) (h : S3925x1024.ShapeCasts S5x785x1024) (a : Fin 5) (b : Fin 785) (j : Fin 1024) :
    shapeCast S5x785x1024 v h (ix3 a b j) = v (ix2 ⟨a.val * 785 + b.val, by omega⟩ j) := by
  pointwise

theorem tail_at (n : Fin 3925) (j : Fin 1024) : Read.val_main_v20 (F := Ideal) x g b gg f (ix2 n j) = gradRow x g b gg f (179 + n.val) j := by
  pointwise [Read.val_main_v20]
  exact dw_at x g b gg f _ j

theorem out_at (a : Fin 5) (i : Fin 785) (j : Fin 1024) :
    Read.val_main_v22 (F := Ideal) x g b gg f (ix3 a i j) = gradRow x g b gg f (179 + (785 * a.val + i.val)) j := by
  rw [Nat.mul_comm 785 a.val, Read.val_main_v22_apply]
  unfold Read.val_main_v21
  rw [cut_at]
  exact tail_at x g b gg f _ j

theorem head_at (n : Fin 184) (j : Fin 1024) : Read.val_main_v23 (F := Ideal) x g b gg f (ix2 n j) = gradRow x g b gg f n.val j := by
  pointwise [Read.val_main_v23]
  exact dw_at x g b gg f _ j

end Cert.EarlyRefIdeal.Val

end
-- ==== Proof.EarlyVal.lean ====
module

public import proofs.«01_k».proof.Defs
public import proofs.«01_k».proof.Proof.InputSpec
public import proofs.«01_k».proof.Proof.Gen.EarlyIdeal.Frame
public import proofs.«01_k».proof.Proof.Gen.EarlyIdeal.Value
public import proofs.«01_k».proof.Proof.EarlyRef
public import proofs.«01_k».proof.Proof.Gen.EarlyRefIdeal
public import proofs.«01_k».proof.Proof.Gen.EarlyRefIdeal.Run
public import proofs.«01_k».proof.Proof.Gen.EarlyRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradients of the other three input projections, gathered over four tiles of tokens and laid end to end: kernel and
reference hold the same sums. -/

@[expose] public section

set_option maxRecDepth 16384

noncomputable section

open Idealize.ShloMosaic Idealize.ShloMosaic.TcCoe Idealize.SL.Sem Idealize.ShloMosaic.Pointwise

namespace Cert.EarlyIdeal.Val

open Cert.EarlyIdeal Cert.EarlyIdeal.Gen Cert.Input
open Idealize.ShloMosaic.Pipeline (Dat)

theorem zeroB_at (j : S2048x1024.Idx) : (k0_pay6 : FVec Ideal S2048x1024 .f32) j = 0 := by
  rw [eq_ix2 j]
  pointwise [k0_pay6]

theorem accB_at (h : Vec Ideal S512x1024 .bf16) (s : Vec Ideal S2048x1024 .f32) (d : Vec Ideal S512x2048 .bf16) (i : Fin 2048)
    (j : Fin 1024) : k0_pay10 h s d (ix2 i j) = s (ix2 i j) + ∑ r, d (ix2 r i) * h (ix2 r j) := by
  pointwise [k0_pay10, k0_pay9]

theorem zeroG_at (j : S2048x1024.Idx) : (k0_pay7 : FVec Ideal S2048x1024 .f32) j = 0 := by
  rw [eq_ix2 j]
  pointwise [k0_pay7]

theorem accG_at (h : Vec Ideal S512x1024 .bf16) (s : Vec Ideal S2048x1024 .f32) (d : Vec Ideal S512x2048 .bf16) (i : Fin 2048)
    (j : Fin 1024) : k0_pay11 h s d (ix2 i j) = s (ix2 i j) + ∑ r, d (ix2 r i) * h (ix2 r j) := by
  pointwise [k0_pay11, k0_pay9]

theorem zeroF_at (j : S128x1024.Idx) : (k0_pay8 : FVec Ideal S128x1024 .f32) j = 0 := by
  rw [eq_ix2 j]
  pointwise [k0_pay8]

theorem accF_at (h : Vec Ideal S512x1024 .bf16) (s : Vec Ideal S128x1024 .f32) (d : Vec Ideal S512x128 .bf16) (i : Fin 128)
    (j : Fin 1024) : k0_pay12 h s d (ix2 i j) = s (ix2 i j) + ∑ r, d (ix2 r i) * h (ix2 r j) := by
  pointwise [k0_pay12, k0_pay9]

variable (m : (ℓ : Loc nD τ sig) → Buf (Elt Ideal) ℓ) (c : Dev nD)

/-- Which block each window shows at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] :=
  (by decide +kernel : ∀ t : Fin grid0.N, _)

/-- Row `r` of the tile of point `t`, among the 2048 tokens. -/
def tok (t : Fin cfg0.N) (r : Fin 512) : Fin 2048 :=
  ⟨t.val * 512 + r.val, by have := lt_of_lt_of_eq t.isLt N_0; omega⟩

/-- A token's normalised row, from the arguments. -/
def row (r : Fin 2048) (k : Fin 1024) : EReal :=
  normed (fun j => m ((c : Thread nD τ).loc main_arg0) (ix2 r j)) (fun j => m ((c : Thread nD τ).loc main_arg1) (ix2 0 j)) k

/-- A token's gradient at one projection's output. -/
def db (r : Fin 2048) (i : Fin 2048) : EReal := m ((c : Thread nD τ).loc main_arg2) (ix2 r i)

/-- A token's gradient at one projection's output. -/
def dg (r : Fin 2048) (i : Fin 2048) : EReal := m ((c : Thread nD τ).loc main_arg3) (ix2 r i)

/-- A token's gradient at one projection's output. -/
def df (r : Fin 2048) (i : Fin 128) : EReal := m ((c : Thread nD τ).loc main_arg4) (ix2 r i)

theorem saved (r : Fin 2048) (k : Fin 1024) : V m c main_v12 (ix2 r k) = row m c r k := by
  entry_read
  pointwise [row, normed]

theorem h_blk (t : Fin cfg0.N) (r : Fin 512) (k : Fin 1024) : iblk m c 0 t (ix2 r k) = row m c (tok t r) k := by
  rw [← saved]
  blk_point [iblk, idx t, tok]

/-- Four tiles' shares are the sum over the tokens. -/
theorem sum_tok (f : Fin 2048 → EReal) : ∑ p : Fin cfg0.N, ∑ r, f (tok p r) = ∑ r, f r := by
  rw [← (finCongr N_0).symm.sum_comp, ← (finProdFinEquiv (m := 4) (n := 512)).sum_comp f, Fintype.sum_prod_type]
  refine Finset.sum_congr rfl fun p _ => Finset.sum_congr rfl fun r _ => congrArg f (Fin.ext ?_)
  show p.val * 512 + r.val = r.val + 512 * p.val
  omega

theorem db_blk (t : Fin cfg0.N) (r : Fin 512) (k : Fin 2048) : iblk m c 1 t (ix2 r k) = db m c (tok t r) k := by
  blk_point [iblk, V, idx t, tok, db]

/-- One tile's share of that gradient. -/
def partB (t : Fin cfg0.N) (j : S2048x1024.Idx) : EReal := ∑ r, db m c (tok t r) (j 0) * row m c (tok t r) (j 1)

theorem stepB_at (t : Fin cfg0.N) (s : Vec Ideal S2048x1024 .f32) (j : S2048x1024.Idx) :
    k0_pay10 (iblk m c 0 t) s (iblk m c 1 t) j = s j + partB m c t j := by
  refine (congrArg _ (eq_ix2 j)).trans ((accB_at _ _ _ _ _).trans ?_)
  refine congrArg₂ (· + ·) (congrArg s (eq_ix2 j).symm) (Finset.sum_congr rfl fun r _ => ?_)
  exact congrArg₂ (· * ·) (db_blk m c t r (j 0)) (h_blk m c t r (j 1))

/-- That scratch after the last point. -/
theorem accB (j : S2048x1024.Idx) :
    (outsAt0 m c t0_3.val t0_3.isLt).2.2.1 j = ∑ r, db m c r (j 0) * row m c r (j 1) := by
  rw [Pipeline.eq_sum_fin_of_reset_step_apply_last (fun n h => (outsAt0 m c n h).2.2.1) 4 (fun _ => 0)
    (fun t j => partB m c t j)
    (fun t h j => by
      rw [outsAt0_A m c t h (by omega)]; frame_out
      exact (stepB_at m c t _ j).trans (congrArg (· + _) (zeroB_at j)))
    (fun t h j => by
      by_cases h3 : t.val % 4 = 3
      · rw [outsAt0_C m c t h h3]; frame_out
        exact (stepB_at m c t _ j).trans (congrArg (· + partB m c t j) (congrFun (Memref.IsWhole.read_unread _ _) j))
      · rw [outsAt0_B m c t h h3]; frame_out
        exact (stepB_at m c t _ j).trans (congrArg (· + partB m c t j) (congrFun (Memref.IsWhole.read_unread _ _) j)))
    (le_of_eq N_0) t0_3 rfl j, zero_add]
  exact sum_tok (fun r => db m c r (j 0) * row m c r (j 1))

theorem dg_blk (t : Fin cfg0.N) (r : Fin 512) (k : Fin 2048) : iblk m c 2 t (ix2 r k) = dg m c (tok t r) k := by
  blk_point [iblk, V, idx t, tok, dg]

/-- One tile's share of that gradient. -/
def partG (t : Fin cfg0.N) (j : S2048x1024.Idx) : EReal := ∑ r, dg m c (tok t r) (j 0) * row m c (tok t r) (j 1)

theorem stepG_at (t : Fin cfg0.N) (s : Vec Ideal S2048x1024 .f32) (j : S2048x1024.Idx) :
    k0_pay11 (iblk m c 0 t) s (iblk m c 2 t) j = s j + partG m c t j := by
  refine (congrArg _ (eq_ix2 j)).trans ((accG_at _ _ _ _ _).trans ?_)
  refine congrArg₂ (· + ·) (congrArg s (eq_ix2 j).symm) (Finset.sum_congr rfl fun r _ => ?_)
  exact congrArg₂ (· * ·) (dg_blk m c t r (j 0)) (h_blk m c t r (j 1))

/-- That scratch after the last point. -/
theorem accG (j : S2048x1024.Idx) :
    (outsAt0 m c t0_3.val t0_3.isLt).2.2.2.1 j = ∑ r, dg m c r (j 0) * row m c r (j 1) := by
  rw [Pipeline.eq_sum_fin_of_reset_step_apply_last (fun n h => (outsAt0 m c n h).2.2.2.1) 4 (fun _ => 0)
    (fun t j => partG m c t j)
    (fun t h j => by
      rw [outsAt0_A m c t h (by omega)]; frame_out
      exact (stepG_at m c t _ j).trans (congrArg (· + _) (zeroG_at j)))
    (fun t h j => by
      by_cases h3 : t.val % 4 = 3
      · rw [outsAt0_C m c t h h3]; frame_out
        exact (stepG_at m c t _ j).trans (congrArg (· + partG m c t j) (congrFun (Memref.IsWhole.read_unread _ _) j))
      · rw [outsAt0_B m c t h h3]; frame_out
        exact (stepG_at m c t _ j).trans (congrArg (· + partG m c t j) (congrFun (Memref.IsWhole.read_unread _ _) j)))
    (le_of_eq N_0) t0_3 rfl j, zero_add]
  exact sum_tok (fun r => dg m c r (j 0) * row m c r (j 1))

theorem df_blk (t : Fin cfg0.N) (r : Fin 512) (k : Fin 128) : iblk m c 3 t (ix2 r k) = df m c (tok t r) k := by
  blk_point [iblk, V, idx t, tok, df]

/-- One tile's share of that gradient. -/
def partF (t : Fin cfg0.N) (j : S128x1024.Idx) : EReal := ∑ r, df m c (tok t r) (j 0) * row m c (tok t r) (j 1)

theorem stepF_at (t : Fin cfg0.N) (s : Vec Ideal S128x1024 .f32) (j : S128x1024.Idx) :
    k0_pay12 (iblk m c 0 t) s (iblk m c 3 t) j = s j + partF m c t j := by
  refine (congrArg _ (eq_ix2 j)).trans ((accF_at _ _ _ _ _).trans ?_)
  refine congrArg₂ (· + ·) (congrArg s (eq_ix2 j).symm) (Finset.sum_congr rfl fun r _ => ?_)
  exact congrArg₂ (· * ·) (df_blk m c t r (j 0)) (h_blk m c t r (j 1))

/-- That scratch after the last point. -/
theorem accF (j : S128x1024.Idx) :
    (outsAt0 m c t0_3.val t0_3.isLt).2.2.2.2 j = ∑ r, df m c r (j 0) * row m c r (j 1) := by
  rw [Pipeline.eq_sum_fin_of_reset_step_apply_last (fun n h => (outsAt0 m c n h).2.2.2.2) 4 (fun _ => 0)
    (fun t j => partF m c t j)
    (fun t h j => by
      rw [outsAt0_A m c t h (by omega)]; frame_out
      exact (stepF_at m c t _ j).trans (congrArg (· + _) (zeroF_at j)))
    (fun t h j => by
      by_cases h3 : t.val % 4 = 3
      · rw [outsAt0_C m c t h h3]; frame_out
        exact (stepF_at m c t _ j).trans (congrArg (· + partF m c t j) (congrFun (Memref.IsWhole.read_unread _ _) j))
      · rw [outsAt0_B m c t h h3]; frame_out
        exact (stepF_at m c t _ j).trans (congrArg (· + partF m c t j) (congrFun (Memref.IsWhole.read_unread _ _) j)))
    (le_of_eq N_0) t0_3 rfl j, zero_add]
  exact sum_tok (fun r => df m c r (j 0) * row m c r (j 1))

/-- The three gradients' rows, end to end. -/
def gradRow (n : ℕ) (j : Fin 1024) : EReal :=
  if h : n < 2048 then ∑ r, db m c r ⟨n, h⟩ * row m c r j
  else if h1 : n < 2056 then ∑ r, df m c r ⟨n - 2048, by omega⟩ * row m c r j
  else if h2 : n < 4104 then ∑ r, dg m c r ⟨n - 2056, by omega⟩ * row m c r j else 0

theorem gradRow_b {n : ℕ} {i : Fin 2048} {j j' : Fin 1024} (h : i.val = n) (hj : j.val = j'.val) :
    ∑ r, db m c r i * row m c r j = gradRow m c n j' := by
  obtain rfl : j = j' := Fin.ext hj
  subst h
  unfold gradRow
  rw [dif_pos i.isLt]

theorem gradRow_f {n : ℕ} {i : Fin 128} {j j' : Fin 1024} (h : 2048 + i.val = n) (hi : i.val < 8) (hj : j.val = j'.val) :
    ∑ r, df m c r i * row m c r j = gradRow m c n j' := by
  obtain rfl : j = j' := Fin.ext hj
  subst h
  unfold gradRow
  rw [dif_neg (by omega), dif_pos (by omega)]
  exact congrArg (fun q => ∑ r, df m c r q * row m c r j) (Fin.ext (by simp only []; omega))

theorem gradRow_g {n : ℕ} {i : Fin 2048} {j j' : Fin 1024} (h : 2056 + i.val = n) (hj : j.val = j'.val) :
    ∑ r, dg m c r i * row m c r j = gradRow m c n j' := by
  obtain rfl : j = j' := Fin.ext hj
  subst h
  unfold gradRow
  rw [dif_neg (by omega), dif_neg (by omega), dif_pos (by omega)]
  exact congrArg (fun q => ∑ r, dg m c r q * row m c r j) (Fin.ext (by simp only []; omega))

theorem cut2_at (v : Vec Ideal S785x1024 .f32) (x : S1x785x1024.Idx) : k0_pay2 v x = v (ix2 (x 1) (x 2)) := by
  rw [eq_ix3 x]
  pointwise [k0_pay2]

theorem cut3_at (v : Vec Ideal S785x1024 .f32) (x : S1x785x1024.Idx) : k0_pay3 v x = v (ix2 (x 1) (x 2)) := by
  rw [eq_ix3 x]
  pointwise [k0_pay3]

theorem cut5_at (v : Vec Ideal S785x1024 .f32) (x : S1x785x1024.Idx) : k0_pay5 v x = v (ix2 (x 1) (x 2)) := by
  rw [eq_ix3 x]
  pointwise [k0_pay5]

theorem cut1_at (v : Vec Ideal S785x1024 .f32) (x : S1x785x1024.Idx) : k0_pay1 v x = v (ix2 (x 1) (x 2)) := by
  rw [eq_ix3 x]
  pointwise [k0_pay1]

theorem seam_at (v : Vec Ideal S299x1024 .f32) (w : Vec Ideal S8x1024 .f32) (u : Vec Ideal S478x1024 .f32) (x : S1x785x1024.Idx) :
    k0_pay4 v w u x = if h : (x 1).val < 299 then v (ix2 ⟨(x 1).val, h⟩ (x 2))
      else if h' : (x 1).val - 299 < 8 then w (ix2 ⟨(x 1).val - 299, h'⟩ (x 2))
      else u (ix2 ⟨(x 1).val - 299 - 8, by have : (x 1).val < 785 := (x 1).isLt; omega⟩ (x 2)) := by
  rw [eq_ix3 x]
  pointwise [k0_pay4]

theorem last_at (y : S5x785x1024.Idx) :
    (outsAt0 m c t0_3.val t0_3.isLt).1 y = gradRow m c (179 + (785 * (y 0).val + (y 1).val)) (y 2) := by
  have hb := accB m c
  have hg := accG m c
  have hf := accF m c
  rw [outsAt0_C m c t0_3 (by decide) (by decide)] at hb hg hf ⊢
  frame_out at hb
  frame_out at hg
  frame_out at hf
  frame_out
  generalize k0_pay10 (F := Ideal) _ _ _ = B at hb ⊢
  generalize k0_pay11 (F := Ideal) _ _ _ = G at hg ⊢
  generalize k0_pay12 (F := Ideal) _ _ _ = P at hf ⊢
  canon_tiles x hh
  · rw [View.readCov_fill _ _ _ _ _ (by decide)]
    refine (cut1_at _ x).trans ((hg _).trans (gradRow_g m c ?_ ?_))
    · show 2056 + (1263 + 1 * (x 1).val) = 179 + (785 * (y 0).val + (y 1).val)
      omega
    · show 0 + 1 * (x 2).val = (y 2).val
      omega
  · rw [View.readCov_fill _ _ _ _ _ (by decide)]
    refine (cut5_at _ x).trans ((hg _).trans (gradRow_g m c ?_ ?_))
    · show 2056 + (478 + 1 * (x 1).val) = 179 + (785 * (y 0).val + (y 1).val)
      omega
    · show 0 + 1 * (x 2).val = (y 2).val
      omega
  · rw [View.readCov_fill _ _ _ _ _ (by decide), View.readCov_fill _ _ _ _ _ (by decide), View.readCov_fill _ _ _ _ _ (by decide)]
    refine (seam_at _ _ _ x).trans ?_
    split
    · refine (hb _).trans (gradRow_b m c ?_ ?_)
      · show 1749 + 1 * (x 1).val = 179 + (785 * (y 0).val + (y 1).val)
        omega
      · show 0 + 1 * (x 2).val = (y 2).val
        omega
    · split
      · refine (hf _).trans (gradRow_f m c ?_ ?_ ?_)
        · show 2048 + (0 + 1 * ((x 1).val - 299)) = 179 + (785 * (y 0).val + (y 1).val)
          omega
        · show 0 + 1 * ((x 1).val - 299) < 8
          omega
        · show 0 + 1 * (x 2).val = (y 2).val
          omega
      · refine (hg _).trans (gradRow_g m c ?_ ?_)
        · show 2056 + (0 + 1 * ((x 1).val - 299 - 8)) = 179 + (785 * (y 0).val + (y 1).val)
          omega
        · show 0 + 1 * (x 2).val = (y 2).val
          omega
  · rw [View.readCov_fill _ _ _ _ _ (by decide)]
    refine (cut3_at _ x).trans ((hb _).trans (gradRow_b m c ?_ ?_))
    · show 964 + 1 * (x 1).val = 179 + (785 * (y 0).val + (y 1).val)
      omega
    · show 0 + 1 * (x 2).val = (y 2).val
      omega
  · rw [View.readCov_fill _ _ _ _ _ (by decide)]
    refine (cut2_at _ x).trans ((hb _).trans (gradRow_b m c ?_ ?_))
    · show 179 + 1 * (x 1).val = 179 + (785 * (y 0).val + (y 1).val)
      omega
    · show 0 + 1 * (x 2).val = (y 2).val
      omega

theorem head_at (y : S184x1024.Idx) :
    (outsAt0 m c t0_3.val t0_3.isLt).2.1 y = gradRow m c (y 0).val (y 1) := by
  have hb := accB m c
  rw [outsAt0_C m c t0_3 (by decide) (by decide)] at hb ⊢
  frame_out at hb
  frame_out
  generalize k0_pay10 (F := Ideal) _ _ _ = B at hb ⊢
  rw [View.readCov_fill _ _ _ _ _ (by decide)]
  refine (hb _).trans (gradRow_b m c ?_ ?_)
  · show 0 + 1 * (y 0).val = (y 0).val
    omega
  · show 0 + 1 * (y 1).val = (y 1).val
    omega

/-- The five pieces. -/
theorem out : (dats m 0 c).arrAt 4 (cfgs 0).N = (fun i => gradRow m c (179 + (785 * (i 0).val + (i 1).val)) (i 2)) := by
  refine (dats m 0 c).arrAt_eq_of_after_last 4 t0_3 (by decide +kernel) _ fun j => ?_
  blk_simp
  rw [after0_4]
  exact last_at m c j

/-- The rows before the first piece. -/
theorem out_head : (dats m 0 c).arrAt 5 (cfgs 0).N = (fun i => gradRow m c (i 0).val (i 1)) := by
  refine (dats m 0 c).arrAt_eq_of_after_last 5 t0_3 (by decide +kernel) _ fun j => ?_
  blk_simp
  rw [after0_5]
  exact head_at m c j

end Cert.EarlyIdeal.Val

namespace Cert.Proof.EarlyVal

open Cert.Input

theorem algebraic : Cert.algebraic_EarlyIdeal_EarlyRefIdeal := by
  intro m g m' g' _ hagree
  refine ⟨fun c => (Cert.EarlyIdeal.Gen.dats m 0 c).arrAt 4 (Cert.EarlyIdeal.cfgs 0).N,
    fun c => (Cert.EarlyIdeal.Gen.dats m 0 c).arrAt 5 (Cert.EarlyIdeal.cfgs 0).N, Cert.EarlyIdeal.Value.run_blocks m g, ?_⟩
  refine (θ_run Cert.EarlyRefIdeal.defs _ _).mono (fun r h c => ?_) (Cert.EarlyRefIdeal.Value.run m' g')
  obtain ⟨r0, r1, hargs⟩ := h c
  obtain ⟨e0, e1, e2, e3, e4⟩ := hagree c
  refine ⟨r0.trans ?_, r1.trans ?_, hargs⟩
  · rw [Cert.EarlyRefIdeal.Read.val_main_v22_eq, e0, e1, e2, e3, e4]
    refine Eq.trans (funext fun i => ?_) (Cert.EarlyIdeal.Val.out m c).symm
    exact (congrArg _ (eq_ix3 i)).trans (Cert.EarlyRefIdeal.Val.out_at _ _ _ _ _ (i 0) (i 1) (i 2))
  · rw [Cert.EarlyRefIdeal.Read.val_main_v23_eq, e0, e1, e2, e3, e4]
    refine Eq.trans (funext fun i => ?_) (Cert.EarlyIdeal.Val.out_head m c).symm
    exact (congrArg _ (eq_ix2 i)).trans (Cert.EarlyRefIdeal.Val.head_at _ _ _ _ _ (i 0) (i 1))

end Cert.Proof.EarlyVal

end
-- ==== Proof.LateRef.lean ====
module

public import proofs.«01_k».proof.Proof.InputSpec
public import proofs.«01_k».proof.Proof.Gen.LateRefIdeal
public import proofs.«01_k».proof.Proof.Gen.LateRefIdeal.Run
public import proofs.«01_k».proof.Proof.Gen.LateRefIdeal.Read
public import Idealize.ShloMosaic.Lib.Pointwise
public import Idealize.ShloMosaic.Lib.Claim

/-! The reference's gradient of the first mixer's input projection, row by row. -/

@[expose] public section

set_option maxRecDepth 16384

noncomputable section

open Idealize.ShloMosaic Idealize.ShloMosaic.TcCoe Idealize.SL.Sem Idealize.ShloMosaic.Pointwise

namespace Cert.LateRefIdeal.Val

open Cert.LateRefIdeal Cert.LateRefIdeal.Gen Cert.Input

variable (x : FVec Ideal S2048x1024 .f32) (g : FVec Ideal S1x1024 .f32) (d : FVec Ideal S2048x2176 .bf16)
  (l : FVec Ideal S184x1024 .f32)

theorem h_at (r : Fin 2048) (k : Fin 1024) :
    Read.val_main_v13 (F := Ideal) x g (ix2 r k) = normed (fun j => x (ix2 r j)) (fun j => g (ix2 0 j)) k := by
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_cst, Read.val_main_cst_0, Read.val_main_cst_1, Read.val_main_cst_2, normed]

/-- The gradient's rows, then the left-over rows. -/
def gradRow (n : ℕ) (j : Fin 1024) : EReal :=
  if h : n < 2176 then ∑ r : Fin 2048, (d (ix2 r ⟨n, h⟩) : EReal) * normed (fun j => x (ix2 r j)) (fun j => g (ix2 0 j)) j
  else if h' : n < 2355 then l (ix2 ⟨n - 2176, by omega⟩ j) else 0

theorem cat_at (n : Fin 2355) (j : Fin 1024) : Read.val_main_v19 (F := Ideal) x g d l (ix2 n j) = gradRow x g d l n.val j := by
  pointwise [Read.val_main_v19, Read.val_main_v18, Read.val_main_v17, Read.val_main_v16, Read.val_main_v15, Read.val_main_v1, gradRow]
  simp only [h_at]

theorem cut_at (v : FVec Ideal S2355x1024 .f32) (h : S2355x1024.ShapeCasts S3x785x1024) (a : Fin 3) (b : Fin 785) (j : Fin 1024) :
    shapeCast S3x785x1024 v h (ix3 a b j) = v (ix2 ⟨a.val * 785 + b.val, by omega⟩ j) := by
  pointwise

theorem out_at (a : Fin 3) (b : Fin 785) (j : Fin 1024) :
    Read.val_main_v21 (F := Ideal) x g d l (ix3 a b j) = gradRow x g d l (785 * a.val + b.val) j := by
  rw [Nat.mul_comm 785 a.val, Read.val_main_v21_apply]
  unfold Read.val_main_v20
  rw [cut_at]
  exact cat_at x g d l _ j

end Cert.LateRefIdeal.Val

end
-- ==== Proof.LateVal.lean ====
module

public import proofs.«01_k».proof.Defs
public import proofs.«01_k».proof.Proof.InputSpec
public import proofs.«01_k».proof.Proof.Gen.LateIdeal.Frame
public import proofs.«01_k».proof.Proof.Gen.LateIdeal.Value
public import proofs.«01_k».proof.Proof.LateRef
public import proofs.«01_k».proof.Proof.Gen.LateRefIdeal
public import proofs.«01_k».proof.Proof.Gen.LateRefIdeal.Run
public import proofs.«01_k».proof.Proof.Gen.LateRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of the first mixer's input projection, gathered over four tiles of tokens and followed by the rows the
other call left over: kernel and reference hold the same sums. -/

@[expose] public section

set_option maxRecDepth 16384

noncomputable section

open Idealize.ShloMosaic Idealize.ShloMosaic.TcCoe Idealize.SL.Sem Idealize.ShloMosaic.Pointwise

namespace Cert.LateIdeal.Val

open Cert.LateIdeal Cert.LateIdeal.Gen Cert.Input
open Idealize.ShloMosaic.Pipeline (Dat)

theorem zero_at (j : S2176x1024.Idx) : (k0_pay1 : FVec Ideal S2176x1024 .f32) j = 0 := by
  rw [eq_ix2 j]
  pointwise [k0_pay1]

theorem acc_at (s : Vec Ideal S2176x1024 .f32) (d : Vec Ideal S512x2176 .bf16) (h : Vec Ideal S512x1024 .bf16) (i : Fin 2176)
    (j : Fin 1024) : k0_pay2 s d h (ix2 i j) = s (ix2 i j) + ∑ r, d (ix2 r i) * h (ix2 r j) := by
  pointwise [k0_pay2]

variable (m : (ℓ : Loc nD τ sig) → Buf (Elt Ideal) ℓ) (c : Dev nD)

/-- Which block each window shows at point `t`. -/
theorem idx : ∀ t : Fin cfg0.N, win0_0.index t = ![t.val, 0] ∧ win0_1.index t = ![t.val, 0] ∧ win0_2.index t = ![0, 0]
    ∧ win0_3.index t = ![0, 0, 0] :=
  (by decide +kernel : ∀ t : Fin grid0.N, _)

/-- Row `r` of the tile of point `t`, among the 2048 tokens. -/
def tok (t : Fin cfg0.N) (r : Fin 512) : Fin 2048 :=
  ⟨t.val * 512 + r.val, by have := lt_of_lt_of_eq t.isLt N_0; omega⟩

/-- A token's normalised row, from the arguments. -/
def row (r : Fin 2048) (k : Fin 1024) : EReal :=
  normed (fun j => m ((c : Thread nD τ).loc main_arg0) (ix2 r j)) (fun j => m ((c : Thread nD τ).loc main_arg1) (ix2 0 j)) k

/-- A token's gradient at the projection's output. -/
def du (r : Fin 2048) (i : Fin 2176) : EReal := m ((c : Thread nD τ).loc main_arg2) (ix2 r i)

/-- The left-over rows. -/
def lead (i : Fin 184) (j : Fin 1024) : EReal := m ((c : Thread nD τ).loc main_arg3) (ix2 i j)

theorem saved (r : Fin 2048) (k : Fin 1024) : V m c main_v12 (ix2 r k) = row m c r k := by
  entry_read
  pointwise [row, normed]

theorem h_blk (t : Fin cfg0.N) (r : Fin 512) (k : Fin 1024) : iblk m c 0 t (ix2 r k) = row m c (tok t r) k := by
  rw [← saved]
  blk_point [iblk, idx t, tok]

theorem d_blk (t : Fin cfg0.N) (r : Fin 512) (k : Fin 2176) : iblk m c 1 t (ix2 r k) = du m c (tok t r) k := by
  blk_point [iblk, V, idx t, tok, du]

theorem l_blk (t : Fin cfg0.N) (y : S184x1024.Idx) : iblk m c 2 t y = lead m c (y 0) (y 1) := by
  rw [eq_ix2 y]
  blk_point [iblk, V, idx t, lead]

/-- One tile's share of the gradient. -/
def part (t : Fin cfg0.N) (j : S2176x1024.Idx) : EReal := ∑ r, du m c (tok t r) (j 0) * row m c (tok t r) (j 1)

theorem step_at (t : Fin cfg0.N) (s : Vec Ideal S2176x1024 .f32) (j : S2176x1024.Idx) :
    k0_pay2 s (iblk m c 1 t) (iblk m c 0 t) j = s j + part m c t j := by
  refine (congrArg _ (eq_ix2 j)).trans ((acc_at _ _ _ _ _).trans ?_)
  refine congrArg₂ (· + ·) (congrArg s (eq_ix2 j).symm) (Finset.sum_congr rfl fun r _ => ?_)
  exact congrArg₂ (· * ·) (d_blk m c t r (j 0)) (h_blk m c t r (j 1))

/-- Four tiles' shares are the sum over the tokens. -/
theorem sum_tok (f : Fin 2048 → EReal) : ∑ p : Fin cfg0.N, ∑ r, f (tok p r) = ∑ r, f r := by
  rw [← (finCongr N_0).symm.sum_comp, ← (finProdFinEquiv (m := 4) (n := 512)).sum_comp f, Fintype.sum_prod_type]
  refine Finset.sum_congr rfl fun p _ => Finset.sum_congr rfl fun r _ => congrArg f (Fin.ext ?_)
  show p.val * 512 + r.val = r.val + 512 * p.val
  omega

/-- The scratch after the last point. -/
theorem acc (j : S2176x1024.Idx) :
    (outsAt0 m c t0_3.val t0_3.isLt).2 j = ∑ r, du m c r (j 0) * row m c r (j 1) := by
  rw [Pipeline.eq_sum_fin_of_reset_step_apply_last (fun n h => (outsAt0 m c n h).2) 4 (fun _ => 0)
    (fun t j => part m c t j)
    (fun t h j => by
      rw [outsAt0_A m c t h (by omega)]; frame_out
      exact (step_at m c t _ j).trans (congrArg (· + _) (zero_at j)))
    (fun t h j => by
      by_cases h3 : t.val % 4 = 3
      · rw [outsAt0_C m c t h h3]; frame_out
        exact (step_at m c t _ j).trans (congrArg (· + part m c t j) (congrFun (Memref.IsWhole.read_unread _ _) j))
      · rw [outsAt0_B m c t h h3]; frame_out
        exact (step_at m c t _ j).trans (congrArg (· + part m c t j) (congrFun (Memref.IsWhole.read_unread _ _) j)))
    (le_of_eq N_0) t0_3 rfl j, zero_add]
  exact sum_tok (fun r => du m c r (j 0) * row m c r (j 1))

/-- The whole array: the gradient's rows, then the left-over rows. -/
def gradRow (n : ℕ) (j : Fin 1024) : EReal :=
  if h : n < 2176 then ∑ r, du m c r ⟨n, h⟩ * row m c r j
  else if h' : n < 2355 then lead m c ⟨n - 2176, by omega⟩ j else 0

theorem gradRow_lo {n : ℕ} {i : Fin 2176} {j j' : Fin 1024} (h : i.val = n) (hj : j.val = j'.val) :
    ∑ r, du m c r i * row m c r j = gradRow m c n j' := by
  obtain rfl : j = j' := Fin.ext hj
  subst h
  unfold gradRow
  rw [dif_pos i.isLt]

theorem gradRow_hi {n : ℕ} {i : Fin 184} {j j' : Fin 1024} (h : 2176 + i.val = n) (hi : i.val < 179) (hj : j.val = j'.val) :
    lead m c i j = gradRow m c n j' := by
  obtain rfl : j = j' := Fin.ext hj
  subst h
  unfold gradRow
  rw [dif_neg (by omega), dif_pos (by omega)]
  exact congrArg (fun q => lead m c q j) (Fin.ext (by simp only []; omega))

theorem first_at (v : Vec Ideal S785x1024 .f32) (x : S1x785x1024.Idx) : k0_pay3 v x = v (ix2 (x 1) (x 2)) := by
  rw [eq_ix3 x]
  pointwise [k0_pay3]

theorem second_at (v : Vec Ideal S785x1024 .f32) (x : S1x785x1024.Idx) : k0_pay4 v x = v (ix2 (x 1) (x 2)) := by
  rw [eq_ix3 x]
  pointwise [k0_pay4]

theorem third_at (v : Vec Ideal S606x1024 .f32) (w : Vec Ideal S179x1024 .f32) (x : S1x785x1024.Idx) :
    k0_pay5 v w x = if h : (x 1).val < 606 then v (ix2 ⟨(x 1).val, h⟩ (x 2)) else w (ix2 ⟨(x 1).val - 606, by
      have : (x 1).val < 785 := (x 1).isLt; omega⟩ (x 2)) := by
  rw [eq_ix3 x]
  pointwise [k0_pay5]

theorem last_at (y : S3x785x1024.Idx) :
    (outsAt0 m c t0_3.val t0_3.isLt).1 y = gradRow m c (785 * (y 0).val + (y 1).val) (y 2) := by
  have hs := acc m c
  rw [outsAt0_C m c t0_3 (by decide) (by decide)] at hs ⊢
  frame_out at hs
  frame_out
  generalize k0_pay2 (F := Ideal) _ _ _ = P at hs ⊢
  canon_tiles x hh
  · rw [View.readCov_fill _ _ _ _ _ (by decide)]
    refine (third_at _ _ x).trans ?_
    split
    · refine (hs _).trans (gradRow_lo m c ?_ ?_)
      · show 1570 + 1 * (x 1).val = 785 * (y 0).val + (y 1).val
        omega
      · show 0 + 1 * (x 2).val = (y 2).val
        omega
    · refine (l_blk m c t0_3 _).trans (gradRow_hi m c ?_ ?_ ?_)
      · show 2176 + (0 + 1 * ((x 1).val - 606)) = 785 * (y 0).val + (y 1).val
        omega
      · show 0 + 1 * ((x 1).val - 606) < 179
        omega
      · show 0 + 1 * (x 2).val = (y 2).val
        omega
  · rw [View.readCov_fill _ _ _ _ _ (by decide)]
    refine (second_at _ x).trans ((hs _).trans (gradRow_lo m c ?_ ?_))
    · show 785 + 1 * (x 1).val = 785 * (y 0).val + (y 1).val
      omega
    · show 0 + 1 * (x 2).val = (y 2).val
      omega
  · rw [View.readCov_fill _ _ _ _ _ (by decide)]
    refine (first_at _ x).trans ((hs _).trans (gradRow_lo m c ?_ ?_))
    · show 0 + 1 * (x 1).val = 785 * (y 0).val + (y 1).val
      omega
    · show 0 + 1 * (x 2).val = (y 2).val
      omega

/-- The call's result. -/
theorem out : (dats m 0 c).arrAt 3 (cfgs 0).N = (fun i => gradRow m c (785 * (i 0).val + (i 1).val) (i 2)) := by
  refine (dats m 0 c).arrAt_eq_of_after_last 3 t0_3 (by decide +kernel) _ fun j => ?_
  blk_simp
  rw [after0_3]
  exact last_at m c j

end Cert.LateIdeal.Val

namespace Cert.Proof.LateVal

open Cert.Input

theorem algebraic : Cert.algebraic_LateIdeal_LateRefIdeal := by
  intro m g m' g' _ hagree
  refine ⟨fun c => (Cert.LateIdeal.Gen.dats m 0 c).arrAt 3 (Cert.LateIdeal.cfgs 0).N, Cert.LateIdeal.Value.run_blocks m g, ?_⟩
  refine (θ_run Cert.LateRefIdeal.defs _ _).mono (fun r h c => ?_) (Cert.LateRefIdeal.Value.run m' g')
  obtain ⟨r0, hargs⟩ := h c
  obtain ⟨e0, e1, e2, e3⟩ := hagree c
  refine ⟨r0.trans ?_, hargs⟩
  rw [Cert.LateRefIdeal.Read.val_main_v21_eq, e0, e1, e2, e3]
  refine Eq.trans (funext fun i => ?_) (Cert.LateIdeal.Val.out m c).symm
  exact (congrArg _ (eq_ix3 i)).trans (Cert.LateRefIdeal.Val.out_at _ _ _ _ (i 0) (i 1) (i 2))

end Cert.Proof.LateVal

end
-- ==== Proof.AttnSpec.lean ====
module

public import proofs.«01_k».proof.Proof.TailSpec
public import Idealize.ShloMosaic.PureOps.Ideal
public import Idealize.ShloMosaic.PureOps.Ideal.Laws

/-! One query's row of the forgetting attention, in real numbers. `b k` is the score of key `k` with the key's part of the
decay, and without the query's; the query at position `q` sees the keys up to itself. A masked score is `⊥`, whose
exponential is zero. Both programs subtract some real number from the scores before they exponentiate, and it cancels.
Nothing here mentions a program. -/

@[expose] public section

noncomputable section

namespace Cert.Attention

open Idealize.ShloMosaic Cert.Head

/-- The word of minus infinity. -/
theorem word_bot : Ideal.ofBits .f32 0xFF800000#32 = (⊥ : EReal) := by simp [Ideal.ofBits, Ideal.ieee]

theorem word_eighth : Ideal.ofBits .f32 0x3E000000#32 = ((1 / 8 : ℝ) : EReal) := by
  simp [Ideal.ofBits, Ideal.ieee, -EReal.coe_mul]; norm_num

/-- A key's weight before the row is normalised. -/
def wt (b : Fin 2048 → ℝ) (q k : Fin 2048) : ℝ := if k ≤ q then Real.exp (b k) else 0

/-- The row's total weight. -/
def total (b : Fin 2048 → ℝ) (q : Fin 2048) : ℝ := ∑ k, wt b q k

/-- The attention's output in one column of the values. -/
def out (b v : Fin 2048 → ℝ) (q : Fin 2048) : ℝ := (∑ k, wt b q k * v k) / total b q

/-- The masked score. -/
def sc (b : Fin 2048 → ℝ) (q k : Fin 2048) : EReal := if k ≤ q then ((b k : ℝ) : EReal) else ⊥

theorem wt_nonneg (b : Fin 2048 → ℝ) (q k : Fin 2048) : 0 ≤ wt b q k := by
  unfold wt; split
  · exact (Real.exp_pos _).le
  · exact le_rfl

theorem total_pos (b : Fin 2048 → ℝ) (q : Fin 2048) : 0 < total b q :=
  Finset.sum_pos' (fun k _ => wt_nonneg b q k) ⟨q, Finset.mem_univ _, by unfold wt; rw [if_pos le_rfl]; exact Real.exp_pos _⟩

/-- The exponential of a masked score less a real number. -/
theorem exp_sc (b : Fin 2048 → ℝ) (q k : Fin 2048) (M : ℝ) :
    Ideal.exp (sc b q k - ((M : ℝ) : EReal)) = ((wt b q k * Real.exp (-M) : ℝ) : EReal) := by
  unfold sc wt
  split
  · rw [← EReal.coe_sub, Ideal.exp_coe, ← Real.exp_add]; rfl
  · rw [EReal.bot_sub, zero_mul]; exact Ideal.exp_bot

/-- … and of the masked score itself. -/
theorem exp_sc_self (b : Fin 2048 → ℝ) (q k : Fin 2048) : Ideal.exp (sc b q k) = ((wt b q k : ℝ) : EReal) := by
  have h := exp_sc b q k 0
  rwa [neg_zero, Real.exp_zero, mul_one, EReal.coe_zero, sub_zero] at h

/-- Adding a number to every score multiplies the weights by its exponential. -/
theorem wt_shift (b : Fin 2048 → ℝ) (x : ℝ) (q k : Fin 2048) : wt (fun k => b k + x) q k = wt b q k * Real.exp x := by
  unfold wt
  split
  · exact Real.exp_add _ _
  · rw [zero_mul]

theorem total_shift (b : Fin 2048 → ℝ) (x : ℝ) (q : Fin 2048) : total (fun k => b k + x) q = total b q * Real.exp x := by
  unfold total
  rw [Finset.sum_mul]
  exact Finset.sum_congr rfl fun k _ => wt_shift b x q k

theorem log_total_shift (b : Fin 2048 → ℝ) (x : ℝ) (q : Fin 2048) :
    Real.log (total (fun k => b k + x) q) = Real.log (total b q) + x := by
  rw [total_shift, Real.log_mul (total_pos b q).ne' (Real.exp_pos x).ne', Real.log_exp]

/-- The logarithm of a positive number. -/
theorem log_pos {x : ℝ} (h : 0 < x) : Ideal.log ((x : ℝ) : EReal) = ((Real.log x : ℝ) : EReal) := by
  rw [Ideal.log_coe, if_neg (not_le.mpr h)]

/-- The greatest of finitely many scores is a real number, when none is `⊤` and one is real. -/
theorem fold_real {n : ℕ} (f : Fin n → EReal) (h : ∀ k, f k ≠ ⊤) (k₀ : Fin n) (h₀ : f k₀ ≠ ⊥) :
    ∃ M : ℝ, Finset.univ.fold max ⊥ f = ((M : ℝ) : EReal) := by
  have e : Finset.univ.fold max ⊥ f = Finset.univ.sup f := rfl
  rw [e]
  refine ⟨(Finset.univ.sup f).toReal, (EReal.coe_toReal ?_ ?_).symm⟩
  · exact ((Finset.sup_lt_iff (bot_lt_top)).mpr fun k _ => lt_top_iff_ne_top.mpr (h k)).ne
  · exact fun hb => h₀ (le_bot_iff.mp (hb ▸ Finset.le_sup (f := f) (Finset.mem_univ k₀)))

theorem sc_ne_top (b : Fin 2048 → ℝ) (q k : Fin 2048) : sc b q k ≠ ⊤ := by
  unfold sc; split
  · exact EReal.coe_ne_top _
  · exact bot_ne_top

theorem sc_ne_bot (b : Fin 2048 → ℝ) {q k : Fin 2048} (h : k ≤ q) : sc b q k ≠ ⊥ := by
  unfold sc; rw [if_pos h]; exact EReal.coe_ne_bot _

/-- One head's scores of a query, without the query's part of the decay. -/
def score (Q K : Fin 2048 → Fin 64 → ℝ) (C : Fin 2048 → ℝ) (q k : Fin 2048) : ℝ := (∑ x, Q q x * (1 / 8) * K k x) - C k

/-! ### The whole row at once -/

section Row
variable (b v : Fin 2048 → ℝ) (q : Fin 2048) (M : ℝ)

theorem sum_exp : ∑ k, Ideal.exp (sc b q k - ((M : ℝ) : EReal)) = ((total b q * Real.exp (-M) : ℝ) : EReal) := by
  unfold total
  rw [Finset.sum_mul, ← coe_sum]
  exact Finset.sum_congr rfl fun k _ => exp_sc b q k M

/-- The weights, each normalised, then summed against the values. -/
theorem out_row : ∑ k, Ideal.div (Ideal.exp (sc b q k - ((M : ℝ) : EReal)))
      (∑ k, Ideal.exp (sc b q k - ((M : ℝ) : EReal))) * ((v k : ℝ) : EReal) = ((out b v q : ℝ) : EReal) := by
  have hM : Real.exp (-M) ≠ 0 := (Real.exp_pos _).ne'
  have ht := (total_pos b q).ne'
  unfold out
  rw [sum_exp, Finset.sum_div, ← coe_sum]
  refine Finset.sum_congr rfl fun k _ => ?_
  rw [exp_sc, coe_div' (mul_ne_zero ht hM), ← EReal.coe_mul]
  congr 1
  field_simp

theorem lse_row : Ideal.log (∑ k, Ideal.exp (sc b q k)) = ((Real.log (total b q) : ℝ) : EReal) := by
  rw [← log_pos (total_pos b q)]
  unfold total
  rw [← coe_sum]
  exact congrArg _ (Finset.sum_congr rfl fun k _ => exp_sc_self b q k)

end Row

/-- The row's output does not change when a number is added to every score. -/
theorem out_shift (b v : Fin 2048 → ℝ) (x : ℝ) (q : Fin 2048) : out (fun k => b k + x) v q = out b v q := by
  unfold out
  rw [total_shift]
  have hx : Real.exp x ≠ 0 := (Real.exp_pos _).ne'
  have : ∑ k, wt (fun k => b k + x) q k * v k = (∑ k, wt b q k * v k) * Real.exp x := by
    rw [Finset.sum_mul]
    exact Finset.sum_congr rfl fun k _ => by rw [wt_shift]; ring
  rw [this, mul_div_mul_right _ _ hx]

/-! ### The row in two parts: the keys of the earlier blocks, and those of the query's own block -/

/-- Key `k` of the earlier blocks. -/
def lo {W : ℕ} (hW : W + 256 ≤ 2048) (k : Fin W) : Fin 2048 := ⟨k.val, by omega⟩
/-- Key `c` of the query's own block. -/
def hi {W : ℕ} (hW : W + 256 ≤ 2048) (k : Fin 256) : Fin 2048 := ⟨W + k.val, by omega⟩

theorem sum_parts {W : ℕ} (hW : W + 256 ≤ 2048) (f : Fin 2048 → ℝ) (h : ∀ k : Fin 2048, W + 256 ≤ k.val → f k = 0) :
    ∑ k, f (lo hW k) + ∑ k, f (hi hW k) = ∑ k, f k := by
  let g : ℕ → ℝ := fun n => if h : n < 2048 then f ⟨n, h⟩ else 0
  have hg : ∀ k : Fin 2048, g k.val = f k := fun k => dif_pos k.isLt
  have e1 : ∑ k, f (lo hW k) = ∑ n ∈ Finset.range W, g n := by
    rw [← Fin.sum_univ_eq_sum_range]; exact Finset.sum_congr rfl fun k _ => (hg (lo hW k)).symm
  have e2 : ∑ k, f (hi hW k) = ∑ n ∈ Finset.range 256, g (W + n) := by
    rw [← Fin.sum_univ_eq_sum_range (fun n => g (W + n))]; exact Finset.sum_congr rfl fun k _ => (hg (hi hW k)).symm
  have e3 : ∑ k, f k = ∑ n ∈ Finset.range 2048, g n := by
    rw [← Fin.sum_univ_eq_sum_range]; exact Finset.sum_congr rfl fun k _ => (hg k).symm
  rw [e1, e2, e3, ← Finset.sum_range_add]
  refine Finset.sum_subset (Finset.range_mono hW) fun n hn hn' => ?_
  have hn2 : n < 2048 := Finset.mem_range.mp hn
  exact (hg ⟨n, hn2⟩).trans (h ⟨n, hn2⟩ (not_lt.mp fun hl => hn' (Finset.mem_range.mpr hl)))

section Parts
variable {W : ℕ} (hW : W + 256 ≤ 2048) (b v : Fin 2048 → ℝ) (r : Fin 256)

theorem sc_lo (k : Fin W) : sc b (hi hW r) (lo hW k) = ((b (lo hW k) : ℝ) : EReal) := by
  unfold sc
  rw [if_pos (Fin.le_def.mpr (show k.val ≤ W + r.val by omega))]

theorem sc_hi (k : Fin 256) : sc b (hi hW r) (hi hW k) = if k ≤ r then ((b (hi hW k) : ℝ) : EReal) else ⊥ := by
  unfold sc
  refine if_congr ?_ rfl rfl
  simp [hi]

theorem beyond (k : Fin 2048) (h : W + 256 ≤ k.val) : wt b (hi hW r) k = 0 := by
  unfold wt
  rw [if_neg]
  intro hk
  have : k.val ≤ W + r.val := hk
  omega

/-- The weights' sum against the values, in two parts. -/
theorem weighted (M : ℝ) :
    (∑ k, Ideal.exp (sc b (hi hW r) (lo hW k) - ((M : ℝ) : EReal)) * ((v (lo hW k) : ℝ) : EReal))
      + ∑ k, Ideal.exp (sc b (hi hW r) (hi hW k) - ((M : ℝ) : EReal)) * ((v (hi hW k) : ℝ) : EReal)
      = (((∑ k, wt b (hi hW r) k * v k) * Real.exp (-M) : ℝ) : EReal) := by
  rw [Finset.sum_mul, ← sum_parts hW _ (fun k h => by rw [beyond hW b r k h, zero_mul, zero_mul]), EReal.coe_add,
    ← coe_sum, ← coe_sum]
  refine congrArg₂ (· + ·) (Finset.sum_congr rfl fun k _ => ?_) (Finset.sum_congr rfl fun k _ => ?_) <;>
    (rw [exp_sc, ← EReal.coe_mul]; congr 1; ring)

/-- The weights' sum, in two parts. -/
theorem weights (M : ℝ) :
    (∑ k, Ideal.exp (sc b (hi hW r) (lo hW k) - ((M : ℝ) : EReal)))
      + ∑ k, Ideal.exp (sc b (hi hW r) (hi hW k) - ((M : ℝ) : EReal))
      = ((total b (hi hW r) * Real.exp (-M) : ℝ) : EReal) := by
  unfold total
  rw [Finset.sum_mul, ← sum_parts hW _ (fun k h => by rw [beyond hW b r k h, zero_mul]), EReal.coe_add,
    ← coe_sum, ← coe_sum]
  exact congrArg₂ (· + ·) (Finset.sum_congr rfl fun k _ => exp_sc _ _ _ _) (Finset.sum_congr rfl fun k _ => exp_sc _ _ _ _)

/-- The greatest score of the row, the greater of two parts' greatest. -/
theorem top_real : ∃ M : ℝ, max (Finset.univ.fold max ⊥ fun k => sc b (hi hW r) (lo hW k))
    (Finset.univ.fold max ⊥ fun k => sc b (hi hW r) (hi hW k)) = ((M : ℝ) : EReal) := by
  obtain ⟨M, hM⟩ := fold_real (fun k => sc b (hi hW r) (hi hW k)) (fun k => sc_ne_top _ _ _) r (sc_ne_bot b le_rfl)
  rw [hM]
  refine ⟨_, (EReal.coe_toReal ?_ ?_).symm⟩
  · refine (max_lt ?_ (EReal.coe_lt_top M)).ne
    exact (Finset.sup_lt_iff bot_lt_top).mpr fun k _ => lt_top_iff_ne_top.mpr (sc_ne_top _ _ _)
  · exact fun hb => EReal.coe_ne_bot M (le_bot_iff.mp (hb ▸ le_max_right _ _))

/-- What the kernel's row holds: the two parts' sums, divided. -/
theorem out_parts (M : ℝ) :
    Ideal.div ((∑ k, Ideal.exp (sc b (hi hW r) (lo hW k) - ((M : ℝ) : EReal)) * ((v (lo hW k) : ℝ) : EReal))
        + ∑ k, Ideal.exp (sc b (hi hW r) (hi hW k) - ((M : ℝ) : EReal)) * ((v (hi hW k) : ℝ) : EReal))
      ((∑ k, Ideal.exp (sc b (hi hW r) (lo hW k) - ((M : ℝ) : EReal)))
        + ∑ k, Ideal.exp (sc b (hi hW r) (hi hW k) - ((M : ℝ) : EReal)))
      = ((out b v (hi hW r) : ℝ) : EReal) := by
  have hM : Real.exp (-M) ≠ 0 := (Real.exp_pos _).ne'
  rw [weighted, weights, coe_div' (mul_ne_zero (total_pos b _).ne' hM), mul_div_mul_right _ _ hM]
  rfl

/-- The row's log-sum, from the two parts' weights. -/
theorem lse_parts (M x : ℝ) :
    ((M : ℝ) : EReal) + Ideal.log ((∑ k, Ideal.exp (sc b (hi hW r) (lo hW k) - ((M : ℝ) : EReal)))
        + ∑ k, Ideal.exp (sc b (hi hW r) (hi hW k) - ((M : ℝ) : EReal))) + ((x : ℝ) : EReal)
      = ((Real.log (total b (hi hW r)) + x : ℝ) : EReal) := by
  have hM := Real.exp_pos (-M)
  have ht := total_pos b (hi hW r)
  rw [weights, log_pos (mul_pos ht hM), Real.log_mul ht.ne' hM.ne', Real.log_exp, ← EReal.coe_add, ← EReal.coe_add]
  congr 1
  ring

end Parts

end Cert.Attention

end
-- ==== Proof.AttnRow.lean ====
module

public import proofs.«01_k».proof.Defs
public import proofs.«01_k».proof.Proof.Gen.AttnIdeal.Skeleton
public import proofs.«01_k».proof.Proof.AttnSpec
public import Idealize.ShloMosaic.Lib.Pipeline.ValueKit
public import Idealize.ShloMosaic.Lib.Pointwise
public import Idealize.ShloMosaic.Lib.WordCmp

/-! One row of one point of the attention, at any number `W` of earlier keys: the formula that the kernel's branches share,
each at its own width. -/

@[expose] public section

set_option maxRecDepth 16384

noncomputable section

open Idealize.ShloMosaic Idealize.ShloMosaic.TcCoe Idealize.SL.Sem Idealize.ShloMosaic.Pointwise

namespace Cert.AttnIdeal.Val

open Cert.AttnIdeal Cert.AttnIdeal.Gen Cert.Attention Cert.Head

/-- The scores of one query against some keys. -/
def raw {W : ℕ} (q : Fin 64 → EReal) (k : Fin W → Fin 64 → EReal) (ck : Fin W → EReal) (j : Fin W) : EReal :=
  ∑ x, q x * Ideal.ofBits .f32 0x3E000000#32 * k j x - ck j

/-- … and against the keys of its own block, of which it sees those up to itself. -/
def masked (r : Fin 256) (q : Fin 64 → EReal) (k : Fin 256 → Fin 64 → EReal) (ck : Fin 256 → EReal) (j : Fin 256) : EReal :=
  if j ≤ r then raw q k ck j else ⊥

/-- The row's greatest score. -/
def top {W : ℕ} (s : Fin W → EReal) (s' : Fin 256 → EReal) : EReal :=
  max (Finset.univ.fold max ⊥ s) (Finset.univ.fold max ⊥ s')

/-- The row's weights summed. -/
def den {W : ℕ} (s : Fin W → EReal) (s' : Fin 256 → EReal) : EReal :=
  (∑ x, Ideal.exp (s x - top s s')) + ∑ x, Ideal.exp (s' x - top s s')

/-- The row's output in one column. -/
def rowOut {W : ℕ} (s : Fin W → EReal) (s' : Fin 256 → EReal) (v : Fin W → EReal) (v' : Fin 256 → EReal) : EReal :=
  Ideal.div ((∑ x, Ideal.exp (s x - top s s') * v x) + ∑ x, Ideal.exp (s' x - top s s') * v' x) (den s s')

/-- The row's log-sum. -/
def rowLse {W : ℕ} (s : Fin W → EReal) (s' : Fin 256 → EReal) (cq : EReal) : EReal := top s s' + Ideal.log (den s s') + cq

theorem mask_named : Named.named (F := Ideal) κ "mask" (φ := .f32) 0xF149F2CA#32 = (⊥ : EReal) := rfl

/-- The mask that a branch makes: its block's rows against its block's columns. -/
theorem mask_at (a : BitVec 32) (r j : Fin 256) (x y : EReal) :
    Scalar.select (IntOp.cmpi .sge (IntOp.addi (Scalar.muli (Scalar.subi a a) 256#32) (BitVec.ofNat 32 r.val))
      (BitVec.ofNat 32 j.val)) x y = if j ≤ r then x else y := by
  have e : IntOp.addi (Scalar.muli (Scalar.subi a a) 256#32) (BitVec.ofNat 32 r.val) = BitVec.ofNat 32 r.val := by
    simp [IntOp.addi, Scalar.muli, Scalar.subi, IntOp.muli, IntOp.subi]
  rw [e, WordCmp.cmpi_sge_ofNat (by omega) (by omega)]
  by_cases h : j ≤ r
  · rw [if_pos h]; simp [Scalar.select, Fin.le_def.mp h]
  · rw [if_neg h]; simp [Scalar.select, h]

theorem lse_of {W : ℕ} {s : Fin W → EReal} {s' : Fin 256 → EReal} {t d : EReal} (cq : EReal) (ht : t = top s s')
    (hd : d = den s s') : t + Ideal.log d + cq = rowLse s s' cq := by
  rw [ht, hd]; rfl

/-! ### A row of real numbers

With real blocks the row's scores are the masked scores of `AttnSpec`, in two parts. -/

section Real
variable {W : ℕ} (hW : W + 256 ≤ 2048) (r : Fin 256) {b : Fin 2048 → ℝ} {s : Fin W → EReal} {s' : Fin 256 → EReal}
  (hs : ∀ k, s k = ((b (lo hW k) : ℝ) : EReal)) (hs' : ∀ k, s' k = if k ≤ r then ((b (hi hW k) : ℝ) : EReal) else ⊥)
include hs hs'

theorem top_sc : s = (fun k => sc b (hi hW r) (lo hW k)) ∧ s' = (fun k => sc b (hi hW r) (hi hW k)) ∧
    ∃ M : ℝ, top s s' = ((M : ℝ) : EReal) := by
  have e : s = fun k => sc b (hi hW r) (lo hW k) := funext fun k => (hs k).trans (sc_lo hW b r k).symm
  have e' : s' = fun k => sc b (hi hW r) (hi hW k) := funext fun k => (hs' k).trans (sc_hi hW b r k).symm
  refine ⟨e, e', ?_⟩
  rw [e, e']
  exact top_real hW b r

theorem rowOut_real {v : Fin 2048 → ℝ} {x : Fin W → EReal} {x' : Fin 256 → EReal}
    (hx : ∀ k, x k = ((v (lo hW k) : ℝ) : EReal)) (hx' : ∀ k, x' k = ((v (hi hW k) : ℝ) : EReal)) :
    rowOut s s' x x' = ((out b v (hi hW r) : ℝ) : EReal) := by
  obtain ⟨e, e', M, hM⟩ := top_sc hW r hs hs'
  unfold rowOut den
  rw [hM, e, e', funext hx, funext hx']
  exact out_parts hW b v r M

theorem rowLse_real (y : ℝ) :
    rowLse s s' ((y : ℝ) : EReal) = ((Real.log (total b (hi hW r)) + y : ℝ) : EReal) := by
  obtain ⟨e, e', M, hM⟩ := top_sc hW r hs hs'
  unfold rowLse den
  rw [hM, e, e']
  exact lse_parts hW b r M y

end Real

section Scores
variable {Q K : Fin 2048 → Fin 64 → ℝ} {C : Fin 2048 → ℝ} {n : Fin 2048} {q : Fin 64 → EReal} (hq : ∀ x, q x = ((Q n x : ℝ) : EReal))
include hq

theorem raw_real {W : ℕ} {k : Fin W → Fin 64 → EReal} {ck : Fin W → EReal} {p : Fin W → Fin 2048}
    (hk : ∀ j x, k j x = ((K (p j) x : ℝ) : EReal)) (hc : ∀ j, ck j = ((C (p j) : ℝ) : EReal)) (j : Fin W) :
    raw q k ck j = ((score Q K C n (p j) : ℝ) : EReal) := by
  unfold raw score
  simp only [hq, hk, hc, word_eighth, ← EReal.coe_mul, coe_sum, ← EReal.coe_sub]

theorem masked_real (r : Fin 256) {k : Fin 256 → Fin 64 → EReal} {ck : Fin 256 → EReal} {p : Fin 256 → Fin 2048}
    (hk : ∀ j x, k j x = ((K (p j) x : ℝ) : EReal)) (hc : ∀ j, ck j = ((C (p j) : ℝ) : EReal)) (j : Fin 256) :
    masked r q k ck j = if j ≤ r then ((score Q K C n (p j) : ℝ) : EReal) else ⊥ := by
  unfold masked
  rw [raw_real hq hk hc]

end Scores

/-! Two steps that every branch takes on arrays of its own; the arrays are any. -/

theorem greater (A B : FVec Ideal S256x1 .f32) (r : Fin 256) :
    maximumf A B (ix2 r 0) = max (A (ix2 r 0)) (B (ix2 r 0)) := by
  pointwise

theorem logged (A B : FVec Ideal S256x1 .f32) (C : Vec Ideal S1x256x1 .f32) (r : Fin 256) :
    shapeCast S1x256x1 (addf (addf A (log B)) (shapeCast S256x1 C shapeCasts_S1x256x1_S256x1)) shapeCasts_S256x1_S1x256x1
      (ix3 0 r 0) = A (ix2 r 0) + Ideal.log (B (ix2 r 0)) + C (ix3 0 r 0) := by
  pointwise

/-- A query's row of a block of queries, and a block of keys by row. -/
abbrev qRow (q : Vec Ideal S1x256x64 .f32) (r : Fin 256) (x : Fin 64) : EReal := q (ix3 0 r x)
abbrev keys {W : ℕ} (k : Vec Ideal (⟨3, ![1, W, 64]⟩ : Shape) .f32) (j : Fin W) (x : Fin 64) : EReal := k (ix3 0 j x)
abbrev decay {W : ℕ} (ck : Vec Ideal (⟨3, ![1, 1, W]⟩ : Shape) .f32) (j : Fin W) : EReal := ck (ix3 0 0 j)
abbrev column {W : ℕ} (v : Vec Ideal (⟨3, ![1, W, 64]⟩ : Shape) .f32) (d : Fin 64) (j : Fin W) : EReal := v (ix3 0 j d)

end Cert.AttnIdeal.Val

end
-- ==== Proof.AttnPay.lean ====
module

public import proofs.«01_k».proof.Defs
public import proofs.«01_k».proof.Proof.Gen.AttnIdeal.Skeleton
public import proofs.«01_k».proof.Proof.AttnRow
public import Idealize.ShloMosaic.Lib.Pipeline.ValueKit
public import Idealize.ShloMosaic.Lib.Pointwise

/-! What each branch of the attention's kernel computes, one row at a time: the shared formula (`AttnRow`) at the branch's own
width. -/

@[expose] public section

set_option maxRecDepth 16384

noncomputable section

open Idealize.ShloMosaic Idealize.ShloMosaic.TcCoe Idealize.SL.Sem Idealize.ShloMosaic.Pointwise

namespace Cert.AttnIdeal.Val

open Cert.AttnIdeal Cert.AttnIdeal.Gen Cert.Attention

variable (q : Vec Ideal S1x256x64 .f32) (k' : Vec Ideal S1x256x64 .f32) (ck' : Vec Ideal S1x1x256 .f32)
  (v' : Vec Ideal S1x256x64 .f32) (cq : Vec Ideal S1x256x1 .f32) (r : Fin 256)

/-! ### No earlier block -/

theorem top0 : k0_pay2 0#32 q k' ck' (ix2 r 0)
    = top (W := 0) (fun j => j.elim0) (masked r (qRow q r) (keys k') (decay ck')) := by
  pointwise [k0_pay2, k0_pay1, word_bot, mask_at]
  exact (max_eq_right bot_le).symm

theorem den0 : k0_pay4 0#32 q k' ck' (ix2 r 0)
    = den (W := 0) (fun j => j.elim0) (masked r (qRow q r) (keys k') (decay ck')) := by
  pointwise [k0_pay4, k0_pay3, k0_pay1, mask_at, top0]
  unfold den
  simp only [Finset.univ_eq_empty, Finset.sum_empty, zero_add]
  rfl

theorem out0 (d : Fin 64) : k0_pay76 (k0_pay4 0#32 q k' ck') (k0_pay5 0#32 q k' ck' v') (ix3 0 r d)
    = rowOut (W := 0) (fun j => j.elim0) (masked r (qRow q r) (keys k') (decay ck')) (fun j => j.elim0) (column v' d) := by
  pointwise [k0_pay76, k0_pay5, k0_pay4, k0_pay3, k0_pay1, mask_at, top0]
  unfold rowOut den
  simp only [Finset.univ_eq_empty, Finset.sum_empty, zero_add]
  rfl

theorem lse0 : k0_pay77 (k0_pay2 0#32 q k' ck') (k0_pay4 0#32 q k' ck') cq (ix3 0 r 0)
    = rowLse (W := 0) (fun j => j.elim0) (masked r (qRow q r) (keys k') (decay ck')) (cq (ix3 0 r 0)) := by
  unfold k0_pay77
  exact (logged _ _ _ r).trans (lse_of _ (top0 q k' ck' r) (den0 q k' ck' r))

/-! ### 256 earlier keys -/

section
variable (k : Vec Ideal S1x256x64 .f32) (ck : Vec Ideal S1x1x256 .f32) (v : Vec Ideal S1x256x64 .f32)

theorem top1 : k0_pay9 1#32 q k ck k' ck' (ix2 r 0)
    = top (raw (qRow q r) (keys k) (decay ck)) (masked r (qRow q r) (keys k') (decay ck')) := by
  unfold k0_pay9
  refine (greater _ _ r).trans (congrArg₂ max ?_ ?_)
  · pointwise [k0_pay7, k0_pay6, word_bot]; rfl
  · pointwise [k0_pay8, k0_pay6, word_bot, mask_at]; rfl

theorem den1 : k0_pay13 (k0_pay8 1#32 q k' ck') (k0_pay9 1#32 q k ck k' ck') (k0_pay10 1#32 q k ck k' ck') (ix2 r 0)
    = den (raw (qRow q r) (keys k) (decay ck)) (masked r (qRow q r) (keys k') (decay ck')) := by
  pointwise [k0_pay13, k0_pay12, k0_pay11, k0_pay10, k0_pay8, k0_pay7, k0_pay6, mask_at, top1]
  rfl

theorem out1 (d : Fin 64) : k0_pay14 (k0_pay8 1#32 q k' ck') (k0_pay9 1#32 q k ck k' ck')
      (k0_pay10 1#32 q k ck k' ck') v v' (ix3 0 r d)
    = rowOut (raw (qRow q r) (keys k) (decay ck)) (masked r (qRow q r) (keys k') (decay ck')) (column v d) (column v' d) := by
  pointwise [k0_pay14, k0_pay13, k0_pay12, k0_pay11, k0_pay10, k0_pay8, k0_pay7, k0_pay6, mask_at, top1]
  rfl

theorem lse1 : k0_pay15 (k0_pay8 1#32 q k' ck') (k0_pay9 1#32 q k ck k' ck') (k0_pay10 1#32 q k ck k' ck') cq
      (ix3 0 r 0)
    = rowLse (raw (qRow q r) (keys k) (decay ck)) (masked r (qRow q r) (keys k') (decay ck')) (cq (ix3 0 r 0)) := by
  unfold k0_pay15
  exact (logged _ _ _ r).trans (lse_of _ (top1 q k' ck' r k ck) (den1 q k' ck' r k ck))

end

/-! ### 512 earlier keys -/

section
variable (k : Vec Ideal S1x512x64 .f32) (ck : Vec Ideal S1x1x512 .f32) (v : Vec Ideal S1x512x64 .f32)

theorem top2 : k0_pay19 2#32 q k ck k' ck' (ix2 r 0)
    = top (raw (qRow q r) (keys k) (decay ck)) (masked r (qRow q r) (keys k') (decay ck')) := by
  unfold k0_pay19
  refine (greater _ _ r).trans (congrArg₂ max ?_ ?_)
  · pointwise [k0_pay17, k0_pay16, word_bot]; rfl
  · pointwise [k0_pay18, k0_pay16, word_bot, mask_at]; rfl

theorem den2 : k0_pay23 (k0_pay18 2#32 q k' ck') (k0_pay19 2#32 q k ck k' ck') (k0_pay20 2#32 q k ck k' ck') (ix2 r 0)
    = den (raw (qRow q r) (keys k) (decay ck)) (masked r (qRow q r) (keys k') (decay ck')) := by
  pointwise [k0_pay23, k0_pay22, k0_pay21, k0_pay20, k0_pay18, k0_pay17, k0_pay16, mask_at, top2]
  rfl

theorem out2 (d : Fin 64) : k0_pay24 (k0_pay18 2#32 q k' ck') (k0_pay19 2#32 q k ck k' ck')
      (k0_pay20 2#32 q k ck k' ck') v v' (ix3 0 r d)
    = rowOut (raw (qRow q r) (keys k) (decay ck)) (masked r (qRow q r) (keys k') (decay ck')) (column v d) (column v' d) := by
  pointwise [k0_pay24, k0_pay23, k0_pay22, k0_pay21, k0_pay20, k0_pay18, k0_pay17, k0_pay16, mask_at, top2]
  rfl

theorem lse2 : k0_pay25 (k0_pay18 2#32 q k' ck') (k0_pay19 2#32 q k ck k' ck') (k0_pay20 2#32 q k ck k' ck') cq
      (ix3 0 r 0)
    = rowLse (raw (qRow q r) (keys k) (decay ck)) (masked r (qRow q r) (keys k') (decay ck')) (cq (ix3 0 r 0)) := by
  unfold k0_pay25
  exact (logged _ _ _ r).trans (lse_of _ (top2 q k' ck' r k ck) (den2 q k' ck' r k ck))

end

/-! ### 768 earlier keys -/

section
variable (k : Vec Ideal S1x768x64 .f32) (ck : Vec Ideal S1x1x768 .f32) (v : Vec Ideal S1x768x64 .f32)

theorem top3 : k0_pay29 3#32 q k ck k' ck' (ix2 r 0)
    = top (raw (qRow q r) (keys k) (decay ck)) (masked r (qRow q r) (keys k') (decay ck')) := by
  unfold k0_pay29
  refine (greater _ _ r).trans (congrArg₂ max ?_ ?_)
  · pointwise [k0_pay27, k0_pay26, word_bot]; rfl
  · pointwise [k0_pay28, k0_pay26, word_bot, mask_at]; rfl

theorem den3 : k0_pay33 (k0_pay28 3#32 q k' ck') (k0_pay29 3#32 q k ck k' ck') (k0_pay30 3#32 q k ck k' ck') (ix2 r 0)
    = den (raw (qRow q r) (keys k) (decay ck)) (masked r (qRow q r) (keys k') (decay ck')) := by
  pointwise [k0_pay33, k0_pay32, k0_pay31, k0_pay30, k0_pay28, k0_pay27, k0_pay26, mask_at, top3]
  rfl

theorem out3 (d : Fin 64) : k0_pay34 (k0_pay28 3#32 q k' ck') (k0_pay29 3#32 q k ck k' ck')
      (k0_pay30 3#32 q k ck k' ck') v v' (ix3 0 r d)
    = rowOut (raw (qRow q r) (keys k) (decay ck)) (masked r (qRow q r) (keys k') (decay ck')) (column v d) (column v' d) := by
  pointwise [k0_pay34, k0_pay33, k0_pay32, k0_pay31, k0_pay30, k0_pay28, k0_pay27, k0_pay26, mask_at, top3]
  rfl

theorem lse3 : k0_pay35 (k0_pay28 3#32 q k' ck') (k0_pay29 3#32 q k ck k' ck') (k0_pay30 3#32 q k ck k' ck') cq
      (ix3 0 r 0)
    = rowLse (raw (qRow q r) (keys k) (decay ck)) (masked r (qRow q r) (keys k') (decay ck')) (cq (ix3 0 r 0)) := by
  unfold k0_pay35
  exact (logged _ _ _ r).trans (lse_of _ (top3 q k' ck' r k ck) (den3 q k' ck' r k ck))

end

/-! ### 1024 earlier keys -/

section
variable (k : Vec Ideal S1x1024x64 .f32) (ck : Vec Ideal S1x1x1024 .f32) (v : Vec Ideal S1x1024x64 .f32)

theorem top4 : k0_pay39 4#32 q k ck k' ck' (ix2 r 0)
    = top (raw (qRow q r) (keys k) (decay ck)) (masked r (qRow q r) (keys k') (decay ck')) := by
  unfold k0_pay39
  refine (greater _ _ r).trans (congrArg₂ max ?_ ?_)
  · pointwise [k0_pay37, k0_pay36, word_bot]; rfl
  · pointwise [k0_pay38, k0_pay36, word_bot, mask_at]; rfl

theorem den4 : k0_pay43 (k0_pay38 4#32 q k' ck') (k0_pay39 4#32 q k ck k' ck') (k0_pay40 4#32 q k ck k' ck') (ix2 r 0)
    = den (raw (qRow q r) (keys k) (decay ck)) (masked r (qRow q r) (keys k') (decay ck')) := by
  pointwise [k0_pay43, k0_pay42, k0_pay41, k0_pay40, k0_pay38, k0_pay37, k0_pay36, mask_at, top4]
  rfl

theorem out4 (d : Fin 64) : k0_pay44 (k0_pay38 4#32 q k' ck') (k0_pay39 4#32 q k ck k' ck')
      (k0_pay40 4#32 q k ck k' ck') v v' (ix3 0 r d)
    = rowOut (raw (qRow q r) (keys k) (decay ck)) (masked r (qRow q r) (keys k') (decay ck')) (column v d) (column v' d) := by
  pointwise [k0_pay44, k0_pay43, k0_pay42, k0_pay41, k0_pay40, k0_pay38, k0_pay37, k0_pay36, mask_at, top4]
  rfl

theorem lse4 : k0_pay45 (k0_pay38 4#32 q k' ck') (k0_pay39 4#32 q k ck k' ck') (k0_pay40 4#32 q k ck k' ck') cq
      (ix3 0 r 0)
    = rowLse (raw (qRow q r) (keys k) (decay ck)) (masked r (qRow q r) (keys k') (decay ck')) (cq (ix3 0 r 0)) := by
  unfold k0_pay45
  exact (logged _ _ _ r).trans (lse_of _ (top4 q k' ck' r k ck) (den4 q k' ck' r k ck))

end

/-! ### 1280 earlier keys -/

section
variable (k : Vec Ideal S1x1280x64 .f32) (ck : Vec Ideal S1x1x1280 .f32) (v : Vec Ideal S1x1280x64 .f32)

theorem top5 : k0_pay49 5#32 q k ck k' ck' (ix2 r 0)
    = top (raw (qRow q r) (keys k) (decay ck)) (masked r (qRow q r) (keys k') (decay ck')) := by
  unfold k0_pay49
  refine (greater _ _ r).trans (congrArg₂ max ?_ ?_)
  · pointwise [k0_pay47, k0_pay46, word_bot]; rfl
  · pointwise [k0_pay48, k0_pay46, word_bot, mask_at]; rfl

theorem den5 : k0_pay53 (k0_pay48 5#32 q k' ck') (k0_pay49 5#32 q k ck k' ck') (k0_pay50 5#32 q k ck k' ck') (ix2 r 0)
    = den (raw (qRow q r) (keys k) (decay ck)) (masked r (qRow q r) (keys k') (decay ck')) := by
  pointwise [k0_pay53, k0_pay52, k0_pay51, k0_pay50, k0_pay48, k0_pay47, k0_pay46, mask_at, top5]
  rfl

theorem out5 (d : Fin 64) : k0_pay54 (k0_pay48 5#32 q k' ck') (k0_pay49 5#32 q k ck k' ck')
      (k0_pay50 5#32 q k ck k' ck') v v' (ix3 0 r d)
    = rowOut (raw (qRow q r) (keys k) (decay ck)) (masked r (qRow q r) (keys k') (decay ck')) (column v d) (column v' d) := by
  pointwise [k0_pay54, k0_pay53, k0_pay52, k0_pay51, k0_pay50, k0_pay48, k0_pay47, k0_pay46, mask_at, top5]
  rfl

theorem lse5 : k0_pay55 (k0_pay48 5#32 q k' ck') (k0_pay49 5#32 q k ck k' ck') (k0_pay50 5#32 q k ck k' ck') cq
      (ix3 0 r 0)
    = rowLse (raw (qRow q r) (keys k) (decay ck)) (masked r (qRow q r) (keys k') (decay ck')) (cq (ix3 0 r 0)) := by
  unfold k0_pay55
  exact (logged _ _ _ r).trans (lse_of _ (top5 q k' ck' r k ck) (den5 q k' ck' r k ck))

end

/-! ### 1536 earlier keys -/

section
variable (k : Vec Ideal S1x1536x64 .f32) (ck : Vec Ideal S1x1x1536 .f32) (v : Vec Ideal S1x1536x64 .f32)

theorem top6 : k0_pay59 6#32 q k ck k' ck' (ix2 r 0)
    = top (raw (qRow q r) (keys k) (decay ck)) (masked r (qRow q r) (keys k') (decay ck')) := by
  unfold k0_pay59
  refine (greater _ _ r).trans (congrArg₂ max ?_ ?_)
  · pointwise [k0_pay57, k0_pay56, word_bot]; rfl
  · pointwise [k0_pay58, k0_pay56, word_bot, mask_at]; rfl

theorem den6 : k0_pay63 (k0_pay58 6#32 q k' ck') (k0_pay59 6#32 q k ck k' ck') (k0_pay60 6#32 q k ck k' ck') (ix2 r 0)
    = den (raw (qRow q r) (keys k) (decay ck)) (masked r (qRow q r) (keys k') (decay ck')) := by
  pointwise [k0_pay63, k0_pay62, k0_pay61, k0_pay60, k0_pay58, k0_pay57, k0_pay56, mask_at, top6]
  rfl

theorem out6 (d : Fin 64) : k0_pay64 (k0_pay58 6#32 q k' ck') (k0_pay59 6#32 q k ck k' ck')
      (k0_pay60 6#32 q k ck k' ck') v v' (ix3 0 r d)
    = rowOut (raw (qRow q r) (keys k) (decay ck)) (masked r (qRow q r) (keys k') (decay ck')) (column v d) (column v' d) := by
  pointwise [k0_pay64, k0_pay63, k0_pay62, k0_pay61, k0_pay60, k0_pay58, k0_pay57, k0_pay56, mask_at, top6]
  rfl

theorem lse6 : k0_pay65 (k0_pay58 6#32 q k' ck') (k0_pay59 6#32 q k ck k' ck') (k0_pay60 6#32 q k ck k' ck') cq
      (ix3 0 r 0)
    = rowLse (raw (qRow q r) (keys k) (decay ck)) (masked r (qRow q r) (keys k') (decay ck')) (cq (ix3 0 r 0)) := by
  unfold k0_pay65
  exact (logged _ _ _ r).trans (lse_of _ (top6 q k' ck' r k ck) (den6 q k' ck' r k ck))

end

/-! ### 1792 earlier keys -/

section
variable (k : Vec Ideal S1x1792x64 .f32) (ck : Vec Ideal S1x1x1792 .f32) (v : Vec Ideal S1x1792x64 .f32)

theorem top7 : k0_pay69 7#32 q k ck k' ck' (ix2 r 0)
    = top (raw (qRow q r) (keys k) (decay ck)) (masked r (qRow q r) (keys k') (decay ck')) := by
  unfold k0_pay69
  refine (greater _ _ r).trans (congrArg₂ max ?_ ?_)
  · pointwise [k0_pay67, k0_pay66, word_bot]; rfl
  · pointwise [k0_pay68, k0_pay66, word_bot, mask_at]; rfl

theorem den7 : k0_pay73 (k0_pay68 7#32 q k' ck') (k0_pay69 7#32 q k ck k' ck') (k0_pay70 7#32 q k ck k' ck') (ix2 r 0)
    = den (raw (qRow q r) (keys k) (decay ck)) (masked r (qRow q r) (keys k') (decay ck')) := by
  pointwise [k0_pay73, k0_pay72, k0_pay71, k0_pay70, k0_pay68, k0_pay67, k0_pay66, mask_at, top7]
  rfl

theorem out7 (d : Fin 64) : k0_pay74 (k0_pay68 7#32 q k' ck') (k0_pay69 7#32 q k ck k' ck')
      (k0_pay70 7#32 q k ck k' ck') v v' (ix3 0 r d)
    = rowOut (raw (qRow q r) (keys k) (decay ck)) (masked r (qRow q r) (keys k') (decay ck')) (column v d) (column v' d) := by
  pointwise [k0_pay74, k0_pay73, k0_pay72, k0_pay71, k0_pay70, k0_pay68, k0_pay67, k0_pay66, mask_at, top7]
  rfl

theorem lse7 : k0_pay75 (k0_pay68 7#32 q k' ck') (k0_pay69 7#32 q k ck k' ck') (k0_pay70 7#32 q k ck k' ck') cq
      (ix3 0 r 0)
    = rowLse (raw (qRow q r) (keys k) (decay ck)) (masked r (qRow q r) (keys k') (decay ck')) (cq (ix3 0 r 0)) := by
  unfold k0_pay75
  exact (logged _ _ _ r).trans (lse_of _ (top7 q k' ck' r k ck) (den7 q k' ck' r k ck))

end

end Cert.AttnIdeal.Val

end
-- ==== Proof.AttnVal.lean ====
module

public import proofs.«01_k».proof.Defs
public import proofs.«01_k».proof.Proof.AttnPay
public import proofs.«01_k».proof.Proof.Gen.AttnIdeal.Frame
public import proofs.«01_k».proof.Proof.Gen.AttnIdeal.Value
public import Idealize.ShloMosaic.Lib.Pipeline.ValueKit
public import Idealize.ShloMosaic.Lib.Pointwise

/-! The kernel's attention at real arguments: what each point leaves is the row of `AttnSpec`. -/

@[expose] public section

set_option maxRecDepth 16384

noncomputable section

open Idealize.ShloMosaic Idealize.ShloMosaic.TcCoe Idealize.SL.Sem Idealize.ShloMosaic.Pointwise

namespace Cert.AttnIdeal.Val

open Cert.AttnIdeal Cert.AttnIdeal.Gen Cert.Attention
open Idealize.ShloMosaic.Pipeline (Dat)

variable (m : (ℓ : Loc nD τ sig) → Buf (Elt Ideal) ℓ) (c : Dev nD)

/-- The arguments, as real numbers. -/
structure In (Q K V : Fin 8 → Fin 2048 → Fin 64 → ℝ) (C : Fin 8 → Fin 2048 → ℝ) : Prop where
  h0 : ∀ h n x, m ((c : Thread nD τ).loc main_arg0) (ix3 h n x) = ((Q h n x : ℝ) : EReal)
  h1 : ∀ h n x, m ((c : Thread nD τ).loc main_arg1) (ix3 h n x) = ((K h n x : ℝ) : EReal)
  h2 : ∀ h n x, m ((c : Thread nD τ).loc main_arg2) (ix3 h n x) = ((V h n x : ℝ) : EReal)
  h3 : ∀ h n, m ((c : Thread nD τ).loc main_arg3) (ix2 h n) = ((C h n : ℝ) : EReal)

/-- Which block each window shows at point `t`: head `t / 8`, query block `t % 8`, all the head's keys. -/
theorem idx : ∀ t : Fin cfg0.N, win0_0.index t = ![t.val / 8, t.val % 8, 0]
    ∧ win0_1.index t = ![t.val / 8, 0, 0]
    ∧ win0_2.index t = ![t.val / 8, 0, 0]
    ∧ win0_3.index t = ![t.val / 8, t.val % 8, 0]
    ∧ win0_4.index t = ![t.val / 8, 0, 0]
    ∧ win0_5.index t = ![t.val / 8, t.val % 8, 0]
    ∧ win0_6.index t = ![t.val / 8, t.val % 8, 0] :=
  (by decide +kernel : ∀ t : Fin grid0.N, _)

/-- The second grid coordinate is the query block. -/
theorem coord : ∀ t : Fin cfg0.N, (grid0.coords t 1).val = t.val % 8 :=
  (by decide +kernel : ∀ t : Fin grid0.N, (grid0.coords t 1).val = t.val % 8)

/-- The head of point `t`. -/
def head (t : Fin cfg0.N) : Fin 8 := ⟨t.val / 8, by have := lt_of_lt_of_eq t.isLt N_0; omega⟩
/-- Row `r` of the query block of point `t`, among the 2048 queries. -/
def query (t : Fin cfg0.N) (r : Fin 256) : Fin 2048 := ⟨t.val % 8 * 256 + r.val, by omega⟩

theorem saved_q (h : Fin 8) (n : Fin 2048) : V m c main_v0 (ix3 h n 0) = m ((c : Thread nD τ).loc main_arg3) (ix2 h n) := by
  entry_read
  pointwise

theorem saved_k (h : Fin 8) (n : Fin 2048) : V m c main_v1 (ix3 h 0 n) = m ((c : Thread nD τ).loc main_arg3) (ix2 h n) := by
  entry_read
  pointwise

variable {m c} {Q K U : Fin 8 → Fin 2048 → Fin 64 → ℝ} {C : Fin 8 → Fin 2048 → ℝ} (A : In m c Q K U C) (t : Fin cfg0.N)
include A

theorem q_at (r : Fin 256) (x : Fin 64) : iblk m c 0 t (ix3 0 r x) = ((Q (head t) (query t r) x : ℝ) : EReal) := by
  rw [← A.h0]
  blk_point [iblk, V, idx t, head, query]

theorem k_at (n : Fin 2048) (x : Fin 64) : iblk m c 1 t (ix3 0 n x) = ((K (head t) n x : ℝ) : EReal) := by
  rw [← A.h1]
  blk_point [iblk, V, idx t, head]

theorem v_at (n : Fin 2048) (x : Fin 64) : iblk m c 2 t (ix3 0 n x) = ((U (head t) n x : ℝ) : EReal) := by
  rw [← A.h2]
  blk_point [iblk, V, idx t, head]

theorem cq_at (r : Fin 256) : iblk m c 3 t (ix3 0 r 0) = ((C (head t) (query t r) : ℝ) : EReal) := by
  rw [← A.h3, ← saved_q m c]
  blk_point [iblk, idx t, head, query]

theorem ck_at (n : Fin 2048) : iblk m c 4 t (ix3 0 0 n) = ((C (head t) n : ℝ) : EReal) := by
  rw [← A.h3, ← saved_k m c]
  blk_point [iblk, idx t, head]

omit A in
/-- Some rows of a block of rows. -/
theorem part_rows {W : ℕ} (o : ℕ) (ho : o + W ≤ 2048) (b : Vec Ideal S1x2048x64 .f32)
    (i : ∀ a, (![0, o, 0] : Fin 3 → ℕ) a + (![1, W, 64] : Fin 3 → ℕ) a ≤ S1x2048x64.size a) (j : Fin W) (x : Fin 64) :
    View.ld b (Rect.unit (s := S1x2048x64) ![0, o, 0] ![1, W, 64] i) (ix3 0 j x) = b (ix3 0 ⟨o + j.val, by omega⟩ x) := by
  refine congrArg b (funext fun a => Fin.ext ?_)
  fin_cases a <;> simp

omit A in
/-- … and some columns of a row. -/
theorem part_cols {W : ℕ} (o : ℕ) (ho : o + W ≤ 2048) (b : Vec Ideal S1x1x2048 .f32)
    (i : ∀ a, (![0, 0, o] : Fin 3 → ℕ) a + (![1, 1, W] : Fin 3 → ℕ) a ≤ S1x1x2048.size a) (j : Fin W) :
    View.ld b (Rect.unit (s := S1x1x2048) ![0, 0, o] ![1, 1, W] i) (ix3 0 0 j) = b (ix3 0 0 ⟨o + j.val, by omega⟩) := by
  refine congrArg b (funext fun a => Fin.ext ?_)
  fin_cases a <;> simp

/-- What a query's row holds in column `d`. -/
def held (Q K U : Fin 8 → Fin 2048 → Fin 64 → ℝ) (C : Fin 8 → Fin 2048 → ℝ) (h : Fin 8) (n : Fin 2048) (d : Fin 64) : EReal :=
  ((out (score (Q h) (K h) (C h) n) (fun k => U h k d) n : ℝ) : EReal)

/-- … and its log-sum. -/
def logged_sum (Q K : Fin 8 → Fin 2048 → Fin 64 → ℝ) (C : Fin 8 → Fin 2048 → ℝ) (h : Fin 8) (n : Fin 2048) : EReal :=
  ((Real.log (total (score (Q h) (K h) (C h) n) n) + C h n : ℝ) : EReal)

section Row
variable {W : ℕ} (hW : W + 256 ≤ 2048) (hg : W = t.val % 8 * 256) (r : Fin 256)
  (i1 : ∀ a, (![0, 0, 0] : Fin 3 → ℕ) a + (![1, W, 64] : Fin 3 → ℕ) a ≤ S1x2048x64.size a)
  (i4 : ∀ a, (![0, 0, 0] : Fin 3 → ℕ) a + (![1, 1, W] : Fin 3 → ℕ) a ≤ S1x1x2048.size a)
  (i1' : ∀ a, (![0, W, 0] : Fin 3 → ℕ) a + (![1, 256, 64] : Fin 3 → ℕ) a ≤ S1x2048x64.size a)
  (i4' : ∀ a, (![0, 0, W] : Fin 3 → ℕ) a + (![1, 1, 256] : Fin 3 → ℕ) a ≤ S1x1x2048.size a)

theorem raw_at (j : Fin W) : raw (qRow (iblk m c 0 t) r)
      (keys (View.ld (iblk m c 1 t) (Rect.unit (s := S1x2048x64) ![0, 0, 0] ![1, W, 64] i1)))
      (decay (View.ld (iblk m c 4 t) (Rect.unit (s := S1x1x2048) ![0, 0, 0] ![1, 1, W] i4))) j
    = ((score (Q (head t)) (K (head t)) (C (head t)) (query t r) (lo hW j) : ℝ) : EReal) := by
  have e : ∀ j : Fin W, (⟨0 + j.val, by omega⟩ : Fin 2048) = lo hW j := fun j => Fin.ext (Nat.zero_add _)
  refine raw_real (Q := Q (head t)) (K := K (head t)) (C := C (head t)) (q_at A t r) (fun j x => ?_) (fun j => ?_) j
  · rw [← e j]; exact (part_rows 0 (by omega) _ i1 j x).trans (k_at A t _ x)
  · rw [← e j]; exact (part_cols 0 (by omega) _ i4 j).trans (ck_at A t _)

theorem masked_at (j : Fin 256) : masked r (qRow (iblk m c 0 t) r)
      (keys (View.ld (iblk m c 1 t) (Rect.unit (s := S1x2048x64) ![0, W, 0] ![1, 256, 64] i1')))
      (decay (View.ld (iblk m c 4 t) (Rect.unit (s := S1x1x2048) ![0, 0, W] ![1, 1, 256] i4'))) j
    = if j ≤ r then ((score (Q (head t)) (K (head t)) (C (head t)) (query t r) (hi hW j) : ℝ) : EReal) else ⊥ :=
  masked_real (Q := Q (head t)) (K := K (head t)) (C := C (head t)) (q_at A t r) r
    (fun j x => (part_rows W hW _ i1' j x).trans (k_at A t _ x)) (fun j => (part_cols W hW _ i4' j).trans (ck_at A t _)) j

include hg in
omit A in
theorem query_eq : hi hW r = query t r := Fin.ext (by simp only [hi, query]; omega)

include hW hg

theorem row_out (d : Fin 64) : rowOut
      (raw (qRow (iblk m c 0 t) r) (keys (View.ld (iblk m c 1 t) (Rect.unit (s := S1x2048x64) ![0, 0, 0] ![1, W, 64] i1)))
        (decay (View.ld (iblk m c 4 t) (Rect.unit (s := S1x1x2048) ![0, 0, 0] ![1, 1, W] i4))))
      (masked r (qRow (iblk m c 0 t) r)
        (keys (View.ld (iblk m c 1 t) (Rect.unit (s := S1x2048x64) ![0, W, 0] ![1, 256, 64] i1')))
        (decay (View.ld (iblk m c 4 t) (Rect.unit (s := S1x1x2048) ![0, 0, W] ![1, 1, 256] i4'))))
      (column (View.ld (iblk m c 2 t) (Rect.unit (s := S1x2048x64) ![0, 0, 0] ![1, W, 64] i1)) d)
      (column (View.ld (iblk m c 2 t) (Rect.unit (s := S1x2048x64) ![0, W, 0] ![1, 256, 64] i1')) d)
    = held Q K U C (head t) (query t r) d := by
  have e : ∀ j : Fin W, (⟨0 + j.val, by omega⟩ : Fin 2048) = lo hW j := fun j => Fin.ext (Nat.zero_add _)
  refine (rowOut_real hW r (raw_at A t hW r i1 i4) (masked_at A t hW r i1' i4') (v := fun k => U (head t) k d)
    (fun j => ?_) (fun j => ?_)).trans ?_
  · rw [← e j]; exact (part_rows 0 (by omega) _ i1 j d).trans (v_at A t _ d)
  · exact (part_rows W hW _ i1' j d).trans (v_at A t _ d)
  · rw [query_eq t hW hg r]; rfl

theorem row_lse : rowLse
      (raw (qRow (iblk m c 0 t) r) (keys (View.ld (iblk m c 1 t) (Rect.unit (s := S1x2048x64) ![0, 0, 0] ![1, W, 64] i1)))
        (decay (View.ld (iblk m c 4 t) (Rect.unit (s := S1x1x2048) ![0, 0, 0] ![1, 1, W] i4))))
      (masked r (qRow (iblk m c 0 t) r)
        (keys (View.ld (iblk m c 1 t) (Rect.unit (s := S1x2048x64) ![0, W, 0] ![1, 256, 64] i1')))
        (decay (View.ld (iblk m c 4 t) (Rect.unit (s := S1x1x2048) ![0, 0, W] ![1, 1, 256] i4'))))
      (iblk m c 3 t (ix3 0 r 0))
    = logged_sum Q K C (head t) (query t r) := by
  rw [cq_at A t r]
  refine (rowLse_real hW r (raw_at A t hW r i1 i4) (masked_at A t hW r i1' i4') _).trans ?_
  rw [query_eq t hW hg r]; rfl

end Row

/-! The first block of queries has no earlier keys. -/

section First
variable (h : t.val % 8 = 0) (r : Fin 256)
include h

theorem row_out0 (d : Fin 64) : rowOut (W := 0) (fun j => j.elim0)
      (masked r (qRow (iblk m c 0 t) r)
        (keys (View.ld (iblk m c 1 t) (Rect.unit (s := S1x2048x64) ![0, 0, 0] ![1, 256, 64] inb_S1x2048x64_S1x256x64_0_0_0)))
        (decay (View.ld (iblk m c 4 t) (Rect.unit (s := S1x1x2048) ![0, 0, 0] ![1, 1, 256] inb_S1x1x2048_S1x1x256_0_0_0))))
      (fun j => j.elim0)
      (column (View.ld (iblk m c 2 t) (Rect.unit (s := S1x2048x64) ![0, 0, 0] ![1, 256, 64] inb_S1x2048x64_S1x256x64_0_0_0)) d)
    = held Q K U C (head t) (query t r) d := by
  have hW : 0 + 256 ≤ 2048 := by omega
  refine (rowOut_real (W := 0) hW r (fun j => j.elim0) (masked_at A t hW r inb_S1x2048x64_S1x256x64_0_0_0 inb_S1x1x2048_S1x1x256_0_0_0)
    (v := fun k => U (head t) k d) (fun j => j.elim0) (fun j => ?_)).trans ?_
  · exact (part_rows 0 hW _ _ j d).trans (v_at A t _ d)
  · rw [query_eq t hW (by omega) r]; rfl

theorem row_lse0 : rowLse (W := 0) (fun j => j.elim0)
      (masked r (qRow (iblk m c 0 t) r)
        (keys (View.ld (iblk m c 1 t) (Rect.unit (s := S1x2048x64) ![0, 0, 0] ![1, 256, 64] inb_S1x2048x64_S1x256x64_0_0_0)))
        (decay (View.ld (iblk m c 4 t) (Rect.unit (s := S1x1x2048) ![0, 0, 0] ![1, 1, 256] inb_S1x1x2048_S1x1x256_0_0_0))))
      (iblk m c 3 t (ix3 0 r 0))
    = logged_sum Q K C (head t) (query t r) := by
  have hW : 0 + 256 ≤ 2048 := by omega
  rw [cq_at A t r]
  refine (rowLse_real (W := 0) hW r (fun j => j.elim0)
    (masked_at A t hW r inb_S1x2048x64_S1x256x64_0_0_0 inb_S1x1x2048_S1x1x256_0_0_0) _).trans ?_
  rw [query_eq t hW (by omega) r]; rfl

end First

/-- What point `t` leaves, row by row. -/
def Leaves (Q K U : Fin 8 → Fin 2048 → Fin 64 → ℝ) (C : Fin 8 → Fin 2048 → ℝ) (t : Fin cfg0.N)
    (o : (S1x256x64.Idx → EReal) × (S1x256x1.Idx → EReal)) : Prop :=
  (∀ r d, o.1 (ix3 0 r d) = held Q K U C (head t) (query t r) d) ∧ ∀ r, o.2 (ix3 0 r 0) = logged_sum Q K C (head t) (query t r)

theorem leaves0 (h : t.val % 8 = 0) : Leaves Q K U C t (outsAt0 m c t.val t.isLt) := by
  rw [outsAt0_A m c t h (by omega) (by omega) (by omega) (by omega) (by omega) (by omega) (by omega)]
  frame_out
  rw [coord t, h]
  exact ⟨fun r d => (out0 _ _ _ _ r d).trans (row_out0 A t h r d), fun r => (lse0 _ _ _ _ r).trans (row_lse0 A t h r)⟩

theorem leaves1 (h : t.val % 8 = 1) : Leaves Q K U C t (outsAt0 m c t.val t.isLt) := by
  rw [outsAt0_B m c t (by omega) h (by omega) (by omega) (by omega) (by omega) (by omega) (by omega)]
  frame_out
  rw [coord t, h]
  exact ⟨fun r d => (out1 _ _ _ _ r _ _ _ d).trans (row_out A t (by omega) (by omega) r _ _ _ _ d),
    fun r => (lse1 _ _ _ _ r _ _).trans (row_lse A t (by omega) (by omega) r _ _ _ _)⟩

theorem leaves2 (h : t.val % 8 = 2) : Leaves Q K U C t (outsAt0 m c t.val t.isLt) := by
  rw [outsAt0_C m c t (by omega) (by omega) h (by omega) (by omega) (by omega) (by omega) (by omega)]
  frame_out
  rw [coord t, h]
  exact ⟨fun r d => (out2 _ _ _ _ r _ _ _ d).trans (row_out A t (by omega) (by omega) r _ _ _ _ d),
    fun r => (lse2 _ _ _ _ r _ _).trans (row_lse A t (by omega) (by omega) r _ _ _ _)⟩

theorem leaves3 (h : t.val % 8 = 3) : Leaves Q K U C t (outsAt0 m c t.val t.isLt) := by
  rw [outsAt0_D m c t (by omega) (by omega) (by omega) h (by omega) (by omega) (by omega) (by omega)]
  frame_out
  rw [coord t, h]
  exact ⟨fun r d => (out3 _ _ _ _ r _ _ _ d).trans (row_out A t (by omega) (by omega) r _ _ _ _ d),
    fun r => (lse3 _ _ _ _ r _ _).trans (row_lse A t (by omega) (by omega) r _ _ _ _)⟩

theorem leaves4 (h : t.val % 8 = 4) : Leaves Q K U C t (outsAt0 m c t.val t.isLt) := by
  rw [outsAt0_E m c t (by omega) (by omega) (by omega) (by omega) h (by omega) (by omega) (by omega)]
  frame_out
  rw [coord t, h]
  exact ⟨fun r d => (out4 _ _ _ _ r _ _ _ d).trans (row_out A t (by omega) (by omega) r _ _ _ _ d),
    fun r => (lse4 _ _ _ _ r _ _).trans (row_lse A t (by omega) (by omega) r _ _ _ _)⟩

theorem leaves5 (h : t.val % 8 = 5) : Leaves Q K U C t (outsAt0 m c t.val t.isLt) := by
  rw [outsAt0_F m c t (by omega) (by omega) (by omega) (by omega) (by omega) h (by omega) (by omega)]
  frame_out
  rw [coord t, h]
  exact ⟨fun r d => (out5 _ _ _ _ r _ _ _ d).trans (row_out A t (by omega) (by omega) r _ _ _ _ d),
    fun r => (lse5 _ _ _ _ r _ _).trans (row_lse A t (by omega) (by omega) r _ _ _ _)⟩

theorem leaves6 (h : t.val % 8 = 6) : Leaves Q K U C t (outsAt0 m c t.val t.isLt) := by
  rw [outsAt0_G m c t (by omega) (by omega) (by omega) (by omega) (by omega) (by omega) h (by omega)]
  frame_out
  rw [coord t, h]
  exact ⟨fun r d => (out6 _ _ _ _ r _ _ _ d).trans (row_out A t (by omega) (by omega) r _ _ _ _ d),
    fun r => (lse6 _ _ _ _ r _ _).trans (row_lse A t (by omega) (by omega) r _ _ _ _)⟩

theorem leaves7 (h : t.val % 8 = 7) : Leaves Q K U C t (outsAt0 m c t.val t.isLt) := by
  rw [outsAt0_H m c t (by omega) (by omega) (by omega) (by omega) (by omega) (by omega) (by omega) h]
  frame_out
  rw [coord t, h]
  exact ⟨fun r d => (out7 _ _ _ _ r _ _ _ d).trans (row_out A t (by omega) (by omega) r _ _ _ _ d),
    fun r => (lse7 _ _ _ _ r _ _).trans (row_lse A t (by omega) (by omega) r _ _ _ _)⟩

theorem leaves : Leaves Q K U C t (outsAt0 m c t.val t.isLt) := by
  have h : t.val % 8 = 0 ∨ t.val % 8 = 1 ∨ t.val % 8 = 2 ∨ t.val % 8 = 3 ∨ t.val % 8 = 4 ∨ t.val % 8 = 5 ∨ t.val % 8 = 6
      ∨ t.val % 8 = 7 := by omega
  rcases h with h | h | h | h | h | h | h | h
  · exact leaves0 A t h
  · exact leaves1 A t h
  · exact leaves2 A t h
  · exact leaves3 A t h
  · exact leaves4 A t h
  · exact leaves5 A t h
  · exact leaves6 A t h
  · exact leaves7 A t h

omit t in
theorem o_out : (dats m 0 c).arrAt 5 (cfgs 0).N = fun i => held Q K U C (i 0) (i 1) (i 2) := by
  refine (dats m 0 c).arrAt_eq_of_covers 5 _ (by decide +kernel) fun t hf y => ?_
  blk_simp
  rw [after0_5]
  have e : y 0 = (0 : Fin 1) := Fin.ext (Nat.lt_one_iff.mp (y 0).isLt)
  refine (congrArg _ ((eq_ix3 y).trans (by rw [e]))).trans (((leaves A t).1 (y 1) (y 2)).trans ?_)
  rw [show (win0_5.blk t).view.emb y 0 = head t from Fin.ext (by blk_simp [idx t, head]),
    show (win0_5.blk t).view.emb y 1 = query t (y 1) from Fin.ext (by blk_simp [idx t, query]),
    show (win0_5.blk t).view.emb y 2 = y 2 from Fin.ext (by blk_simp [idx t])]

omit t in
theorem lse_out : (dats m 0 c).arrAt 6 (cfgs 0).N = fun i => logged_sum Q K C (i 0) (i 1) := by
  refine (dats m 0 c).arrAt_eq_of_covers 6 _ (by decide +kernel) fun t hf y => ?_
  blk_simp
  rw [after0_6]
  have e : y 0 = (0 : Fin 1) := Fin.ext (Nat.lt_one_iff.mp (y 0).isLt)
  have e2 : y 2 = (0 : Fin 1) := Fin.ext (Nat.lt_one_iff.mp (y 2).isLt)
  refine (congrArg _ ((eq_ix3 y).trans (by rw [e, e2]))).trans (((leaves A t).2 (y 1)).trans ?_)
  rw [show (win0_6.blk t).view.emb y 0 = head t from Fin.ext (by blk_simp [idx t, head]),
    show (win0_6.blk t).view.emb y 1 = query t (y 1) from Fin.ext (by blk_simp [idx t, query])]

end Cert.AttnIdeal.Val
end
-- ==== Proof.AttnRef.lean ====
module

public import proofs.«01_k».proof.Proof.AttnSpec
public import proofs.«01_k».proof.Proof.Gen.AttnRefIdeal.Read
public import Idealize.ShloMosaic.Lib.Pointwise
public import Idealize.ShloMosaic.Lib.WordCmp

/-! The reference's attention at real arguments: each row is the row of `AttnSpec`, whose scores have the query's part of the
decay added. -/

@[expose] public section

set_option maxRecDepth 16384

noncomputable section

namespace Cert.AttnRefIdeal.Val

open Idealize.ShloMosaic Idealize.ShloMosaic.Pointwise Cert.AttnRefIdeal Cert.AttnRefIdeal.Gen Cert.Attention Cert.Head

variable {x0 x1 x2 : FVec Ideal S8x2048x64 .f32} {x3 : FVec Ideal S8x2048 .f32} {Q K V : Fin 8 → Fin 2048 → Fin 64 → ℝ}
  {C : Fin 8 → Fin 2048 → ℝ} (h0 : ∀ h n x, x0 (ix3 h n x) = ((Q h n x : ℝ) : EReal))
  (h1 : ∀ h n x, x1 (ix3 h n x) = ((K h n x : ℝ) : EReal)) (h3 : ∀ h n, x3 (ix2 h n) = ((C h n : ℝ) : EReal))

theorem causal_at (q k : Fin 2048) : Read.val_main_v15 (F := Ideal) (ix2 q k) = BitVec.ofBool (decide (k.val ≤ q.val)) := by
  pointwise [Read.val_main_v15, Read.val_main_v14, Read.val_main_v13, Read.val_main_v12, Read.val_main_v11, Read.val_main_v10,
    Read.val_main_v9]
  exact WordCmp.cmpi_sge_ofNat (by omega) (by omega)

include h0 h1 h3 in
theorem logit_at (h : Fin 8) (q k : Fin 2048) : Read.val_main_v8 (F := Ideal) x0 x1 x3 (ix3 h q k)
    = ((score (Q h) (K h) (C h) q k + C h q : ℝ) : EReal) := by
  pointwise [Read.val_main_v8, Read.val_main_v7, Read.val_main_v6, Read.val_main_v5, Read.val_main_v4, Read.val_main_v3,
    Read.val_main_v2, Read.val_main_v1, Read.val_main_cst, Read.val_main_v0]
  simp only [h0, h1, h3, word_eighth, ← EReal.coe_mul, coe_sum, ← EReal.coe_add, ← EReal.coe_sub]
  congr 1
  unfold score
  rw [Finset.sum_mul, sub_add_eq_add_sub]
  congr 2
  exact Finset.sum_congr rfl fun x _ => by ring

include h0 h1 h3 in
theorem sc_at (h : Fin 8) (q k : Fin 2048) : Read.val_main_v16 (F := Ideal) x0 x1 x3 (ix3 h q k)
    = sc (fun k => score (Q h) (K h) (C h) q k + C h q) q k := by
  pointwise [Read.val_main_v16, Read.val_main_call0_v2, Read.val_main_call0_v1, Read.val_main_call0_v0, Read.val_main_cst_0,
    causal_at, logit_at h0 h1 h3, word_bot]
  unfold sc
  by_cases hk : k ≤ q
  · rw [if_pos hk]; simp [Scalar.select, Fin.le_def.mp hk]
  · rw [if_neg hk]; simp [Scalar.select, hk]; exact word_bot

include h0 h1 h3 in
theorem fold_at (h : Fin 8) (q : Fin 2048) : Read.val_main_v17 (F := Ideal) x0 x1 x3 (ix2 h q)
    = Finset.univ.fold max ⊥ fun k => sc (fun k => score (Q h) (K h) (C h) q k + C h q) q k := by
  pointwise [Read.val_main_v17, Read.val_main_cst_1, sc_at h0 h1 h3, word_bot]

include h0 h1 h3 in
theorem most_at (h : Fin 8) (q : Fin 2048) : ∃ M : ℝ, Read.val_main_v19 (F := Ideal) x0 x1 x3 (ix2 h q) = ((M : ℝ) : EReal) := by
  obtain ⟨M, hM⟩ := fold_real (fun k => sc (fun k => score (Q h) (K h) (C h) q k + C h q) q k) (fun k => sc_ne_top _ _ _) q
    (sc_ne_bot _ le_rfl)
  refine ⟨M, ?_⟩
  have e : Read.val_main_v18 (F := Ideal) (ix2 h q) = (⊥ : EReal) := by
    pointwise [Read.val_main_v18, Read.val_main_cst_2, word_bot]
  rw [Read.val_main_v19_apply, e, fold_at h0 h1 h3, hM]
  exact max_eq_right bot_le

include h0 h1 h3 in
theorem exp_at {h : Fin 8} {q : Fin 2048} {M : ℝ} (hM : Read.val_main_v19 (F := Ideal) x0 x1 x3 (ix2 h q) = ((M : ℝ) : EReal))
    (k : Fin 2048) : Read.val_main_v23 (F := Ideal) x0 x1 x3 (ix3 h q k)
    = Ideal.exp (sc (fun k => score (Q h) (K h) (C h) q k + C h q) q k - ((M : ℝ) : EReal)) := by
  pointwise [Read.val_main_v23, Read.val_main_v22, Read.val_main_v21, Read.val_main_v20, sc_at h0 h1 h3, hM]

include h0 h1 h3 in
theorem out_at (h2 : ∀ h n x, x2 (ix3 h n x) = ((V h n x : ℝ) : EReal)) (h : Fin 8) (q : Fin 2048) (d : Fin 64) :
    Read.val_main_v28 (F := Ideal) x0 x1 x2 x3 (ix3 h q d)
      = ((out (score (Q h) (K h) (C h) q) (fun k => V h k d) q : ℝ) : EReal) := by
  obtain ⟨M, hM⟩ := most_at h0 h1 h3 h q
  rw [← out_shift _ _ (C h q), ← out_row _ _ _ M]
  pointwise [Read.val_main_v28, Read.val_main_v27, Read.val_main_v26, Read.val_main_v25, Read.val_main_v24, Read.val_main_cst_3,
    exp_at h0 h1 h3 hM, h2]

include h0 h1 h3 in
theorem lse_at (h : Fin 8) (q : Fin 2048) : Read.val_main_v32 (F := Ideal) x0 x1 x3 (ix3 h q 0)
    = ((Real.log (total (score (Q h) (K h) (C h) q) q) + C h q : ℝ) : EReal) := by
  rw [← log_total_shift, ← lse_row]
  pointwise [Read.val_main_v32, Read.val_main_v31, Read.val_main_v30, Read.val_main_v29, Read.val_main_cst_4, sc_at h0 h1 h3]

end Cert.AttnRefIdeal.Val

end
-- ==== Proof.AttnMain.lean ====
module

public import proofs.«01_k».proof.Defs
public import proofs.«01_k».proof.Proof.Finite
public import proofs.«01_k».proof.Proof.AttnVal
public import proofs.«01_k».proof.Proof.AttnRef
public import proofs.«01_k».proof.Proof.Gen.Pre_attn_finite
public import proofs.«01_k».proof.Proof.Gen.AttnRefIdeal
public import proofs.«01_k».proof.Proof.Gen.AttnRefIdeal.Run
public import proofs.«01_k».proof.Proof.Gen.AttnRefIdeal.Read
public import Idealize.ShloMosaic.Lib.Claim

/-! The attention's kernel and its reference have equal results: from finite arguments both hold the rows of `AttnSpec`. -/

@[expose] public section

set_option maxRecDepth 16384

noncomputable section

namespace Cert.Proof.AttnMain

open Idealize.ShloMosaic Idealize.ShloMosaic.TcCoe Idealize.SL.Sem
open Cert.Attention

section Args
variable (m : (ℓ : Loc Cert.AttnIdeal.nD Cert.AttnIdeal.τ Cert.AttnIdeal.sig) → Buf (Elt Ideal) ℓ) (c : Dev Cert.AttnIdeal.nD)

/-- The queries, keys, values and cumulative decays, read off the arguments. -/
def Q (h : Fin 8) (n : Fin 2048) (x : Fin 64) : ℝ := (show EReal from m ((c.tc : Thread Cert.AttnIdeal.nD Cert.AttnIdeal.τ).loc Cert.AttnIdeal.main_arg0) (ix3 h n x)).toReal
def K (h : Fin 8) (n : Fin 2048) (x : Fin 64) : ℝ := (show EReal from m ((c.tc : Thread Cert.AttnIdeal.nD Cert.AttnIdeal.τ).loc Cert.AttnIdeal.main_arg1) (ix3 h n x)).toReal
def U (h : Fin 8) (n : Fin 2048) (x : Fin 64) : ℝ := (show EReal from m ((c.tc : Thread Cert.AttnIdeal.nD Cert.AttnIdeal.τ).loc Cert.AttnIdeal.main_arg2) (ix3 h n x)).toReal
def C (h : Fin 8) (n : Fin 2048) : ℝ := (show EReal from m ((c.tc : Thread Cert.AttnIdeal.nD Cert.AttnIdeal.τ).loc Cert.AttnIdeal.main_arg3) (ix2 h n)).toReal

/-- Finite arguments are those numbers. -/
theorem args (h : Cert.Pre_AttnIdeal_attn_finite m) : Cert.AttnIdeal.Val.In m c (Q m c) (K m c) (U m c) (C m c) := by
  obtain ⟨h0, h1, h2, h3⟩ := h c
  constructor
  · exact fun _ _ _ => Cert.Finite.all (fun _ => rfl) h0 _
  · exact fun _ _ _ => Cert.Finite.all (fun _ => rfl) h1 _
  · exact fun _ _ _ => Cert.Finite.all (fun _ => rfl) h2 _
  · exact fun _ _ => Cert.Finite.all (fun _ => rfl) h3 _

end Args

/-- The claim about values: the kernel's two results and the reference's are the same arrays. -/
theorem algebraic : Cert.algebraic_AttnIdeal_AttnRefIdeal_pre_attn_finite := by
  intro m g m' g' hpre hagree
  refine ⟨fun c => (Cert.AttnIdeal.Gen.dats m 0 c).arrAt 5 Cert.AttnIdeal.cfg0.N,
    fun c => (Cert.AttnIdeal.Gen.dats m 0 c).arrAt 6 Cert.AttnIdeal.cfg0.N, Cert.AttnIdeal.Value.run_blocks m g, ?_⟩
  refine (θ_run Cert.AttnRefIdeal.defs _ _).mono (fun r h c => ?_) (Cert.AttnRefIdeal.Value.run m' g')
  obtain ⟨r28, r32, hargs⟩ := h c
  obtain ⟨e0, e1, e2, e3⟩ := hagree c
  have A := args m c hpre
  refine ⟨r28.trans ?_, r32.trans ?_, hargs⟩
  · rw [Cert.AttnRefIdeal.Read.val_main_v28_eq, e0, e1, e2, e3]
    refine Eq.trans (funext fun i => ?_) (Cert.AttnIdeal.Val.o_out A).symm
    exact (congrArg _ (eq_ix3 i)).trans (Cert.AttnRefIdeal.Val.out_at A.h0 A.h1 A.h3 A.h2 _ _ _)
  · rw [Cert.AttnRefIdeal.Read.val_main_v32_eq, e0, e1, e3]
    refine Eq.trans (funext fun i => ?_) (Cert.AttnIdeal.Val.lse_out A).symm
    have e : i 2 = (0 : Fin 1) := Fin.ext (Nat.lt_one_iff.mp (i 2).isLt)
    exact (congrArg _ ((eq_ix3 i).trans (by rw [e]))).trans (Cert.AttnRefIdeal.Val.lse_at A.h0 A.h1 A.h3 _ _)

end Cert.Proof.AttnMain

end
-- ==== Proof.PreSpec.lean ====
module

public import proofs.«01_k».proof.Proof.TailSpec

/-! The gradient of the norm of the second mixer's queries and keys, one head of one token at a time, in real numbers. -/

@[expose] public section

noncomputable section

namespace Cert.Heads

open Idealize.ShloMosaic Cert.Head

theorem word_64 : Ideal.ofBits .f32 0x42800000#32 = ((64 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num

variable (x y : Fin 64 → ℝ)

/-- A head's mean square, raised. -/
def ms : ℝ := (∑ n, x n * x n) / 64 + eps
/-- Its reciprocal root. -/
def rs : ℝ := (Real.sqrt (ms x))⁻¹
/-- The slope of the reciprocal root. -/
def slope : ℝ := -(1 / 2) * (rs x / ms x)
/-- The gradient at the mean square, over the head's width; `y` is the gradient at the normalised head. -/
def dms : ℝ := (∑ n, x n * y n) * slope x / 64
/-- The gradient at the head. -/
def dx (n : Fin 64) : ℝ := y n * rs x + x n * dms x y + dms x y * x n

theorem mean_pos : 0 < ms x := add_pos_of_nonneg_of_pos (div_nonneg (Finset.sum_nonneg fun n _ => mul_self_nonneg (x n)) (by norm_num)) eps_pos

/-- The kernel multiplies before it sums. -/
theorem dms_inner : ∑ n, x n * y n * slope x * (1 / 64) = dms x y := by
  unfold dms; rw [← Finset.sum_mul, ← Finset.sum_mul]; ring

theorem ms_scaled : (∑ n, x n * x n) * (1 / 64) + eps = ms x := by unfold ms; ring

/-- What the call reads, in real numbers: the projection, the two gains, and the gradients at the queries and keys. -/
structure Data where
  u : Fin 2048 → Fin 2048 → ℝ
  g : Fin 64 → ℝ
  k : Fin 64 → ℝ
  a : Fin 8 → Fin 2048 → Fin 64 → ℝ
  b : Fin 8 → Fin 2048 → Fin 64 → ℝ

variable (R : Data) (t : Fin 2048) (h : Fin 8) (n : Fin 64)

/-- The queries of one head, and the keys. -/
def Data.q (n : Fin 64) : ℝ := R.u t ⟨h.val * 64 + n.val, by omega⟩
def Data.key (n : Fin 64) : ℝ := R.u t ⟨512 + (h.val * 64 + n.val), by omega⟩
/-- The gradient at the queries, and at the keys. -/
def Data.dq : ℝ := dx (R.q t h) (fun n => R.a h t n * R.g n) n
def Data.dk : ℝ := dx (R.key t h) (fun n => R.b h t n * R.k n) n
/-- One term of the gradient of the queries' gain, and of the keys'. -/
def Data.gq : ℝ := R.q t h n * rs (R.q t h) * R.a h t n
def Data.gk : ℝ := R.key t h n * rs (R.key t h) * R.b h t n

/-- A row of the gradient at the projection: the queries', the keys', the values' and the gate's. -/
def dub (v : Fin 8 → Fin 2048 → Fin 64 → EReal) (w : Fin 2048 → Fin 512 → EReal) (l : Fin 2048) : EReal :=
  if h0 : l.val < 512 then ((R.dq t ⟨l.val / 64, by omega⟩ ⟨l.val % 64, by omega⟩ : ℝ) : EReal)
  else if h1 : l.val - 512 < 512 then ((R.dk t ⟨(l.val - 512) / 64, by omega⟩ ⟨(l.val - 512) % 64, by omega⟩ : ℝ) : EReal)
  else if h2 : l.val - 512 - 512 < 512 then v ⟨(l.val - 512 - 512) / 64, by omega⟩ t ⟨(l.val - 512 - 512) % 64, by omega⟩
  else w t ⟨l.val - 512 - 512 - 512, by omega⟩

end Cert.Heads

end
-- ==== Proof.PrePay.lean ====
module

public import proofs.«01_k».proof.Defs
public import proofs.«01_k».proof.Proof.Gen.PreBIdeal.Skeleton
public import proofs.«01_k».proof.Proof.PreSpec
public import Idealize.ShloMosaic.Lib.Pipeline.ValueKit
public import Idealize.ShloMosaic.Lib.Pointwise
public import Idealize.ShloMosaic.Lib.WordCmp

/-! What the kernel computes of one tile of 256 tokens, read at an index. Two heads share a group of 128 lanes: a head's sum is
taken over all the lanes of its group with the other head's masked off. -/

@[expose] public section

set_option maxRecDepth 16384

noncomputable section

open Idealize.ShloMosaic Idealize.ShloMosaic.TcCoe Idealize.SL.Sem Idealize.ShloMosaic.Pointwise

namespace Cert.PreBIdeal.Val

open Cert.PreBIdeal Cert.PreBIdeal.Gen Cert.Head Cert.Heads

/-- The sum over the head that column `k` is in. -/
def hs (v : S256x512.Idx → EReal) (r : Fin 256) (k : Fin 512) : EReal :=
  ∑ n : Fin 64, v (ix2 r ⟨k.val / 64 * 64 + n.val, by omega⟩)

theorem at_head (v : S256x512.Idx → EReal) (r : Fin 256) (k : Fin 512) (f : Fin 64 → Fin 512)
    (hf : ∀ n, (f n).val = k.val / 64 * 64 + n.val) : ∑ n, v (ix2 r (f n)) = hs v r k :=
  Finset.sum_congr rfl fun n _ => congrArg (fun z => v (ix2 r z)) (Fin.ext (hf n))

theorem low_at (r : Fin 256) (j : Fin 128) : k0_pay10 (ix2 r j) = BitVec.ofBool (decide (j.val < 64)) := by
  pointwise [k0_pay10]
  exact WordCmp.cmpi_slt_ofNat (by omega) (by omega)

theorem low_eq : k0_pay24 = k0_pay10 := rfl

section
variable (x : FVec Ideal S256x512 .f32) (g : FVec Ideal S1x512 .f32) (s c y : FVec Ideal S256x512 .f32) (r : Fin 256) (k : Fin 512)

/-! ### The heads' sums, and their gradient -/

theorem q_ms : k0_pay19 (F := Ideal) k0_pay10 (k0_pay13 k0_pay10 (k0_pay11 x) (k0_pay12 x)) (k0_pay14 (k0_pay9 x) k0_pay10) (k0_pay15 (k0_pay9 x) k0_pay10)
      (k0_pay17 (k0_pay9 x) k0_pay10) (k0_pay18 (k0_pay9 x) k0_pay10) (ix2 r k)
    = hs (fun i => x i * x i) r k * Ideal.ofBits .f32 0x3C800000#32 + Ideal.ofBits .f32 0x358637BD#32 := by
  pointwise [k0_pay19, k0_pay18, k0_pay17, k0_pay16, k0_pay15, k0_pay14, k0_pay13, k0_pay12, k0_pay11, k0_pay9, low_at]
  refine congrArg (fun a => a * Ideal.ofBits .f32 0x3C800000#32 + Ideal.ofBits .f32 0x358637BD#32) ?_
  split_ifs
  all_goals first
    | omega
    | simp only [Finset.sum_const_zero, zero_add, add_zero]
      exact at_head (fun i => x i * x i) r k _ fun n => by first | omega | (simp only []; omega)

theorem k_ms : k0_pay29 (F := Ideal) (k0_pay23 x) k0_pay24 (k0_pay25 x) (k0_pay27 x) (k0_pay28 x) (ix2 r k)
    = hs (fun i => x i * x i) r k * Ideal.ofBits .f32 0x3C800000#32 + Ideal.ofBits .f32 0x358637BD#32 := by
  pointwise [k0_pay29, k0_pay28, k0_pay27, k0_pay26, k0_pay25, k0_pay23, low_eq, low_at]
  refine congrArg (fun a => a * Ideal.ofBits .f32 0x3C800000#32 + Ideal.ofBits .f32 0x358637BD#32) ?_
  split_ifs
  all_goals first
    | omega
    | simp only [Finset.sum_const_zero, zero_add, add_zero]
      exact at_head (fun i => x i * x i) r k _ fun n => by first | omega | (simp only []; omega)

theorem q_back : k0_pay74 (F := Ideal) x k0_pay10 y (k0_pay65 x g s c) (k0_pay72 k0_pay10 (k0_pay67 x g s c) (k0_pay70 x g k0_pay10 s c) (k0_pay71 x g k0_pay10 s c))
      (k0_pay73 k0_pay10 (k0_pay66 x g s c)) (ix2 r k)
    = y (ix2 r k) + x (ix2 r k) * hs (k0_pay64 x g s c) r k + hs (k0_pay64 x g s c) r k * x (ix2 r k) := by
  pointwise [k0_pay74, k0_pay73, k0_pay72, k0_pay71, k0_pay70, k0_pay69, k0_pay68, k0_pay67, k0_pay66, k0_pay65, low_at]
  generalize k0_pay64 x g s c = w
  refine congrArg (fun a => y (ix2 r k) + x (ix2 r k) * a + a * x (ix2 r k)) ?_
  split_ifs
  all_goals first
    | omega
    | simp only [Finset.sum_const_zero, zero_add, add_zero, Fin.sum_univ_one]
      exact at_head w r k _ fun n => by first | omega | (simp only []; omega)

theorem k_back : k0_pay60 (F := Ideal) x k0_pay24 y (k0_pay56 k0_pay24 (k0_pay50 x g s c) (k0_pay52 x g k0_pay24 s c) (k0_pay54 x g k0_pay24 s c) (k0_pay55 x g k0_pay24 s c)
        (Scalar.ofBits .f32 0x00000000#32)) (k0_pay58 k0_pay24 (k0_pay49 x g s c)) (k0_pay59 k0_pay24 (k0_pay49 x g s c)) (ix2 r k)
    = y (ix2 r k) + x (ix2 r k) * hs (k0_pay48 x g s c) r k + hs (k0_pay48 x g s c) r k * x (ix2 r k) := by
  pointwise [k0_pay60, k0_pay59, k0_pay58, k0_pay57, k0_pay56, k0_pay55, k0_pay54, k0_pay53, k0_pay52, k0_pay51, k0_pay50, k0_pay49, low_eq, low_at]
  generalize k0_pay48 x g s c = w
  refine congrArg (fun a => y (ix2 r k) + x (ix2 r k) * a + a * x (ix2 r k)) ?_
  split_ifs
  all_goals first
    | omega
    | simp only [Finset.sum_const_zero, zero_add, add_zero, Fin.sum_univ_one]
      exact at_head w r k _ fun n => by first | omega | (simp only []; omega)

/-- Eight heads laid side by side. -/
theorem slabs (b : Vec Ideal S8x256x64 .f32) :
    k0_pay40 (F := Ideal) (View.ld b (Rect.unit ![0, 0, 0] ![1, 256, 64] inb_S8x256x64_S1x256x64_0_0_0))
      (View.ld b (Rect.unit ![1, 0, 0] ![1, 256, 64] inb_S8x256x64_S1x256x64_1_0_0))
      (View.ld b (Rect.unit ![2, 0, 0] ![1, 256, 64] inb_S8x256x64_S1x256x64_2_0_0))
      (View.ld b (Rect.unit ![3, 0, 0] ![1, 256, 64] inb_S8x256x64_S1x256x64_3_0_0))
      (View.ld b (Rect.unit ![4, 0, 0] ![1, 256, 64] inb_S8x256x64_S1x256x64_4_0_0))
      (View.ld b (Rect.unit ![5, 0, 0] ![1, 256, 64] inb_S8x256x64_S1x256x64_5_0_0))
      (View.ld b (Rect.unit ![6, 0, 0] ![1, 256, 64] inb_S8x256x64_S1x256x64_6_0_0))
      (View.ld b (Rect.unit ![7, 0, 0] ![1, 256, 64] inb_S8x256x64_S1x256x64_7_0_0)) (ix2 r k)
    = b (ix3 ⟨k.val / 64, by omega⟩ r ⟨k.val % 64, by omega⟩) := by
  have hk := k.isLt
  pointwise [k0_pay40]
  split_ifs
  all_goals
    refine congrArg₂ (fun h n => b (ix3 h r n)) (Fin.ext ?_) (Fin.ext ?_) <;> first | omega | (simp; omega)

end

/-! ### In real numbers -/

/-- The head of a column, and the column within it. -/
def hd (k : Fin 512) : Fin 8 := ⟨k.val / 64, by omega⟩
def col (k : Fin 512) : Fin 64 := ⟨k.val % 64, by omega⟩

theorem hd_eq {k : Fin 512} {h : Fin 8} {n : Fin 64} (e : k.val = h.val * 64 + n.val) : hd k = h := Fin.ext (by unfold hd; simp only []; omega)
theorem col_eq {k : Fin 512} {h : Fin 8} {n : Fin 64} (e : k.val = h.val * 64 + n.val) : col k = n := Fin.ext (by unfold col; simp only []; omega)

/-- An array whose rows are heads of real numbers. -/
def Is (v : FVec Ideal S256x512 .f32) (X : Fin 256 → Fin 8 → Fin 64 → ℝ) : Prop := ∀ r k, v (ix2 r k) = ((X r (hd k) (col k) : ℝ) : EReal)

theorem hs_real {v : FVec Ideal S256x512 .f32} {X : Fin 256 → Fin 8 → Fin 64 → ℝ} (H : Is v X)
    (r : Fin 256) (k : Fin 512) : hs v r k = ((∑ n, X r (hd k) n : ℝ) : EReal) := by
  rw [← coe_sum]
  refine Finset.sum_congr rfl fun n _ => (H r _).trans ?_
  rw [hd_eq (h := hd k) (n := n) rfl, col_eq (h := hd k) (n := n) rfl]

variable {x c b s y : FVec Ideal S256x512 .f32} {g : FVec Ideal S1x512 .f32} {X C : Fin 256 → Fin 8 → Fin 64 → ℝ} {G : Fin 64 → ℝ}

/-- The mean square of each head. -/
theorem q_mean (hx : Is x X) : Is (k0_pay19 k0_pay10 (k0_pay13 k0_pay10 (k0_pay11 x) (k0_pay12 x)) (k0_pay14 (k0_pay9 x) k0_pay10) (k0_pay15 (k0_pay9 x) k0_pay10)
      (k0_pay17 (k0_pay9 x) k0_pay10) (k0_pay18 (k0_pay9 x) k0_pay10)) fun r h _ => ms (X r h) := fun r k => by
  rw [q_ms, hs_real (v := fun i => x i * x i) (X := fun r h n => X r h n * X r h n) (fun r k => by show x (ix2 r k) * x (ix2 r k) = _; rw [hx, ← EReal.coe_mul]), word_64th, word_eps, ← EReal.coe_mul, ← EReal.coe_add, ms_scaled]

theorem k_mean (hx : Is x X) : Is (k0_pay29 (k0_pay23 x) k0_pay24 (k0_pay25 x) (k0_pay27 x) (k0_pay28 x)) fun r h _ => ms (X r h) := fun r k => by
  rw [k_ms, hs_real (v := fun i => x i * x i) (X := fun r h n => X r h n * X r h n) (fun r k => by show x (ix2 r k) * x (ix2 r k) = _; rw [hx, ← EReal.coe_mul]), word_64th, word_eps, ← EReal.coe_mul, ← EReal.coe_add, ms_scaled]

section
variable {v28 : IVec S256x128 1} {v42 v56 v70 : FVec Ideal S256x128 .f32} {v75 : FVec Ideal S256x1 .f32} {v77 : FVec Ideal S256x128 .f32}
  (hm : Is (k0_pay19 v28 v42 v56 v70 v75 v77) fun r h _ => ms (X r h))
include hm

theorem q_rs : Is (k0_pay20 v28 v42 v56 v70 v75 v77) fun r h _ => rs (X r h) := fun r k => by
  pointwise [k0_pay20]
  rw [hm, rsqrt_pos (mean_pos _)]; rfl

theorem q_slope : Is (k0_pay21 v28 v42 v56 v70 v75 v77) fun r h _ => slope (X r h) := fun r k => by
  pointwise [k0_pay21]
  rw [hm, q_rs hm, coe_div' (mean_pos _).ne', word_neg_half, ← EReal.coe_mul]; rfl

theorem q_norm (hx : Is x X) : Is (k0_pay22 x v28 v42 v56 v70 v75 v77) fun r h n => X r h n * rs (X r h) := fun r k => by
  pointwise [k0_pay22]
  rw [hx, q_rs hm, ← EReal.coe_mul]
end

section
variable {v95 : FVec Ideal S256x512 .f32} {v98 : IVec S256x128 1} {v112 v123 : FVec Ideal S256x128 .f32} {v124 : FVec Ideal S256x1 .f32}
  (hm : Is (k0_pay29 v95 v98 v112 v123 v124) fun r h _ => ms (X r h))
include hm

theorem k_rs : Is (k0_pay30 v95 v98 v112 v123 v124) fun r h _ => rs (X r h) := fun r k => by
  pointwise [k0_pay30]
  rw [hm, rsqrt_pos (mean_pos _)]; rfl

theorem k_slope : Is (k0_pay31 v95 v98 v112 v123 v124) fun r h _ => slope (X r h) := fun r k => by
  pointwise [k0_pay31]
  rw [hm, k_rs hm, coe_div' (mean_pos _).ne', word_neg_half, ← EReal.coe_mul]; rfl

theorem k_norm (hx : Is x X) : Is (k0_pay32 x v95 v98 v112 v123 v124) fun r h n => X r h n * rs (X r h) := fun r k => by
  pointwise [k0_pay32]
  rw [hx, k_rs hm, ← EReal.coe_mul]
end

section
variable (hx : Is x X) (hg : ∀ k, g (ix2 0 k) = ((G (col k) : ℝ) : EReal)) (hc : Is c C) (hb : Is b fun r h _ => rs (X r h)) (hsl : Is s fun r h _ => slope (X r h))
include hx hg hc hsl

theorem q_inner : Is (k0_pay64 x g s c) fun r h n => X r h n * (C r h n * G n) * slope (X r h) * (1 / 64) := fun r k => by
  pointwise [k0_pay64, k0_pay62]
  rw [hx, hg, hc, hsl, word_64th, ← EReal.coe_mul, ← EReal.coe_mul, ← EReal.coe_mul, ← EReal.coe_mul]

theorem k_inner : Is (k0_pay48 x g s c) fun r h n => X r h n * (C r h n * G n) * slope (X r h) * (1 / 64) := fun r k => by
  pointwise [k0_pay48, k0_pay46]
  rw [hx, hg, hc, hsl, word_64th, ← EReal.coe_mul, ← EReal.coe_mul, ← EReal.coe_mul, ← EReal.coe_mul]

include hb

/-- The gradient at the queries. -/
theorem dq_at : Is (k0_pay74 x k0_pay10 (k0_pay63 g b c) (k0_pay65 x g s c) (k0_pay72 k0_pay10 (k0_pay67 x g s c) (k0_pay70 x g k0_pay10 s c) (k0_pay71 x g k0_pay10 s c))
      (k0_pay73 k0_pay10 (k0_pay66 x g s c))) fun r h n => dx (X r h) (fun n => C r h n * G n) n := fun r k => by
  have e : k0_pay63 g b c (ix2 r k) = ((C r (hd k) (col k) * G (col k) * rs (X r (hd k)) : ℝ) : EReal) := by
    pointwise [k0_pay63, k0_pay62]
    rw [hc, hg, hb, ← EReal.coe_mul, ← EReal.coe_mul]
  rw [q_back, hs_real (q_inner hx hg hc hsl), dms_inner, e, hx, ← EReal.coe_mul, ← EReal.coe_mul, ← EReal.coe_add, ← EReal.coe_add]; rfl

/-- The gradient at the keys. -/
theorem dk_at : Is (k0_pay60 x k0_pay24 (k0_pay47 g b c) (k0_pay56 k0_pay24 (k0_pay50 x g s c) (k0_pay52 x g k0_pay24 s c) (k0_pay54 x g k0_pay24 s c) (k0_pay55 x g k0_pay24 s c)
        (Scalar.ofBits .f32 0x00000000#32)) (k0_pay58 k0_pay24 (k0_pay49 x g s c)) (k0_pay59 k0_pay24 (k0_pay49 x g s c)))
      fun r h n => dx (X r h) (fun n => C r h n * G n) n := fun r k => by
  have e : k0_pay47 g b c (ix2 r k) = ((C r (hd k) (col k) * G (col k) * rs (X r (hd k)) : ℝ) : EReal) := by
    pointwise [k0_pay47, k0_pay46]
    rw [hc, hg, hb, ← EReal.coe_mul, ← EReal.coe_mul]
  rw [k_back, hs_real (k_inner hx hg hc hsl), dms_inner, e, hx, ← EReal.coe_mul, ← EReal.coe_mul, ← EReal.coe_add, ← EReal.coe_add]; rfl
end

/-- A product summed over the rows, then over the heads, added into. -/
theorem gain_at (hx : Is x X) (hc : Is c C) (a : FVec Ideal S1x64 .f32) (n : Fin 64) :
    k0_pay81 (k0_pay61 x c) a (ix2 0 n) = a (ix2 0 n) + ((∑ r, ∑ h, X r h n * C r h n : ℝ) : EReal) := by
  have e (h : Fin 8) (k : Fin 512) (hk : k.val = h.val * 64 + n.val) :
      ∑ r, x (ix2 r k) * c (ix2 r k) = ((∑ r, X r h n * C r h n : ℝ) : EReal) := by
    rw [← coe_sum]
    refine Finset.sum_congr rfl fun r _ => ?_
    rw [hx, hc, hd_eq hk, col_eq hk, ← EReal.coe_mul]
  pointwise [k0_pay81, k0_pay61]
  rw [e 0 ⟨n.val, by omega⟩ (by simp), e 1 ⟨64 + n.val, by omega⟩ (by simp), e 2 ⟨128 + n.val, by omega⟩ (by simp),
    e 3 ⟨192 + n.val, by omega⟩ (by simp), e 4 ⟨256 + n.val, by omega⟩ (by simp), e 5 ⟨320 + n.val, by omega⟩ (by simp),
    e 6 ⟨384 + n.val, by omega⟩ (by simp), e 7 ⟨448 + n.val, by omega⟩ (by simp), Finset.sum_comm, Fin.sum_univ_eight]
  simp only [EReal.coe_add]

theorem gain_eq (p : FVec Ideal S256x512 .f32) (q : FVec Ideal S256x512 .f32) (a : FVec Ideal S1x64 .f32) : k0_pay1 (k0_pay45 p q) a = k0_pay81 (k0_pay61 p q) a := rfl

/-- The four parts of the gradient at the projection, side by side. -/
theorem parts (p q : FVec Ideal S256x512 .f32) (v0 v1 v2 v3 v4 v5 v6 v7 : Vec Ideal S1x256x64 .f32) (w : Vec Ideal S256x512 .f32)
    (r : Fin 256) (l : Fin 2048) :
    k0_pay79 p q (k0_pay75 v0) (k0_pay76 v1) (k0_pay77 v2) (k0_pay78 v3) v4 v5 v6 v7 w (ix2 r l)
      = if h0 : l.val < 512 then q (ix2 r ⟨l.val, h0⟩)
        else if h1 : l.val - 512 < 512 then p (ix2 r ⟨l.val - 512, h1⟩)
        else if h2 : l.val - 512 - 512 < 512 then k0_pay40 v0 v1 v2 v3 v4 v5 v6 v7 (ix2 r ⟨l.val - 512 - 512, h2⟩)
        else w (ix2 r ⟨l.val - 512 - 512 - 512, by omega⟩) := by
  pointwise [k0_pay79, k0_pay78, k0_pay77, k0_pay76, k0_pay75, k0_pay40]

/-- A tile of the gradient at the projection. -/
theorem dub_row {p q : FVec Ideal S256x512 .f32} {b : Vec Ideal S8x256x64 .f32} {w : Vec Ideal S256x512 .f32} {R : Data} {T : Fin 256 → Fin 2048}
    {v : Fin 8 → Fin 2048 → Fin 64 → EReal} {z : Fin 2048 → Fin 512 → EReal} (hq : Is q fun r h n => R.dq (T r) h n)
    (hk : Is p fun r h n => R.dk (T r) h n) (hv : ∀ r h n, b (ix3 h r n) = v h (T r) n) (hw : ∀ r j, w (ix2 r j) = z (T r) j)
    (r : Fin 256) (l : Fin 2048) :
    k0_pay79 p q (k0_pay75 (View.ld b (Rect.unit ![0, 0, 0] ![1, 256, 64] inb_S8x256x64_S1x256x64_0_0_0)))
      (k0_pay76 (View.ld b (Rect.unit ![1, 0, 0] ![1, 256, 64] inb_S8x256x64_S1x256x64_1_0_0)))
      (k0_pay77 (View.ld b (Rect.unit ![2, 0, 0] ![1, 256, 64] inb_S8x256x64_S1x256x64_2_0_0)))
      (k0_pay78 (View.ld b (Rect.unit ![3, 0, 0] ![1, 256, 64] inb_S8x256x64_S1x256x64_3_0_0)))
      (View.ld b (Rect.unit ![4, 0, 0] ![1, 256, 64] inb_S8x256x64_S1x256x64_4_0_0))
      (View.ld b (Rect.unit ![5, 0, 0] ![1, 256, 64] inb_S8x256x64_S1x256x64_5_0_0))
      (View.ld b (Rect.unit ![6, 0, 0] ![1, 256, 64] inb_S8x256x64_S1x256x64_6_0_0))
      (View.ld b (Rect.unit ![7, 0, 0] ![1, 256, 64] inb_S8x256x64_S1x256x64_7_0_0)) w (ix2 r l) = dub R (T r) v z l := by
  rw [parts]
  unfold dub
  refine dite_congr rfl (fun _ => hq _ _) fun _ => dite_congr rfl (fun _ => hk _ _) fun _ => dite_congr rfl (fun _ => ?_) fun _ => hw _ _
  exact (slabs r _ b).trans (hv _ _ _)

end Cert.PreBIdeal.Val
-- ==== Proof.PreRef.lean ====
module

public import proofs.«01_k».proof.Proof.PreSpec
public import proofs.«01_k».proof.Proof.Gen.PreBRefIdeal.Read
public import Idealize.ShloMosaic.Lib.Pointwise

/-! The reference's gradients of the queries' and the keys' norm at real arguments. -/

@[expose] public section

set_option maxRecDepth 16384

noncomputable section

namespace Cert.PreBRefIdeal.Val

open Idealize.ShloMosaic Idealize.ShloMosaic.Pointwise Cert.PreBRefIdeal Cert.PreBRefIdeal.Gen Cert.Head Cert.Heads

/-- The arguments' numbers. -/
structure Args (x0 : FVec Ideal S2048x2048 .f32) (x2 x3 : FVec Ideal S1x64 .f32) (x5 x6 : FVec Ideal S8x2048x64 .f32) (R : Data) : Prop where
  h0 : ∀ t l, x0 (ix2 t l) = ((R.u t l : ℝ) : EReal)
  h2 : ∀ n, x2 (ix2 0 n) = ((R.g n : ℝ) : EReal)
  h3 : ∀ n, x3 (ix2 0 n) = ((R.k n : ℝ) : EReal)
  h5 : ∀ h t n, x5 (ix3 h t n) = ((R.a h t n : ℝ) : EReal)
  h6 : ∀ h t n, x6 (ix3 h t n) = ((R.b h t n : ℝ) : EReal)

variable {x0 : FVec Ideal S2048x2048 .f32} {x2 x3 : FVec Ideal S1x64 .f32} {x5 x6 : FVec Ideal S8x2048x64 .f32} {R : Data}
  (H : Args x0 x2 x3 x5 x6 R)

include H

theorem q_at (t : Fin 2048) (h : Fin 8) (n : Fin 64) : Read.val_main_v4 (F := Ideal) x0 (ix3 t h n) = ((R.q t h n : ℝ) : EReal) := by
  pointwise [Read.val_main_v4, Read.val_main_v0, H.h0]
  rfl

theorem qms_at (t : Fin 2048) (h : Fin 8) : Read.val_main_v11 (F := Ideal) x0 (ix3 t h 0) = ((ms (R.q t h) : ℝ) : EReal) := by
  pointwise [Read.val_main_v11, Read.val_main_v10, Read.val_main_cst_1, Read.val_main_v9, Read.val_main_v8, Read.val_main_cst_0, Read.val_main_v7, Read.val_main_v6, Read.val_main_cst, Read.val_main_v5]
  simp only [q_at H, ← EReal.coe_mul, coe_sum, word_64, word_eps]
  rw [coe_div' (by norm_num), ← EReal.coe_add]; rfl

theorem qrs_at (t : Fin 2048) (h : Fin 8) : Read.val_main_v12 (F := Ideal) x0 (ix3 t h 0) = ((rs (R.q t h) : ℝ) : EReal) := by
  pointwise [Read.val_main_v12]
  rw [qms_at H, rsqrt_pos (mean_pos _)]; rfl

theorem qslope_at (t : Fin 2048) (h : Fin 8) : Read.val_main_v15 (F := Ideal) x0 (ix3 t h 0) = ((slope (R.q t h) : ℝ) : EReal) := by
  pointwise [Read.val_main_v15, Read.val_main_v14, Read.val_main_cst_2, Read.val_main_v13]
  rw [qms_at H, qrs_at H, coe_div' (mean_pos _).ne', word_neg_half, ← EReal.coe_mul]; rfl

theorem qy_at (t : Fin 2048) (h : Fin 8) (n : Fin 64) : Read.val_main_v72 (F := Ideal) x2 x5 (ix3 t h n) = ((R.a h t n * R.g n : ℝ) : EReal) := by
  pointwise [Read.val_main_v72, Read.val_main_v71, Read.val_main_v67, Read.val_main_v18, H.h5, H.h2]
  rw [← EReal.coe_mul]

theorem qdms_at (t : Fin 2048) (h : Fin 8) : Read.val_main_v83 (F := Ideal) x0 x2 x5 (ix2 t h) = ((dms (R.q t h) (fun n => R.a h t n * R.g n) : ℝ) : EReal) := by
  pointwise [Read.val_main_v83, Read.val_main_cst_16, Read.val_main_v82, Read.val_main_v81, Read.val_main_cst_15, Read.val_main_v80, Read.val_main_v77, Read.val_main_v76, Read.val_main_cst_14, Read.val_main_v75]
  simp only [Fin.sum_univ_one, q_at H, qy_at H, qslope_at H, ← EReal.coe_mul, coe_sum, word_64]
  rw [coe_div' (by norm_num)]; rfl

theorem dq_at (t : Fin 2048) (h : Fin 8) (n : Fin 64) : Read.val_main_v88 (F := Ideal) x0 x2 x5 (ix3 t h n) = ((R.dq t h n : ℝ) : EReal) := by
  pointwise [Read.val_main_v88, Read.val_main_v87, Read.val_main_v86, Read.val_main_v85, Read.val_main_v84, Read.val_main_v79, Read.val_main_v78]
  simp only [q_at H, qy_at H, qrs_at H, qdms_at H, ← EReal.coe_mul, ← EReal.coe_add]; rfl

theorem k_at (t : Fin 2048) (h : Fin 8) (n : Fin 64) : Read.val_main_v22 (F := Ideal) x0 (ix3 t h n) = ((R.key t h n : ℝ) : EReal) := by
  pointwise [Read.val_main_v22, Read.val_main_v1, H.h0]
  rfl

theorem kms_at (t : Fin 2048) (h : Fin 8) : Read.val_main_v29 (F := Ideal) x0 (ix3 t h 0) = ((ms (R.key t h) : ℝ) : EReal) := by
  pointwise [Read.val_main_v29, Read.val_main_v28, Read.val_main_cst_5, Read.val_main_v27, Read.val_main_v26, Read.val_main_cst_4, Read.val_main_v25, Read.val_main_v24, Read.val_main_cst_3, Read.val_main_v23]
  simp only [k_at H, ← EReal.coe_mul, coe_sum, word_64, word_eps]
  rw [coe_div' (by norm_num), ← EReal.coe_add]; rfl

theorem krs_at (t : Fin 2048) (h : Fin 8) : Read.val_main_v30 (F := Ideal) x0 (ix3 t h 0) = ((rs (R.key t h) : ℝ) : EReal) := by
  pointwise [Read.val_main_v30]
  rw [kms_at H, rsqrt_pos (mean_pos _)]; rfl

theorem kslope_at (t : Fin 2048) (h : Fin 8) : Read.val_main_v33 (F := Ideal) x0 (ix3 t h 0) = ((slope (R.key t h) : ℝ) : EReal) := by
  pointwise [Read.val_main_v33, Read.val_main_v32, Read.val_main_cst_6, Read.val_main_v31]
  rw [kms_at H, krs_at H, coe_div' (mean_pos _).ne', word_neg_half, ← EReal.coe_mul]; rfl

theorem ky_at (t : Fin 2048) (h : Fin 8) (n : Fin 64) : Read.val_main_v49 (F := Ideal) x3 x6 (ix3 t h n) = ((R.b h t n * R.k n : ℝ) : EReal) := by
  pointwise [Read.val_main_v49, Read.val_main_v48, Read.val_main_v44, Read.val_main_v36, H.h6, H.h3]
  rw [← EReal.coe_mul]

theorem kdms_at (t : Fin 2048) (h : Fin 8) : Read.val_main_v60 (F := Ideal) x0 x3 x6 (ix2 t h) = ((dms (R.key t h) (fun n => R.b h t n * R.k n) : ℝ) : EReal) := by
  pointwise [Read.val_main_v60, Read.val_main_cst_11, Read.val_main_v59, Read.val_main_v58, Read.val_main_cst_10, Read.val_main_v57, Read.val_main_v54, Read.val_main_v53, Read.val_main_cst_9, Read.val_main_v52]
  simp only [Fin.sum_univ_one, k_at H, ky_at H, kslope_at H, ← EReal.coe_mul, coe_sum, word_64]
  rw [coe_div' (by norm_num)]; rfl

theorem dk_at (t : Fin 2048) (h : Fin 8) (n : Fin 64) : Read.val_main_v65 (F := Ideal) x0 x3 x6 (ix3 t h n) = ((R.dk t h n : ℝ) : EReal) := by
  pointwise [Read.val_main_v65, Read.val_main_v64, Read.val_main_v63, Read.val_main_v62, Read.val_main_v61, Read.val_main_v56, Read.val_main_v55]
  simp only [k_at H, ky_at H, krs_at H, kdms_at H, ← EReal.coe_mul, ← EReal.coe_add]; rfl

/-- The gradient at the projection. -/
theorem dub_at (x7 : FVec Ideal S8x2048x64 .f32) (x8 : FVec Ideal S2048x512 .f32) (t l : Fin 2048) :
    Read.val_main_v91 (F := Ideal) x0 x2 x3 x5 x6 x7 x8 (ix2 t l)
      = dub R t (fun h t n => x7 (ix3 h t n)) (fun t j => x8 (ix2 t j)) l := by
  pointwise [Read.val_main_v91, Read.val_main_v90, Read.val_main_v89, Read.val_main_v66, Read.val_main_v43, Read.val_main_v42, dq_at H, dk_at H]
  rfl

theorem xq_at (t : Fin 2048) (h : Fin 8) (n : Fin 64) : Read.val_main_v68 (F := Ideal) x0 x5 (ix3 t h n) = ((R.gq t h n : ℝ) : EReal) := by
  pointwise [Read.val_main_v68, Read.val_main_v67, Read.val_main_v17, Read.val_main_v16]
  simp only [q_at H, qrs_at H, H.h5, ← EReal.coe_mul]; rfl

theorem xk_at (t : Fin 2048) (h : Fin 8) (n : Fin 64) : Read.val_main_v45 (F := Ideal) x0 x6 (ix3 t h n) = ((R.gk t h n : ℝ) : EReal) := by
  pointwise [Read.val_main_v45, Read.val_main_v44, Read.val_main_v35, Read.val_main_v34]
  simp only [k_at H, krs_at H, H.h6, ← EReal.coe_mul]; rfl

omit H in
/-- A sum over the first two axes of three. -/
theorem reduce_rows {n0 n1 n2 : ℕ} {t : Shape} (h : (⟨3, ![n0, n1, n2]⟩ : Shape).ReducesTo [0, 1] t)
    (x : (⟨3, ![n0, n1, n2]⟩ : Shape).Idx → EReal) (e : EReal) (j : t.Idx) (h1 : t.rank = 1) (h0 : 0 < t.rank) (h2 : t.size ⟨0, h0⟩ = n2) :
    Ideal.hostReduceAdd h x e j = e + ∑ p : Fin n0 × Fin n1, x (ix3 p.1 p.2 ⟨(j ⟨0, h0⟩).val, Shape.coordLt (j ⟨0, h0⟩) h2⟩) := by
  unfold Ideal.hostReduceAdd
  refine congrArg (e + ·) ?_
  refine Finset.sum_filter_eq_sum_of_fiber _ (fun p : Fin n0 × Fin n1 => ix3 p.1 p.2 ⟨(j ⟨0, h0⟩).val, Shape.coordLt (j ⟨0, h0⟩) h2⟩) ?_ ?_ x
  · intro p q e
    exact Prod.ext (congrFun e 0) (congrFun e 1)
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, h0⟩)).symm
    · rintro ⟨k, rfl⟩
      funext b
      apply Fin.ext
      match b with
      | ⟨0, _⟩ => rfl
      | ⟨_ + 1, hb⟩ => exact absurd hb (by omega)

/-- The gradient of the queries' gain. -/
theorem gq_at (n : Fin 64) : Read.val_main_v74 (F := Ideal) x0 x5 (ix2 0 n) = ((∑ t, ∑ h, R.gq t h n : ℝ) : EReal) := by
  pointwise [Read.val_main_v74, Read.val_main_v73, Read.val_main_cst_13, Read.val_main_v70, Read.val_main_v69, Read.val_main_cst_12]
  refine (reduce_rows (n0 := 1) (n1 := 1) (n2 := 64) _ _ _ _ rfl (by decide) rfl).trans ?_
  simp only [Fintype.sum_prod_type, Fin.sum_univ_one, zero_add]
  pointwise []
  refine (reduce_rows (n0 := 2048) (n1 := 8) (n2 := 64) _ _ _ _ rfl (by decide) rfl).trans ?_
  refine (congrArg (_ + ·) (Finset.sum_congr rfl fun p _ => xq_at H p.1 p.2 n)).trans ?_
  rw [zero_add, coe_sum, Fintype.sum_prod_type]

/-- The gradient of the keys' gain. -/
theorem gk_at (n : Fin 64) : Read.val_main_v51 (F := Ideal) x0 x6 (ix2 0 n) = ((∑ t, ∑ h, R.gk t h n : ℝ) : EReal) := by
  pointwise [Read.val_main_v51, Read.val_main_v50, Read.val_main_cst_8, Read.val_main_v47, Read.val_main_v46, Read.val_main_cst_7]
  refine (reduce_rows (n0 := 1) (n1 := 1) (n2 := 64) _ _ _ _ rfl (by decide) rfl).trans ?_
  simp only [Fintype.sum_prod_type, Fin.sum_univ_one, zero_add]
  pointwise []
  refine (reduce_rows (n0 := 2048) (n1 := 8) (n2 := 64) _ _ _ _ rfl (by decide) rfl).trans ?_
  refine (congrArg (_ + ·) (Finset.sum_congr rfl fun p _ => xk_at H p.1 p.2 n)).trans ?_
  rw [zero_add, coe_sum, Fintype.sum_prod_type]

end Cert.PreBRefIdeal.Val

end
-- ==== Proof.PreVal.lean ====
module

public import proofs.«01_k».proof.Proof.PrePay
public import proofs.«01_k».proof.Proof.PreRef
public import proofs.«01_k».proof.Proof.Gen.PreBIdeal.Frame
public import proofs.«01_k».proof.Proof.Gen.PreBIdeal.Value
public import Idealize.ShloMosaic.Lib.Pipeline.ValueKit
public import Idealize.ShloMosaic.Lib.Pointwise

/-! The arrays after the eight grid points, which run from the last tile of tokens to the first: the gradient at the projection is
written tile by tile, and the gains' gradients gather one sum per point. -/

@[expose] public section

set_option maxRecDepth 16384

noncomputable section

namespace Cert.PreBIdeal.Val

open Idealize.ShloMosaic Idealize.ShloMosaic.TcCoe Idealize.SL.Sem Idealize.ShloMosaic.Pointwise
open Idealize.ShloMosaic.Pipeline (Dat)
open Cert.PreBIdeal Cert.PreBIdeal.Gen Cert.Head Cert.Heads

/-- Which block each window shows at point `t`. -/
theorem idx : ∀ t : Fin cfg0.N, win0_0.index t = ![7 - t.val, 0] ∧ win0_2.index t = ![0, 0] ∧ win0_3.index t = ![0, 0]
    ∧ win0_5.index t = ![0, 7 - t.val, 0] ∧ win0_6.index t = ![0, 7 - t.val, 0] ∧ win0_7.index t = ![0, 7 - t.val, 0]
    ∧ win0_8.index t = ![7 - t.val, 0] ∧ win0_11.index t = ![7 - t.val, 0] ∧ win0_13.index t = ![0, 0] ∧ win0_14.index t = ![0, 0] :=
  (by decide +kernel : ∀ t : Fin grid0.N, _)

/-- Row `r` of the tile of point `t`, among the 2048 tokens. -/
def tok (t : Fin cfg0.N) (r : Fin 256) : Fin 2048 :=
  ⟨(7 - t.val) * 256 + r.val, by omega⟩

/-- A sum over the tokens gathered tile by tile. -/
theorem sum_tok (f : Fin 2048 → ℝ) : ∑ p : Fin cfg0.N, ((∑ r, f (tok p r) : ℝ) : EReal) = ((∑ r, f r : ℝ) : EReal) := by
  rw [coe_sum]
  congr 1
  rw [← (finCongr N_0).symm.sum_comp, ← Equiv.sum_comp Fin.revPerm, ← (finProdFinEquiv (m := 8) (n := 256)).sum_comp f, Fintype.sum_prod_type]
  refine Finset.sum_congr rfl fun p _ => Finset.sum_congr rfl fun r _ => congrArg f (Fin.ext ?_)
  show (7 - (8 - (p.val + 1))) * 256 + r.val = r.val + 256 * p.val
  omega

/-- The arguments of the call are real. -/
abbrev In (m : (ℓ : Loc nD τ sig) → Buf (Elt Ideal) ℓ) (c : Dev nD) (R : Data) : Prop :=
  PreBRefIdeal.Val.Args (m ((c : Thread nD τ).loc main_arg0)) (m ((c : Thread nD τ).loc main_arg2)) (m ((c : Thread nD τ).loc main_arg3))
    (m ((c : Thread nD τ).loc main_arg5)) (m ((c : Thread nD τ).loc main_arg6)) R

variable {m : (ℓ : Loc nD τ sig) → Buf (Elt Ideal) ℓ} {c : Dev nD} {R : Data} (A : In m c R) (t : Fin cfg0.N)

theorem v_at (r : Fin 256) (h : Fin 8) (n : Fin 64) : iblk m c 7 t (ix3 h r n) = m ((c : Thread nD τ).loc main_arg7) (ix3 h (tok t r) n) := by
  blk_point [iblk, V, idx t, tok]

theorem gate_at (r : Fin 256) (j : Fin 512) : iblk m c 8 t (ix2 r j) = m ((c : Thread nD τ).loc main_arg8) (ix2 (tok t r) j) := by
  blk_point [iblk, V, idx t, tok]

/-- The gains, one copy for each head. -/
theorem saved_g (k : Fin 512) : V m c main_v2 (ix2 0 k) = m ((c : Thread nD τ).loc main_arg2) (ix2 0 (col k)) := by
  entry_read
  pointwise [col]

theorem saved_k (k : Fin 512) : V m c main_v5 (ix2 0 k) = m ((c : Thread nD τ).loc main_arg3) (ix2 0 (col k)) := by
  entry_read
  pointwise [col]

include A

theorem g_at (k : Fin 512) : (iblk m c 2 t : FVec Ideal S1x512 .f32) (ix2 0 k) = ((R.g (col k) : ℝ) : EReal) := by
  rw [← A.h2, ← saved_g (m := m) (c := c)]
  blk_point [iblk, idx t]

theorem kg_at (k : Fin 512) : (iblk m c 3 t : FVec Ideal S1x512 .f32) (ix2 0 k) = ((R.k (col k) : ℝ) : EReal) := by
  rw [← A.h3, ← saved_k (m := m) (c := c)]
  blk_point [iblk, idx t]

/-- The tile's queries, and its keys. -/
theorem x_is : Is (View.ld (iblk m c 0 t) (Rect.unit ![0, 0] ![256, 512] inb_S256x2048_S256x512_0_0)) fun r h => R.q (tok t r) h := fun r k => by
  pointwise []
  refine (show _ = m ((c : Thread nD τ).loc main_arg0) (ix2 (tok t r) ⟨k.val, by omega⟩) from ?_).trans ((A.h0 _ _).trans ?_)
  · blk_point [iblk, V, idx t, tok]
  · unfold Data.q hd col
    exact congrArg (fun l => ((R.u (tok t r) l : ℝ) : EReal)) (Fin.ext (by simp only []; omega))

theorem z_is : Is (View.ld (iblk m c 0 t) (Rect.unit ![0, 512] ![256, 512] inb_S256x2048_S256x512_0_512)) fun r h => R.key (tok t r) h := fun r k => by
  pointwise []
  refine (show _ = m ((c : Thread nD τ).loc main_arg0) (ix2 (tok t r) ⟨512 + k.val, by omega⟩) from ?_).trans ((A.h0 _ _).trans ?_)
  · blk_point [iblk, V, idx t, tok]
  · unfold Data.key hd col
    exact congrArg (fun l => ((R.u (tok t r) l : ℝ) : EReal)) (Fin.ext (by simp only []; omega))

/-- The tile's gradients at the normed queries and keys, the heads laid side by side. -/
theorem c_is : Is (k0_pay40 (F := Ideal) (View.ld (iblk m c 5 t) (Rect.unit ![0, 0, 0] ![1, 256, 64] inb_S8x256x64_S1x256x64_0_0_0))
      (View.ld (iblk m c 5 t) (Rect.unit ![1, 0, 0] ![1, 256, 64] inb_S8x256x64_S1x256x64_1_0_0))
      (View.ld (iblk m c 5 t) (Rect.unit ![2, 0, 0] ![1, 256, 64] inb_S8x256x64_S1x256x64_2_0_0))
      (View.ld (iblk m c 5 t) (Rect.unit ![3, 0, 0] ![1, 256, 64] inb_S8x256x64_S1x256x64_3_0_0))
      (View.ld (iblk m c 5 t) (Rect.unit ![4, 0, 0] ![1, 256, 64] inb_S8x256x64_S1x256x64_4_0_0))
      (View.ld (iblk m c 5 t) (Rect.unit ![5, 0, 0] ![1, 256, 64] inb_S8x256x64_S1x256x64_5_0_0))
      (View.ld (iblk m c 5 t) (Rect.unit ![6, 0, 0] ![1, 256, 64] inb_S8x256x64_S1x256x64_6_0_0))
      (View.ld (iblk m c 5 t) (Rect.unit ![7, 0, 0] ![1, 256, 64] inb_S8x256x64_S1x256x64_7_0_0))) fun r h n => R.a h (tok t r) n := fun r k => by
  refine (slabs r k (iblk m c 5 t)).trans ?_
  refine (show _ = m ((c : Thread nD τ).loc main_arg5) (ix3 (hd k) (tok t r) (col k)) from ?_).trans (A.h5 _ _ _)
  blk_point [iblk, V, idx t, tok, hd, col]

theorem d_is : Is (k0_pay41 (F := Ideal) (View.ld (iblk m c 6 t) (Rect.unit ![0, 0, 0] ![1, 256, 64] inb_S8x256x64_S1x256x64_0_0_0))
      (View.ld (iblk m c 6 t) (Rect.unit ![1, 0, 0] ![1, 256, 64] inb_S8x256x64_S1x256x64_1_0_0))
      (View.ld (iblk m c 6 t) (Rect.unit ![2, 0, 0] ![1, 256, 64] inb_S8x256x64_S1x256x64_2_0_0))
      (View.ld (iblk m c 6 t) (Rect.unit ![3, 0, 0] ![1, 256, 64] inb_S8x256x64_S1x256x64_3_0_0))
      (View.ld (iblk m c 6 t) (Rect.unit ![4, 0, 0] ![1, 256, 64] inb_S8x256x64_S1x256x64_4_0_0))
      (View.ld (iblk m c 6 t) (Rect.unit ![5, 0, 0] ![1, 256, 64] inb_S8x256x64_S1x256x64_5_0_0))
      (View.ld (iblk m c 6 t) (Rect.unit ![6, 0, 0] ![1, 256, 64] inb_S8x256x64_S1x256x64_6_0_0))
      (View.ld (iblk m c 6 t) (Rect.unit ![7, 0, 0] ![1, 256, 64] inb_S8x256x64_S1x256x64_7_0_0))) fun r h n => R.b h (tok t r) n := fun r k => by
  refine (slabs r k (iblk m c 6 t)).trans ?_
  refine (show _ = m ((c : Thread nD τ).loc main_arg6) (ix3 (hd k) (tok t r) (col k)) from ?_).trans (A.h6 _ _ _)
  blk_point [iblk, V, idx t, tok, hd, col]

/-- The gradient at the projection: point `t`'s tile. -/
theorem at11 (r : Fin 256) (l : Fin 2048) : (outsAt0 m c t.val t.isLt).1 (ix2 r l)
    = dub R (tok t r) (fun h i n => m ((c : Thread nD τ).loc main_arg7) (ix3 h i n)) (fun i j => m ((c : Thread nD τ).loc main_arg8) (ix2 i j)) l := by
  have hq := q_mean (x_is A t)
  have hk := k_mean (z_is A t)
  by_cases h : t.val % 8 = 0
  · rw [outsAt0_A m c t h]; frame_out
    exact dub_row (dq_at (x_is A t) (g_at A t) (c_is A t) (q_rs hq) (q_slope hq)) (dk_at (z_is A t) (kg_at A t) (d_is A t) (k_rs hk) (k_slope hk))
      (v_at t) (gate_at t) r l
  · rw [outsAt0_B m c t h]; frame_out
    exact dub_row (dq_at (x_is A t) (g_at A t) (c_is A t) (q_rs hq) (q_slope hq)) (dk_at (z_is A t) (kg_at A t) (d_is A t) (k_rs hk) (k_slope hk))
      (v_at t) (gate_at t) r l

/-- … and the whole array. -/
theorem out11 : (dats m 0 c).arrAt 11 (cfgs 0).N = (fun i => dub R (i 0) (fun h i n => m ((c : Thread nD τ).loc main_arg7) (ix3 h i n))
    (fun i j => m ((c : Thread nD τ).loc main_arg8) (ix2 i j)) (i 1)) := by
  refine (dats m 0 c).arrAt_eq_of_covers 11 _ (by decide +kernel) fun t hf y => ?_
  blk_simp
  rw [after0_11]
  refine (congrArg _ (eq_ix2 y)).trans ((at11 A t _ _).trans ?_)
  rw [show tok t (y 0) = (win0_11.blk t).view.emb y 0 from Fin.ext (by blk_simp [idx t, tok]),
    show y 1 = (win0_11.blk t).view.emb y 1 from Fin.ext (by blk_simp [idx t])]

omit A in
theorem eq_row (j : S1x64.Idx) : j = ix2 0 (j 1) :=
  (eq_ix2 j).trans (congrArg (fun q : Fin 1 => (ix2 q (j 1) : S1x64.Idx)) (Subsingleton.elim _ _))

/-- The gradient of the queries' gain. -/
theorem out13 : (dats m 0 c).arrAt 13 (cfgs 0).N = (fun j => ((∑ r, ∑ h, R.gq r h (j 1) : ℝ) : EReal)) := by
  refine (dats m 0 c).arrAt_eq_of_after_last 13 t0_7 (by decide +kernel) _ fun j => ?_
  blk_simp
  rw [after0_13]
  rw [Pipeline.eq_sum_fin_of_reset_step_apply_last (fun n h => (outsAt0 m c n h).2.2.1) 8 (fun _ => 0)
    (fun t j => ((∑ r, ∑ h, R.gq (tok t r) h (j 1) : ℝ) : EReal))
    (fun t h j => by
      rw [outsAt0_A m c t h]; frame_out; rw [eq_row j]
      exact (gain_at (q_norm (q_mean (x_is A t)) (x_is A t)) (c_is A t) _ _).trans (by pointwise [k0_pay4] <;> rfl))
    (fun t h j => by
      rw [outsAt0_B m c t h]; frame_out; rw [eq_row j]
      exact (gain_at (q_norm (q_mean (x_is A t)) (x_is A t)) (c_is A t) _ _).trans rfl)
    (le_of_eq N_0) t0_7 rfl j, zero_add]
  exact sum_tok (fun r => ∑ h, R.gq r h (j 1))

/-- The gradient of the keys' gain. -/
theorem out14 : (dats m 0 c).arrAt 14 (cfgs 0).N = (fun j => ((∑ r, ∑ h, R.gk r h (j 1) : ℝ) : EReal)) := by
  refine (dats m 0 c).arrAt_eq_of_after_last 14 t0_7 (by decide +kernel) _ fun j => ?_
  blk_simp
  rw [after0_14]
  rw [Pipeline.eq_sum_fin_of_reset_step_apply_last (fun n h => (outsAt0 m c n h).2.2.2.1) 8 (fun _ => 0)
    (fun t j => ((∑ r, ∑ h, R.gk (tok t r) h (j 1) : ℝ) : EReal))
    (fun t h j => by
      rw [outsAt0_A m c t h]; frame_out; rw [eq_row j, gain_eq]
      exact (gain_at (k_norm (k_mean (z_is A t)) (z_is A t)) (d_is A t) _ _).trans (by pointwise [k0_pay5] <;> rfl))
    (fun t h j => by
      rw [outsAt0_B m c t h]; frame_out; rw [eq_row j, gain_eq]
      exact (gain_at (k_norm (k_mean (z_is A t)) (z_is A t)) (d_is A t) _ _).trans rfl)
    (le_of_eq N_0) t0_7 rfl j, zero_add]
  exact sum_tok (fun r => ∑ h, R.gk r h (j 1))

end Cert.PreBIdeal.Val

end
-- ==== Proof.PreMain.lean ====
module

public import proofs.«01_k».proof.Defs
public import proofs.«01_k».proof.Proof.Finite
public import proofs.«01_k».proof.Proof.PreVal
public import proofs.«01_k».proof.Proof.PreRef
public import proofs.«01_k».proof.Proof.Gen.Pre_pre_finite
public import proofs.«01_k».proof.Proof.Gen.PreBRefIdeal
public import proofs.«01_k».proof.Proof.Gen.PreBRefIdeal.Run
public import proofs.«01_k».proof.Proof.Gen.PreBRefIdeal.Read
public import Idealize.ShloMosaic.Lib.Claim

/-! The gradient through the attention's norms: the kernel and its reference have equal results, those of `PreSpec`. -/

@[expose] public section

set_option maxRecDepth 16384

noncomputable section

namespace Cert.Proof.PreMain

open Idealize.ShloMosaic Idealize.ShloMosaic.TcCoe Idealize.SL.Sem
open Cert.Heads

section Args
variable (m : (ℓ : Loc Cert.PreBIdeal.nD Cert.PreBIdeal.τ Cert.PreBIdeal.sig) → Buf (Elt Ideal) ℓ) (c : Dev Cert.PreBIdeal.nD)

/-- The projection, the two gains and the gradients at the queries and keys, read off the arguments. -/
def data : Data where
  u t l := (show EReal from m ((c.tc : Thread Cert.PreBIdeal.nD Cert.PreBIdeal.τ).loc Cert.PreBIdeal.main_arg0) (ix2 t l)).toReal
  g n := (show EReal from m ((c.tc : Thread Cert.PreBIdeal.nD Cert.PreBIdeal.τ).loc Cert.PreBIdeal.main_arg2) (ix2 0 n)).toReal
  k n := (show EReal from m ((c.tc : Thread Cert.PreBIdeal.nD Cert.PreBIdeal.τ).loc Cert.PreBIdeal.main_arg3) (ix2 0 n)).toReal
  a h t n := (show EReal from m ((c.tc : Thread Cert.PreBIdeal.nD Cert.PreBIdeal.τ).loc Cert.PreBIdeal.main_arg5) (ix3 h t n)).toReal
  b h t n := (show EReal from m ((c.tc : Thread Cert.PreBIdeal.nD Cert.PreBIdeal.τ).loc Cert.PreBIdeal.main_arg6) (ix3 h t n)).toReal

/-- Finite arguments are those numbers. -/
theorem args (h : Cert.Pre_PreBIdeal_pre_finite m) : Cert.PreBIdeal.Val.In m c (data m c) := by
  obtain ⟨h0, h1, h2, h3, h4⟩ := h c
  constructor
  · exact fun _ _ => Cert.Finite.all (fun _ => rfl) h0 _
  · exact fun _ => Cert.Finite.all (fun _ => rfl) h1 _
  · exact fun _ => Cert.Finite.all (fun _ => rfl) h2 _
  · exact fun _ _ _ => Cert.Finite.all (fun _ => rfl) h3 _
  · exact fun _ _ _ => Cert.Finite.all (fun _ => rfl) h4 _

end Args

/-- The claim about values: the kernel's three results and the reference's are the same arrays. -/
theorem algebraic : Cert.algebraic_PreBIdeal_PreBRefIdeal_pre_pre_finite := by
  intro m g m' g' hpre hagree
  refine ⟨fun c => (Cert.PreBIdeal.Gen.dats m 0 c).arrAt 11 Cert.PreBIdeal.cfg0.N,
    fun c => (Cert.PreBIdeal.Gen.dats m 0 c).arrAt 13 Cert.PreBIdeal.cfg0.N,
    fun c => (Cert.PreBIdeal.Gen.dats m 0 c).arrAt 14 Cert.PreBIdeal.cfg0.N, ?_, ?_⟩
  · refine (θ_run Cert.PreBIdeal.defs _ _).mono (fun r h c => ?_) (Cert.PreBIdeal.Value.run_blocks m g)
    obtain ⟨r0, _, r2, r3, _, hargs⟩ := h c
    exact ⟨r0, r2, r3, hargs⟩
  · refine (θ_run Cert.PreBRefIdeal.defs _ _).mono (fun r h c => ?_) (Cert.PreBRefIdeal.Value.run m' g')
    obtain ⟨r91, r74, r51, hargs⟩ := h c
    obtain ⟨e0, e1, e2, e3, e4, e5, e6, e7, e8, e9, e10⟩ := hagree c
    have A := args m c hpre
    refine ⟨r91.trans ?_, r74.trans ?_, r51.trans ?_, hargs⟩
    · rw [Cert.PreBRefIdeal.Read.val_main_v91_eq, e0, e2, e3, e5, e6, e7, e8]
      refine Eq.trans (funext fun i => ?_) (Cert.PreBIdeal.Val.out11 A).symm
      exact (congrArg _ (eq_ix2 i)).trans (Cert.PreBRefIdeal.Val.dub_at A _ _ _ _)
    · rw [Cert.PreBRefIdeal.Read.val_main_v74_eq, e0, e5]
      refine Eq.trans (funext fun i => ?_) (Cert.PreBIdeal.Val.out13 A).symm
      exact (congrArg _ (Cert.PreBIdeal.Val.eq_row i)).trans (Cert.PreBRefIdeal.Val.gq_at A _)
    · rw [Cert.PreBRefIdeal.Read.val_main_v51_eq, e0, e6]
      refine Eq.trans (funext fun i => ?_) (Cert.PreBIdeal.Val.out14 A).symm
      exact (congrArg _ (Cert.PreBIdeal.Val.eq_row i)).trans (Cert.PreBRefIdeal.Val.gk_at A _)

end Cert.Proof.PreMain

end
-- ==== Proof.lean ====
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Pre_tail_finite
public import proofs.«01_k».proof.Proof.Gen.TailIdeal.Value
public import proofs.«01_k».proof.Proof.Gen.TailRefIdeal.Run
public import proofs.«01_k».proof.Proof.Gen.TailRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Early
public import proofs.«01_k».proof.Proof.Gen.Early.Skeleton
public import proofs.«01_k».proof.Proof.Gen.Early.Launch
public import proofs.«01_k».proof.Proof.Gen.Early.Points
public import proofs.«01_k».proof.Proof.Gen.Early.Frame
public import proofs.«01_k».proof.Proof.Gen.EarlyIdeal
public import proofs.«01_k».proof.Proof.Gen.EarlyIdeal.Skeleton
public import proofs.«01_k».proof.Proof.Gen.EarlyIdeal.Launch
public import proofs.«01_k».proof.Proof.Gen.EarlyIdeal.Points
public import proofs.«01_k».proof.Proof.Gen.EarlyIdeal.Frame
public import proofs.«01_k».proof.Proof.Gen.EarlyRefIdeal
public import proofs.«01_k».proof.Proof.Gen.EarlyIdeal.Value
public import proofs.«01_k».proof.Proof.Gen.EarlyRefIdeal.Run
public import proofs.«01_k».proof.Proof.Gen.EarlyRefIdeal.Read
public import proofs.«01_k».proof.Proof.Gen.Late
public import proofs.«01_k».proof.Proof.Gen.Late.Skeleton
public import proofs.«01_k».proof.Proof.Gen.Late.Launch
public import proofs.«01_k».proof.Proof.Gen.Late.Points
public import proofs.«01_k».proof.Proof.Gen.Late.Frame
public import proofs.«01_k».proof.Proof.Gen.LateIdeal
public import proofs.«01_k».proof.Proof.Gen.LateIdeal.Skeleton
public import proofs.«01_k».proof.Proof.Gen.LateIdeal.Launch
public import proofs.«01_k».proof.Proof.Gen.LateIdeal.Points
public import proofs.«01_k».proof.Proof.Gen.LateIdeal.Frame
public import proofs.«01_k».proof.Proof.Gen.LateRefIdeal
public import proofs.«01_k».proof.Proof.Gen.LateIdeal.Value
public import proofs.«01_k».proof.Proof.Gen.LateRefIdeal.Run
public import proofs.«01_k».proof.Proof.Gen.LateRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_attn_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.PreB
public import proofs.«01_k».proof.Proof.Gen.PreB.Skeleton
public import proofs.«01_k».proof.Proof.Gen.PreB.Launch
public import proofs.«01_k».proof.Proof.Gen.PreB.Points
public import proofs.«01_k».proof.Proof.Gen.PreB.Frame
public import proofs.«01_k».proof.Proof.Gen.PreBIdeal
public import proofs.«01_k».proof.Proof.Gen.PreBIdeal.Skeleton
public import proofs.«01_k».proof.Proof.Gen.PreBIdeal.Launch
public import proofs.«01_k».proof.Proof.Gen.PreBIdeal.Points
public import proofs.«01_k».proof.Proof.Gen.PreBIdeal.Frame
public import proofs.«01_k».proof.Proof.Gen.PreBRefIdeal
public import proofs.«01_k».proof.Proof.Gen.Pre_pre_finite
public import proofs.«01_k».proof.Proof.Gen.PreBIdeal.Value
public import proofs.«01_k».proof.Proof.Gen.PreBRefIdeal.Run
public import proofs.«01_k».proof.Proof.Gen.PreBRefIdeal.Read
public import proofs.«01_k».proof.Proof.TailMain
public import proofs.«01_k».proof.Proof.ProjVal
public import proofs.«01_k».proof.Proof.EarlyVal
public import proofs.«01_k».proof.Proof.LateVal
public import proofs.«01_k».proof.Proof.AttnMain
public import proofs.«01_k».proof.Proof.PreMain
public import Idealize.ShloMosaic.Lib.Quiescent
public import Idealize.ShloMosaic.Adequacy
public import Idealize.ShloMosaic.Init

@[expose] public section

noncomputable section

namespace Cert.Proof

open Idealize.ShloMosaic Idealize.SL.Sem Cert.Tail

/-- The reference leaves its arguments as they were, and has no semaphore. -/
theorem tailRef : Cert.quiescent_TailRefIdeal := fun m g _ =>
  (θ_run Cert.TailRefIdeal.defs _ _).mono
    (fun r h => And.intro (fun c => (h c).2.2.2.2.2.2.2.2.2.2) (sem_eq_zero_of_no_sems rfl r.2))
    (Cert.TailRefIdeal.Value.run m g)

theorem projRef : Cert.quiescent_ProjRefIdeal := fun m g _ =>
  (θ_run Cert.ProjRefIdeal.defs _ _).mono
    (fun r h => And.intro (fun c => (h c).2.2.2.2.2) (sem_eq_zero_of_no_sems rfl r.2))
    (Cert.ProjRefIdeal.Value.run m g)

theorem earlyRef : Cert.quiescent_EarlyRefIdeal := fun m g _ =>
  (θ_run Cert.EarlyRefIdeal.defs _ _).mono
    (fun r h => And.intro (fun c => (h c).2.2) (sem_eq_zero_of_no_sems rfl r.2))
    (Cert.EarlyRefIdeal.Value.run m g)

theorem lateRef : Cert.quiescent_LateRefIdeal := fun m g _ =>
  (θ_run Cert.LateRefIdeal.defs _ _).mono
    (fun r h => And.intro (fun c => (h c).2) (sem_eq_zero_of_no_sems rfl r.2))
    (Cert.LateRefIdeal.Value.run m g)

theorem attnRef : Cert.quiescent_AttnRefIdeal := fun m g _ =>
  (θ_run Cert.AttnRefIdeal.defs _ _).mono
    (fun r h => And.intro (fun c => (h c).2.2) (sem_eq_zero_of_no_sems rfl r.2))
    (Cert.AttnRefIdeal.Value.run m g)

theorem preRef : Cert.quiescent_PreBRefIdeal := fun m g _ =>
  (θ_run Cert.PreBRefIdeal.defs _ _).mono
    (fun r h => And.intro (fun c => (h c).2.2.2) (sem_eq_zero_of_no_sems rfl r.2))
    (Cert.PreBRefIdeal.Value.run m g)

theorem claim : Cert.Claim := ⟨Cert.Tail.Gen.facts, Cert.TailIdeal.Gen.facts, Cert.TailRefIdeal.Gen.facts, Cert.Proj.Gen.facts, Cert.ProjIdeal.Gen.facts, Cert.ProjRefIdeal.Gen.facts, Cert.Early.Gen.facts, Cert.EarlyIdeal.Gen.facts, Cert.EarlyRefIdeal.Gen.facts, Cert.Late.Gen.facts, Cert.LateIdeal.Gen.facts, Cert.LateRefIdeal.Gen.facts, Cert.Attn.Gen.facts, Cert.AttnIdeal.Gen.facts, Cert.AttnRefIdeal.Gen.facts, Cert.PreB.Gen.facts, Cert.PreBIdeal.Gen.facts, Cert.PreBRefIdeal.Gen.facts, Cert.Pre_tail_finite.Gen.facts, Cert.Pre_attn_finite.Gen.facts, Cert.Pre_pre_finite.Gen.facts,
  fun m g _ => Cert.Tail.Gen.frame m g,
  fun m g _ => Cert.TailIdeal.Gen.frame m g,
  fun m g _ => Cert.TailIdeal.Gen.frame m g,
  tailRef,
  fun m g _ => tailRef m g trivial,
  fun m g _ => Cert.Proj.Gen.frame m g,
  fun m g _ => Cert.ProjIdeal.Gen.frame m g,
  projRef,
  fun m g _ => Cert.Early.Gen.frame m g,
  fun m g _ => Cert.EarlyIdeal.Gen.frame m g,
  earlyRef,
  fun m g _ => Cert.Late.Gen.frame m g,
  fun m g _ => Cert.LateIdeal.Gen.frame m g,
  lateRef,
  fun m g _ => Cert.Attn.Gen.frame m g,
  fun m g _ => Cert.AttnIdeal.Gen.frame m g,
  fun m g _ => Cert.AttnIdeal.Gen.frame m g,
  attnRef,
  fun m g _ => attnRef m g trivial,
  fun m g _ => Cert.PreB.Gen.frame m g,
  fun m g _ => Cert.PreBIdeal.Gen.frame m g,
  fun m g _ => Cert.PreBIdeal.Gen.frame m g,
  preRef,
  fun m g _ => preRef m g trivial,
  trivial, TailMain.algebraic,
  trivial, ProjVal.algebraic,
  trivial, EarlyVal.algebraic,
  trivial, LateVal.algebraic,
  IdealRules.named_const.statement Cert.AttnIdeal.κ "mask" .f32 0xF149F2CA#32 ⊥ rfl, AttnMain.algebraic,
  trivial, PreMain.algebraic⟩

end Cert.Proof

end
